-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S32 : Shape := ⟨1, ![32]⟩
abbrev S_ : Shape := ⟨0, ![]⟩
abbrev S4096x2048 : Shape := ⟨2, ![4096, 2048]⟩
abbrev S4096x4096 : Shape := ⟨2, ![4096, 4096]⟩
abbrev S3 : Shape := ⟨1, ![3]⟩
abbrev S2048x128 : Shape := ⟨2, ![2048, 128]⟩
abbrev S512x128 : Shape := ⟨2, ![512, 128]⟩
abbrev S512x2048 : Shape := ⟨2, ![512, 2048]⟩
abbrev S512x512 : Shape := ⟨2, ![512, 512]⟩
abbrev S512x384 : Shape := ⟨2, ![512, 384]⟩
abbrev S384x2048 : Shape := ⟨2, ![384, 2048]⟩

abbrev nBuf : Space → Nat
  | .hbm => 29
  | .vmem => 5
  | .smem => 4
  | _ => 0

abbrev bufTy : (tb : Table) → Fin (tcTables nBuf tb) → BufTy
  | .hbm, ⟨0, _⟩ => ⟨S4096x128, .fp8e4m3⟩
  | .hbm, ⟨1, _⟩ => ⟨S128x2048, .fp8e5m2⟩
  | .hbm, ⟨2, _⟩ => ⟨S1, .f32⟩
  | .hbm, ⟨3, _⟩ => ⟨S1, .f32⟩
  | .hbm, ⟨4, _⟩ => ⟨S32, .i32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S4096x2048, .f32⟩
  | .local _ .vmem, ⟨0, _⟩ => ⟨S4096x128, .fp8e4m3⟩
  | .local _ .vmem, ⟨1, _⟩ => ⟨S128x2048, .fp8e5m2⟩
  | .local _ .vmem, ⟨2, _⟩ => ⟨S4096x2048, .f32⟩
  | .local _ .vmem, ⟨3, _⟩ => ⟨S4096x4096, .fp8e4m3⟩
  | .local _ .vmem, ⟨4, _⟩ => ⟨S4096x2048, .fp8e5m2⟩
  | .local _ .smem, ⟨0, _⟩ => ⟨S1, .f32⟩
  | .local _ .smem, ⟨1, _⟩ => ⟨S1, .f32⟩
  | .local _ .smem, ⟨2, _⟩ => ⟨S1, .i32⟩
  | .local _ .smem, ⟨3, _⟩ => ⟨S1, .i32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 3 → Bool
  | ⟨0, _⟩ => true
  | ⟨1, _⟩ => true
  | ⟨2, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 3 43 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_5 : Ref sig .tc := ⟨.hbm, 20, rfl⟩
abbrev main_v11 : Ref sig .tc := ⟨.hbm, 21, rfl⟩
abbrev main_c_6 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg6_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 2

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_11 : BitVec 32 := 1#32
  let v16 : BitVec 32 := Scalar.muli v0 c1_i32_11
  let v17 : BitVec 32 := Scalar.addi c0_i32 v16
  v17.toNat

def k0_dev2 (v1 : BitVec 32) : Nat :=
  let c0_i32_14 : BitVec 32 := 0#32
  let c1_i32_13 : BitVec 32 := 1#32
  let v18 : BitVec 32 := Scalar.muli v1 c1_i32_13
  let v19 : BitVec 32 := Scalar.addi c0_i32_14 v18
  v19.toNat

def k0_dev3 (v1 : BitVec 32) : Nat :=
  let c0_i32_18 : BitVec 32 := 0#32
  let c1_i32_17 : BitVec 32 := 1#32
  let v20 : BitVec 32 := Scalar.muli v1 c1_i32_17
  let v21 : BitVec 32 := Scalar.addi c0_i32_18 v20
  v21.toNat
def k0_dev4 (v1 : BitVec 32) : Nat :=
  let c0_i32_25 : BitVec 32 := 0#32
  let c1_i32_24 : BitVec 32 := 1#32
  let v28 : BitVec 32 := Scalar.muli v1 c1_i32_24
  let v29 : BitVec 32 := Scalar.addi c0_i32_25 v28
  v29.toNat
def k0_dev5 (v1 : BitVec 32) : Nat :=
  let c0_i32_32 : BitVec 32 := 0#32
  let c1_i32_31 : BitVec 32 := 1#32
  let v36 : BitVec 32 := Scalar.muli v1 c1_i32_31
  let v37 : BitVec 32 := Scalar.addi c0_i32_32 v36
  v37.toNat
def k0_dev6 (v0 : BitVec 32) : Nat :=
  let c0_i32_40 : BitVec 32 := 0#32
  let c1_i32_39 : BitVec 32 := 1#32
  let v44 : BitVec 32 := Scalar.muli v0 c1_i32_39
  let v45 : BitVec 32 := Scalar.addi c0_i32_40 v44
  v45.toNat
def k0_dev7 (v0 : BitVec 32) : Nat :=
  let c0_i32_47 : BitVec 32 := 0#32
  let c1_i32_46 : BitVec 32 := 1#32
  let v52 : BitVec 32 := Scalar.muli v0 c1_i32_46
  let v53 : BitVec 32 := Scalar.addi c0_i32_47 v52
  v53.toNat
def k0_dev8 (v0 : BitVec 32) : Nat :=
  let c0_i32_55 : BitVec 32 := 0#32
  let c1_i32_54 : BitVec 32 := 1#32
  let v60 : BitVec 32 := Scalar.muli v0 c1_i32_54
  let v61 : BitVec 32 := Scalar.addi c0_i32_55 v60
  v61.toNat
def k0_dev9 (v1 : BitVec 32) : Nat :=
  let c0_i32_119 : BitVec 32 := 0#32
  let c1_i32_118 : BitVec 32 := 1#32
  let v106 : BitVec 32 := Scalar.muli v1 c1_i32_118
  let v107 : BitVec 32 := Scalar.addi c0_i32_119 v106
  v107.toNat
def k0_dev10 (v1 : BitVec 32) : Nat :=
  let c0_i32_134 : BitVec 32 := 0#32
  let c1_i32_133 : BitVec 32 := 1#32
  let v120 : BitVec 32 := Scalar.muli v1 c1_i32_133
  let v121 : BitVec 32 := Scalar.addi c0_i32_134 v120
  v121.toNat
def k0_dev11 (v1 : BitVec 32) : Nat :=
  let c0_i32_150 : BitVec 32 := 0#32
  let c1_i32_149 : BitVec 32 := 1#32
  let v134 : BitVec 32 := Scalar.muli v1 c1_i32_149
  let v135 : BitVec 32 := Scalar.addi c0_i32_150 v134
  v135.toNat
def k0_dev12 (v0 : BitVec 32) : Nat :=
  let c0_i32_157 : BitVec 32 := 0#32
  let c1_i32_156 : BitVec 32 := 1#32
  let v142 : BitVec 32 := Scalar.muli v0 c1_i32_156
  let v143 : BitVec 32 := Scalar.addi c0_i32_157 v142
  v143.toNat
def k0_dev13 (v0 : BitVec 32) : Nat :=
  let c0_i32_169 : BitVec 32 := 0#32
  let c1_i32_168 : BitVec 32 := 1#32
  let v150 : BitVec 32 := Scalar.muli v0 c1_i32_168
  let v151 : BitVec 32 := Scalar.addi c0_i32_169 v150
  v151.toNat
def k0_dev14 (v0 : BitVec 32) : Nat :=
  let c0_i32_184 : BitVec 32 := 0#32
  let c1_i32_183 : BitVec 32 := 1#32
  let v164 : BitVec 32 := Scalar.muli v0 c1_i32_183
  let v165 : BitVec 32 := Scalar.addi c0_i32_184 v164
  v165.toNat
def k0_dev15 (v0 : BitVec 32) : Nat :=
  let c0_i32_200 : BitVec 32 := 0#32
  let c1_i32_199 : BitVec 32 := 1#32
  let v178 : BitVec 32 := Scalar.muli v0 c1_i32_199
  let v179 : BitVec 32 := Scalar.addi c0_i32_200 v178
  v179.toNat
def k0_dev16 (v1 : BitVec 32) : Nat :=
  let c0_i32_207 : BitVec 32 := 0#32
  let c1_i32_206 : BitVec 32 := 1#32
  let v186 : BitVec 32 := Scalar.muli v1 c1_i32_206
  let v187 : BitVec 32 := Scalar.addi c0_i32_207 v186
  v187.toNat
def k0_dev17 (v1 : BitVec 32) : Nat :=
  let c0_i32_219 : BitVec 32 := 0#32
  let c1_i32_218 : BitVec 32 := 1#32
  let v194 : BitVec 32 := Scalar.muli v1 c1_i32_218
  let v195 : BitVec 32 := Scalar.addi c0_i32_219 v194
  v195.toNat
def k0_dev18 (v1 : BitVec 32) : Nat :=
  let c0_i32_234 : BitVec 32 := 0#32
  let c1_i32_233 : BitVec 32 := 1#32
  let v208 : BitVec 32 := Scalar.muli v1 c1_i32_233
  let v209 : BitVec 32 := Scalar.addi c0_i32_234 v208
  v209.toNat
def k0_dev19 (v1 : BitVec 32) : Nat :=
  let c0_i32_250 : BitVec 32 := 0#32
  let c1_i32_249 : BitVec 32 := 1#32
  let v222 : BitVec 32 := Scalar.muli v1 c1_i32_249
  let v223 : BitVec 32 := Scalar.addi c0_i32_250 v222
  v223.toNat
def k0_dev20 (v0 : BitVec 32) : Nat :=
  let c0_i32_257 : BitVec 32 := 0#32
  let c1_i32_256 : BitVec 32 := 1#32
  let v230 : BitVec 32 := Scalar.muli v0 c1_i32_256
  let v231 : BitVec 32 := Scalar.addi c0_i32_257 v230
  v231.toNat
def k0_dev21 (v0 : BitVec 32) : Nat :=
  let c0_i32_269 : BitVec 32 := 0#32
  let c1_i32_268 : BitVec 32 := 1#32
  let v238 : BitVec 32 := Scalar.muli v0 c1_i32_268
  let v239 : BitVec 32 := Scalar.addi c0_i32_269 v238
  v239.toNat
def k0_dev22 (v0 : BitVec 32) : Nat :=
  let c0_i32_284 : BitVec 32 := 0#32
  let c1_i32_283 : BitVec 32 := 1#32
  let v252 : BitVec 32 := Scalar.muli v0 c1_i32_283
  let v253 : BitVec 32 := Scalar.addi c0_i32_284 v252
  v253.toNat
def k0_dev23 (v0 : BitVec 32) : Nat :=
  let c0_i32_300 : BitVec 32 := 0#32
  let c1_i32_299 : BitVec 32 := 1#32
  let v266 : BitVec 32 := Scalar.muli v0 c1_i32_299
  let v267 : BitVec 32 := Scalar.addi c0_i32_300 v266
  v267.toNat
def k0_dev24 (v1 : BitVec 32) : Nat :=
  let c0_i32_307 : BitVec 32 := 0#32
  let c1_i32_306 : BitVec 32 := 1#32
  let v274 : BitVec 32 := Scalar.muli v1 c1_i32_306
  let v275 : BitVec 32 := Scalar.addi c0_i32_307 v274
  v275.toNat
def k0_dev25 (v1 : BitVec 32) : Nat :=
  let c0_i32_342 : BitVec 32 := 0#32
  let c1_i32_341 : BitVec 32 := 1#32
  let v294 : BitVec 32 := Scalar.muli v1 c1_i32_341
  let v295 : BitVec 32 := Scalar.addi c0_i32_342 v294
  v295.toNat
def k0_dev26 (v1 : BitVec 32) : Nat :=
  let c0_i32_357 : BitVec 32 := 0#32
  let c1_i32_356 : BitVec 32 := 1#32
  let v308 : BitVec 32 := Scalar.muli v1 c1_i32_356
  let v309 : BitVec 32 := Scalar.addi c0_i32_357 v308
  v309.toNat
def k0_dev27 (v1 : BitVec 32) : Nat :=
  let c0_i32_373 : BitVec 32 := 0#32
  let c1_i32_372 : BitVec 32 := 1#32
  let v322 : BitVec 32 := Scalar.muli v1 c1_i32_372
  let v323 : BitVec 32 := Scalar.addi c0_i32_373 v322
  v323.toNat
def k0_dev28 (v0 : BitVec 32) : Nat :=
  let c0_i32_380 : BitVec 32 := 0#32
  let c1_i32_379 : BitVec 32 := 1#32
  let v330 : BitVec 32 := Scalar.muli v0 c1_i32_379
  let v331 : BitVec 32 := Scalar.addi c0_i32_380 v330
  v331.toNat
def k0_dev29 (v0 : BitVec 32) : Nat :=
  let c0_i32_415 : BitVec 32 := 0#32
  let c1_i32_414 : BitVec 32 := 1#32
  let v350 : BitVec 32 := Scalar.muli v0 c1_i32_414
  let v351 : BitVec 32 := Scalar.addi c0_i32_415 v350
  v351.toNat
def k0_dev30 (v0 : BitVec 32) : Nat :=
  let c0_i32_430 : BitVec 32 := 0#32
  let c1_i32_429 : BitVec 32 := 1#32
  let v364 : BitVec 32 := Scalar.muli v0 c1_i32_429
  let v365 : BitVec 32 := Scalar.addi c0_i32_430 v364
  v365.toNat
def k0_dev31 (v0 : BitVec 32) : Nat :=
  let c0_i32_446 : BitVec 32 := 0#32
  let c1_i32_445 : BitVec 32 := 1#32
  let v378 : BitVec 32 := Scalar.muli v0 c1_i32_445
  let v379 : BitVec 32 := Scalar.addi c0_i32_446 v378
  v379.toNat
def k0_dev32 (v1 : BitVec 32) : Nat :=
  let c0_i32_453 : BitVec 32 := 0#32
  let c1_i32_452 : BitVec 32 := 1#32
  let v386 : BitVec 32 := Scalar.muli v1 c1_i32_452
  let v387 : BitVec 32 := Scalar.addi c0_i32_453 v386
  v387.toNat
def k0_dev33 (v1 : BitVec 32) : Nat :=
  let c0_i32_488 : BitVec 32 := 0#32
  let c1_i32_487 : BitVec 32 := 1#32
  let v406 : BitVec 32 := Scalar.muli v1 c1_i32_487
  let v407 : BitVec 32 := Scalar.addi c0_i32_488 v406
  v407.toNat
def k0_dev34 (v1 : BitVec 32) : Nat :=
  let c0_i32_503 : BitVec 32 := 0#32
  let c1_i32_502 : BitVec 32 := 1#32
  let v420 : BitVec 32 := Scalar.muli v1 c1_i32_502
  let v421 : BitVec 32 := Scalar.addi c0_i32_503 v420
  v421.toNat
def k0_dev35 (v1 : BitVec 32) : Nat :=
  let c0_i32_519 : BitVec 32 := 0#32
  let c1_i32_518 : BitVec 32 := 1#32
  let v434 : BitVec 32 := Scalar.muli v1 c1_i32_518
  let v435 : BitVec 32 := Scalar.addi c0_i32_519 v434
  v435.toNat
def k0_dev36 (v0 : BitVec 32) : Nat :=
  let c0_i32_526 : BitVec 32 := 0#32
  let c1_i32_525 : BitVec 32 := 1#32
  let v442 : BitVec 32 := Scalar.muli v0 c1_i32_525
  let v443 : BitVec 32 := Scalar.addi c0_i32_526 v442
  v443.toNat
def k0_dev37 (v0 : BitVec 32) : Nat :=
  let c0_i32_561 : BitVec 32 := 0#32
  let c1_i32_560 : BitVec 32 := 1#32
  let v462 : BitVec 32 := Scalar.muli v0 c1_i32_560
  let v463 : BitVec 32 := Scalar.addi c0_i32_561 v462
  v463.toNat
def k0_dev38 (v0 : BitVec 32) : Nat :=
  let c0_i32_576 : BitVec 32 := 0#32
  let c1_i32_575 : BitVec 32 := 1#32
  let v476 : BitVec 32 := Scalar.muli v0 c1_i32_575
  let v477 : BitVec 32 := Scalar.addi c0_i32_576 v476
  v477.toNat
def k0_dev39 (v0 : BitVec 32) : Nat :=
  let c0_i32_592 : BitVec 32 := 0#32
  let c1_i32_591 : BitVec 32 := 1#32
  let v490 : BitVec 32 := Scalar.muli v0 c1_i32_591
  let v491 : BitVec 32 := Scalar.addi c0_i32_592 v490
  v491.toNat
def k0_dev40 (v1 : BitVec 32) : Nat :=
  let c0_i32_599 : BitVec 32 := 0#32
  let c1_i32_598 : BitVec 32 := 1#32
  let v498 : BitVec 32 := Scalar.muli v1 c1_i32_598
  let v499 : BitVec 32 := Scalar.addi c0_i32_599 v498
  v499.toNat
def k0_dev41 (v1 : BitVec 32) : Nat :=
  let c0_i32_634 : BitVec 32 := 0#32
  let c1_i32_633 : BitVec 32 := 1#32
  let v518 : BitVec 32 := Scalar.muli v1 c1_i32_633
  let v519 : BitVec 32 := Scalar.addi c0_i32_634 v518
  v519.toNat
def k0_dev42 (v1 : BitVec 32) : Nat :=
  let c0_i32_649 : BitVec 32 := 0#32
  let c1_i32_648 : BitVec 32 := 1#32
  let v532 : BitVec 32 := Scalar.muli v1 c1_i32_648
  let v533 : BitVec 32 := Scalar.addi c0_i32_649 v532
  v533.toNat
def k0_dev43 (v1 : BitVec 32) : Nat :=
  let c0_i32_665 : BitVec 32 := 0#32
  let c1_i32_664 : BitVec 32 := 1#32
  let v546 : BitVec 32 := Scalar.muli v1 c1_i32_664
  let v547 : BitVec 32 := Scalar.addi c0_i32_665 v546
  v547.toNat
def k0_dev44 (v0 : BitVec 32) : Nat :=
  let c0_i32_672 : BitVec 32 := 0#32
  let c1_i32_671 : BitVec 32 := 1#32
  let v554 : BitVec 32 := Scalar.muli v0 c1_i32_671
  let v555 : BitVec 32 := Scalar.addi c0_i32_672 v554
  v555.toNat
def k0_dev45 (v0 : BitVec 32) : Nat :=
  let c0_i32_707 : BitVec 32 := 0#32
  let c1_i32_706 : BitVec 32 := 1#32
  let v574 : BitVec 32 := Scalar.muli v0 c1_i32_706
  let v575 : BitVec 32 := Scalar.addi c0_i32_707 v574
  v575.toNat
def k0_dev46 (v0 : BitVec 32) : Nat :=
  let c0_i32_722 : BitVec 32 := 0#32
  let c1_i32_721 : BitVec 32 := 1#32
  let v588 : BitVec 32 := Scalar.muli v0 c1_i32_721
  let v589 : BitVec 32 := Scalar.addi c0_i32_722 v588
  v589.toNat
def k0_dev47 (v0 : BitVec 32) : Nat :=
  let c0_i32_738 : BitVec 32 := 0#32
  let c1_i32_737 : BitVec 32 := 1#32
  let v602 : BitVec 32 := Scalar.muli v0 c1_i32_737
  let v603 : BitVec 32 := Scalar.addi c0_i32_738 v602
  v603.toNat
def k0_dev48 (v1 : BitVec 32) : Nat :=
  let c0_i32_745 : BitVec 32 := 0#32
  let c1_i32_744 : BitVec 32 := 1#32
  let v610 : BitVec 32 := Scalar.muli v1 c1_i32_744
  let v611 : BitVec 32 := Scalar.addi c0_i32_745 v610
  v611.toNat
def k0_dev49 (v1 : BitVec 32) : Nat :=
  let c0_i32_923 : BitVec 32 := 0#32
  let c1_i32_922 : BitVec 32 := 1#32
  let v742 : BitVec 32 := Scalar.muli v1 c1_i32_922
  let v743 : BitVec 32 := Scalar.addi c0_i32_923 v742
  v743.toNat
def k0_dev50 (v1 : BitVec 32) : Nat :=
  let c0_i32_938 : BitVec 32 := 0#32
  let c1_i32_937 : BitVec 32 := 1#32
  let v756 : BitVec 32 := Scalar.muli v1 c1_i32_937
  let v757 : BitVec 32 := Scalar.addi c0_i32_938 v756
  v757.toNat
def k0_dev51 (v1 : BitVec 32) : Nat :=
  let c0_i32_954 : BitVec 32 := 0#32
  let c1_i32_953 : BitVec 32 := 1#32
  let v770 : BitVec 32 := Scalar.muli v1 c1_i32_953
  let v771 : BitVec 32 := Scalar.addi c0_i32_954 v770
  v771.toNat
def k0_dev52 (v0 : BitVec 32) : Nat :=
  let c0_i32_961 : BitVec 32 := 0#32
  let c1_i32_960 : BitVec 32 := 1#32
  let v778 : BitVec 32 := Scalar.muli v0 c1_i32_960
  let v779 : BitVec 32 := Scalar.addi c0_i32_961 v778
  v779.toNat
def k0_dev53 (v0 : BitVec 32) : Nat :=
  let c0_i32_996 : BitVec 32 := 0#32
  let c1_i32_995 : BitVec 32 := 1#32
  let v798 : BitVec 32 := Scalar.muli v0 c1_i32_995
  let v799 : BitVec 32 := Scalar.addi c0_i32_996 v798
  v799.toNat
def k0_dev54 (v0 : BitVec 32) : Nat :=
  let c0_i32_1011 : BitVec 32 := 0#32
  let c1_i32_1010 : BitVec 32 := 1#32
  let v812 : BitVec 32 := Scalar.muli v0 c1_i32_1010
  let v813 : BitVec 32 := Scalar.addi c0_i32_1011 v812
  v813.toNat
def k0_dev55 (v0 : BitVec 32) : Nat :=
  let c0_i32_1027 : BitVec 32 := 0#32
  let c1_i32_1026 : BitVec 32 := 1#32
  let v826 : BitVec 32 := Scalar.muli v0 c1_i32_1026
  let v827 : BitVec 32 := Scalar.addi c0_i32_1027 v826
  v827.toNat
def k0_dev56 (v1 : BitVec 32) : Nat :=
  let c0_i32_1034 : BitVec 32 := 0#32
  let c1_i32_1033 : BitVec 32 := 1#32
  let v834 : BitVec 32 := Scalar.muli v1 c1_i32_1033
  let v835 : BitVec 32 := Scalar.addi c0_i32_1034 v834
  v835.toNat
def k0_dev57 (v1 : BitVec 32) : Nat :=
  let c0_i32_1069 : BitVec 32 := 0#32
  let c1_i32_1068 : BitVec 32 := 1#32
  let v854 : BitVec 32 := Scalar.muli v1 c1_i32_1068
  let v855 : BitVec 32 := Scalar.addi c0_i32_1069 v854
  v855.toNat
def k0_dev58 (v1 : BitVec 32) : Nat :=
  let c0_i32_1084 : BitVec 32 := 0#32
  let c1_i32_1083 : BitVec 32 := 1#32
  let v868 : BitVec 32 := Scalar.muli v1 c1_i32_1083
  let v869 : BitVec 32 := Scalar.addi c0_i32_1084 v868
  v869.toNat
def k0_dev59 (v1 : BitVec 32) : Nat :=
  let c0_i32_1100 : BitVec 32 := 0#32
  let c1_i32_1099 : BitVec 32 := 1#32
  let v882 : BitVec 32 := Scalar.muli v1 c1_i32_1099
  let v883 : BitVec 32 := Scalar.addi c0_i32_1100 v882
  v883.toNat
def k0_dev60 (v0 : BitVec 32) : Nat :=
  let c0_i32_1107 : BitVec 32 := 0#32
  let c1_i32_1106 : BitVec 32 := 1#32
  let v890 : BitVec 32 := Scalar.muli v0 c1_i32_1106
  let v891 : BitVec 32 := Scalar.addi c0_i32_1107 v890
  v891.toNat
def k0_dev61 (v0 : BitVec 32) : Nat :=
  let c0_i32_1142 : BitVec 32 := 0#32
  let c1_i32_1141 : BitVec 32 := 1#32
  let v910 : BitVec 32 := Scalar.muli v0 c1_i32_1141
  let v911 : BitVec 32 := Scalar.addi c0_i32_1142 v910
  v911.toNat
def k0_dev62 (v0 : BitVec 32) : Nat :=
  let c0_i32_1157 : BitVec 32 := 0#32
  let c1_i32_1156 : BitVec 32 := 1#32
  let v924 : BitVec 32 := Scalar.muli v0 c1_i32_1156
  let v925 : BitVec 32 := Scalar.addi c0_i32_1157 v924
  v925.toNat
def k0_dev63 (v0 : BitVec 32) : Nat :=
  let c0_i32_1173 : BitVec 32 := 0#32
  let c1_i32_1172 : BitVec 32 := 1#32
  let v938 : BitVec 32 := Scalar.muli v0 c1_i32_1172
  let v939 : BitVec 32 := Scalar.addi c0_i32_1173 v938
  v939.toNat
def k0_dev64 (v1 : BitVec 32) : Nat :=
  let c0_i32_1180 : BitVec 32 := 0#32
  let c1_i32_1179 : BitVec 32 := 1#32
  let v946 : BitVec 32 := Scalar.muli v1 c1_i32_1179
  let v947 : BitVec 32 := Scalar.addi c0_i32_1180 v946
  v947.toNat
def k0_dev65 (v1 : BitVec 32) : Nat :=
  let c0_i32_1215 : BitVec 32 := 0#32
  let c1_i32_1214 : BitVec 32 := 1#32
  let v966 : BitVec 32 := Scalar.muli v1 c1_i32_1214
  let v967 : BitVec 32 := Scalar.addi c0_i32_1215 v966
  v967.toNat
def k0_dev66 (v1 : BitVec 32) : Nat :=
  let c0_i32_1230 : BitVec 32 := 0#32
  let c1_i32_1229 : BitVec 32 := 1#32
  let v980 : BitVec 32 := Scalar.muli v1 c1_i32_1229
  let v981 : BitVec 32 := Scalar.addi c0_i32_1230 v980
  v981.toNat
def k0_dev67 (v1 : BitVec 32) : Nat :=
  let c0_i32_1246 : BitVec 32 := 0#32
  let c1_i32_1245 : BitVec 32 := 1#32
  let v994 : BitVec 32 := Scalar.muli v1 c1_i32_1245
  let v995 : BitVec 32 := Scalar.addi c0_i32_1246 v994
  v995.toNat
def k0_dev68 (v0 : BitVec 32) : Nat :=
  let c0_i32_1253 : BitVec 32 := 0#32
  let c1_i32_1252 : BitVec 32 := 1#32
  let v1002 : BitVec 32 := Scalar.muli v0 c1_i32_1252
  let v1003 : BitVec 32 := Scalar.addi c0_i32_1253 v1002
  v1003.toNat
def k0_dev69 (v0 : BitVec 32) : Nat :=
  let c0_i32_1288 : BitVec 32 := 0#32
  let c1_i32_1287 : BitVec 32 := 1#32
  let v1022 : BitVec 32 := Scalar.muli v0 c1_i32_1287
  let v1023 : BitVec 32 := Scalar.addi c0_i32_1288 v1022
  v1023.toNat
def k0_dev70 (v0 : BitVec 32) : Nat :=
  let c0_i32_1303 : BitVec 32 := 0#32
  let c1_i32_1302 : BitVec 32 := 1#32
  let v1036 : BitVec 32 := Scalar.muli v0 c1_i32_1302
  let v1037 : BitVec 32 := Scalar.addi c0_i32_1303 v1036
  v1037.toNat
def k0_dev71 (v0 : BitVec 32) : Nat :=
  let c0_i32_1319 : BitVec 32 := 0#32
  let c1_i32_1318 : BitVec 32 := 1#32
  let v1050 : BitVec 32 := Scalar.muli v0 c1_i32_1318
  let v1051 : BitVec 32 := Scalar.addi c0_i32_1319 v1050
  v1051.toNat
def k0_dev72 (v1 : BitVec 32) : Nat :=
  let c0_i32_1326 : BitVec 32 := 0#32
  let c1_i32_1325 : BitVec 32 := 1#32
  let v1058 : BitVec 32 := Scalar.muli v1 c1_i32_1325
  let v1059 : BitVec 32 := Scalar.addi c0_i32_1326 v1058
  v1059.toNat
def k0_dev73 (v1 : BitVec 32) : Nat :=
  let c0_i32_1361 : BitVec 32 := 0#32
  let c1_i32_1360 : BitVec 32 := 1#32
  let v1078 : BitVec 32 := Scalar.muli v1 c1_i32_1360
  let v1079 : BitVec 32 := Scalar.addi c0_i32_1361 v1078
  v1079.toNat
def k0_dev74 (v1 : BitVec 32) : Nat :=
  let c0_i32_1376 : BitVec 32 := 0#32
  let c1_i32_1375 : BitVec 32 := 1#32
  let v1092 : BitVec 32 := Scalar.muli v1 c1_i32_1375
  let v1093 : BitVec 32 := Scalar.addi c0_i32_1376 v1092
  v1093.toNat
def k0_dev75 (v1 : BitVec 32) : Nat :=
  let c0_i32_1392 : BitVec 32 := 0#32
  let c1_i32_1391 : BitVec 32 := 1#32
  let v1106 : BitVec 32 := Scalar.muli v1 c1_i32_1391
  let v1107 : BitVec 32 := Scalar.addi c0_i32_1392 v1106
  v1107.toNat
def k0_dev76 (v0 : BitVec 32) : Nat :=
  let c0_i32_1399 : BitVec 32 := 0#32
  let c1_i32_1398 : BitVec 32 := 1#32
  let v1114 : BitVec 32 := Scalar.muli v0 c1_i32_1398
  let v1115 : BitVec 32 := Scalar.addi c0_i32_1399 v1114
  v1115.toNat
def k0_dev77 (v0 : BitVec 32) : Nat :=
  let c0_i32_1434 : BitVec 32 := 0#32
  let c1_i32_1433 : BitVec 32 := 1#32
  let v1134 : BitVec 32 := Scalar.muli v0 c1_i32_1433
  let v1135 : BitVec 32 := Scalar.addi c0_i32_1434 v1134
  v1135.toNat
def k0_dev78 (v0 : BitVec 32) : Nat :=
  let c0_i32_1449 : BitVec 32 := 0#32
  let c1_i32_1448 : BitVec 32 := 1#32
  let v1148 : BitVec 32 := Scalar.muli v0 c1_i32_1448
  let v1149 : BitVec 32 := Scalar.addi c0_i32_1449 v1148
  v1149.toNat
def k0_dev79 (v0 : BitVec 32) : Nat :=
  let c0_i32_1465 : BitVec 32 := 0#32
  let c1_i32_1464 : BitVec 32 := 1#32
  let v1162 : BitVec 32 := Scalar.muli v0 c1_i32_1464
  let v1163 : BitVec 32 := Scalar.addi c0_i32_1465 v1162
  v1163.toNat
def k0_dev80 (v1 : BitVec 32) : Nat :=
  let c0_i32_1472 : BitVec 32 := 0#32
  let c1_i32_1471 : BitVec 32 := 1#32
  let v1170 : BitVec 32 := Scalar.muli v1 c1_i32_1471
  let v1171 : BitVec 32 := Scalar.addi c0_i32_1472 v1170
  v1171.toNat
def k0_dev81 (v1 : BitVec 32) : Nat :=
  let c0_i32_1650 : BitVec 32 := 0#32
  let c1_i32_1649 : BitVec 32 := 1#32
  let v1302 : BitVec 32 := Scalar.muli v1 c1_i32_1649
  let v1303 : BitVec 32 := Scalar.addi c0_i32_1650 v1302
  v1303.toNat
def k0_dev82 (v1 : BitVec 32) : Nat :=
  let c0_i32_1665 : BitVec 32 := 0#32
  let c1_i32_1664 : BitVec 32 := 1#32
  let v1316 : BitVec 32 := Scalar.muli v1 c1_i32_1664
  let v1317 : BitVec 32 := Scalar.addi c0_i32_1665 v1316
  v1317.toNat
def k0_dev83 (v1 : BitVec 32) : Nat :=
  let c0_i32_1681 : BitVec 32 := 0#32
  let c1_i32_1680 : BitVec 32 := 1#32
  let v1330 : BitVec 32 := Scalar.muli v1 c1_i32_1680
  let v1331 : BitVec 32 := Scalar.addi c0_i32_1681 v1330
  v1331.toNat
def k0_dev84 (v0 : BitVec 32) : Nat :=
  let c0_i32_1688 : BitVec 32 := 0#32
  let c1_i32_1687 : BitVec 32 := 1#32
  let v1338 : BitVec 32 := Scalar.muli v0 c1_i32_1687
  let v1339 : BitVec 32 := Scalar.addi c0_i32_1688 v1338
  v1339.toNat
def k0_dev85 (v0 : BitVec 32) : Nat :=
  let c0_i32_1723 : BitVec 32 := 0#32
  let c1_i32_1722 : BitVec 32 := 1#32
  let v1358 : BitVec 32 := Scalar.muli v0 c1_i32_1722
  let v1359 : BitVec 32 := Scalar.addi c0_i32_1723 v1358
  v1359.toNat
def k0_dev86 (v0 : BitVec 32) : Nat :=
  let c0_i32_1738 : BitVec 32 := 0#32
  let c1_i32_1737 : BitVec 32 := 1#32
  let v1372 : BitVec 32 := Scalar.muli v0 c1_i32_1737
  let v1373 : BitVec 32 := Scalar.addi c0_i32_1738 v1372
  v1373.toNat
def k0_dev87 (v0 : BitVec 32) : Nat :=
  let c0_i32_1754 : BitVec 32 := 0#32
  let c1_i32_1753 : BitVec 32 := 1#32
  let v1386 : BitVec 32 := Scalar.muli v0 c1_i32_1753
  let v1387 : BitVec 32 := Scalar.addi c0_i32_1754 v1386
  v1387.toNat
def k0_dev88 (v1 : BitVec 32) : Nat :=
  let c0_i32_1761 : BitVec 32 := 0#32
  let c1_i32_1760 : BitVec 32 := 1#32
  let v1394 : BitVec 32 := Scalar.muli v1 c1_i32_1760
  let v1395 : BitVec 32 := Scalar.addi c0_i32_1761 v1394
  v1395.toNat
def k0_dev89 (v1 : BitVec 32) : Nat :=
  let c0_i32_1796 : BitVec 32 := 0#32
  let c1_i32_1795 : BitVec 32 := 1#32
  let v1414 : BitVec 32 := Scalar.muli v1 c1_i32_1795
  let v1415 : BitVec 32 := Scalar.addi c0_i32_1796 v1414
  v1415.toNat
def k0_dev90 (v1 : BitVec 32) : Nat :=
  let c0_i32_1811 : BitVec 32 := 0#32
  let c1_i32_1810 : BitVec 32 := 1#32
  let v1428 : BitVec 32 := Scalar.muli v1 c1_i32_1810
  let v1429 : BitVec 32 := Scalar.addi c0_i32_1811 v1428
  v1429.toNat
def k0_dev91 (v1 : BitVec 32) : Nat :=
  let c0_i32_1827 : BitVec 32 := 0#32
  let c1_i32_1826 : BitVec 32 := 1#32
  let v1442 : BitVec 32 := Scalar.muli v1 c1_i32_1826
  let v1443 : BitVec 32 := Scalar.addi c0_i32_1827 v1442
  v1443.toNat
def k0_dev92 (v0 : BitVec 32) : Nat :=
  let c0_i32_1834 : BitVec 32 := 0#32
  let c1_i32_1833 : BitVec 32 := 1#32
  let v1450 : BitVec 32 := Scalar.muli v0 c1_i32_1833
  let v1451 : BitVec 32 := Scalar.addi c0_i32_1834 v1450
  v1451.toNat
def k0_dev93 (v0 : BitVec 32) : Nat :=
  let c0_i32_1869 : BitVec 32 := 0#32
  let c1_i32_1868 : BitVec 32 := 1#32
  let v1470 : BitVec 32 := Scalar.muli v0 c1_i32_1868
  let v1471 : BitVec 32 := Scalar.addi c0_i32_1869 v1470
  v1471.toNat
def k0_dev94 (v0 : BitVec 32) : Nat :=
  let c0_i32_1884 : BitVec 32 := 0#32
  let c1_i32_1883 : BitVec 32 := 1#32
  let v1484 : BitVec 32 := Scalar.muli v0 c1_i32_1883
  let v1485 : BitVec 32 := Scalar.addi c0_i32_1884 v1484
  v1485.toNat
def k0_dev95 (v0 : BitVec 32) : Nat :=
  let c0_i32_1900 : BitVec 32 := 0#32
  let c1_i32_1899 : BitVec 32 := 1#32
  let v1498 : BitVec 32 := Scalar.muli v0 c1_i32_1899
  let v1499 : BitVec 32 := Scalar.addi c0_i32_1900 v1498
  v1499.toNat
def k0_dev96 (v1 : BitVec 32) : Nat :=
  let c0_i32_1907 : BitVec 32 := 0#32
  let c1_i32_1906 : BitVec 32 := 1#32
  let v1506 : BitVec 32 := Scalar.muli v1 c1_i32_1906
  let v1507 : BitVec 32 := Scalar.addi c0_i32_1907 v1506
  v1507.toNat
def k0_dev97 (v1 : BitVec 32) : Nat :=
  let c0_i32_1942 : BitVec 32 := 0#32
  let c1_i32_1941 : BitVec 32 := 1#32
  let v1526 : BitVec 32 := Scalar.muli v1 c1_i32_1941
  let v1527 : BitVec 32 := Scalar.addi c0_i32_1942 v1526
  v1527.toNat
def k0_dev98 (v1 : BitVec 32) : Nat :=
  let c0_i32_1957 : BitVec 32 := 0#32
  let c1_i32_1956 : BitVec 32 := 1#32
  let v1540 : BitVec 32 := Scalar.muli v1 c1_i32_1956
  let v1541 : BitVec 32 := Scalar.addi c0_i32_1957 v1540
  v1541.toNat
def k0_dev99 (v1 : BitVec 32) : Nat :=
  let c0_i32_1973 : BitVec 32 := 0#32
  let c1_i32_1972 : BitVec 32 := 1#32
  let v1554 : BitVec 32 := Scalar.muli v1 c1_i32_1972
  let v1555 : BitVec 32 := Scalar.addi c0_i32_1973 v1554
  v1555.toNat
def k0_dev100 (v0 : BitVec 32) : Nat :=
  let c0_i32_1980 : BitVec 32 := 0#32
  let c1_i32_1979 : BitVec 32 := 1#32
  let v1562 : BitVec 32 := Scalar.muli v0 c1_i32_1979
  let v1563 : BitVec 32 := Scalar.addi c0_i32_1980 v1562
  v1563.toNat
def k0_dev101 (v0 : BitVec 32) : Nat :=
  let c0_i32_2015 : BitVec 32 := 0#32
  let c1_i32_2014 : BitVec 32 := 1#32
  let v1582 : BitVec 32 := Scalar.muli v0 c1_i32_2014
  let v1583 : BitVec 32 := Scalar.addi c0_i32_2015 v1582
  v1583.toNat
def k0_dev102 (v0 : BitVec 32) : Nat :=
  let c0_i32_2030 : BitVec 32 := 0#32
  let c1_i32_2029 : BitVec 32 := 1#32
  let v1596 : BitVec 32 := Scalar.muli v0 c1_i32_2029
  let v1597 : BitVec 32 := Scalar.addi c0_i32_2030 v1596
  v1597.toNat
def k0_dev103 (v0 : BitVec 32) : Nat :=
  let c0_i32_2046 : BitVec 32 := 0#32
  let c1_i32_2045 : BitVec 32 := 1#32
  let v1610 : BitVec 32 := Scalar.muli v0 c1_i32_2045
  let v1611 : BitVec 32 := Scalar.addi c0_i32_2046 v1610
  v1611.toNat
def k0_dev104 (v1 : BitVec 32) : Nat :=
  let c0_i32_2053 : BitVec 32 := 0#32
  let c1_i32_2052 : BitVec 32 := 1#32
  let v1618 : BitVec 32 := Scalar.muli v1 c1_i32_2052
  let v1619 : BitVec 32 := Scalar.addi c0_i32_2053 v1618
  v1619.toNat
def k0_dev105 (v1 : BitVec 32) : Nat :=
  let c0_i32_2088 : BitVec 32 := 0#32
  let c1_i32_2087 : BitVec 32 := 1#32
  let v1638 : BitVec 32 := Scalar.muli v1 c1_i32_2087
  let v1639 : BitVec 32 := Scalar.addi c0_i32_2088 v1638
  v1639.toNat
def k0_dev106 (v1 : BitVec 32) : Nat :=
  let c0_i32_2103 : BitVec 32 := 0#32
  let c1_i32_2102 : BitVec 32 := 1#32
  let v1652 : BitVec 32 := Scalar.muli v1 c1_i32_2102
  let v1653 : BitVec 32 := Scalar.addi c0_i32_2103 v1652
  v1653.toNat
def k0_dev107 (v1 : BitVec 32) : Nat :=
  let c0_i32_2119 : BitVec 32 := 0#32
  let c1_i32_2118 : BitVec 32 := 1#32
  let v1666 : BitVec 32 := Scalar.muli v1 c1_i32_2118
  let v1667 : BitVec 32 := Scalar.addi c0_i32_2119 v1666
  v1667.toNat
def k0_dev108 (v0 : BitVec 32) : Nat :=
  let c0_i32_2126 : BitVec 32 := 0#32
  let c1_i32_2125 : BitVec 32 := 1#32
  let v1674 : BitVec 32 := Scalar.muli v0 c1_i32_2125
  let v1675 : BitVec 32 := Scalar.addi c0_i32_2126 v1674
  v1675.toNat
def k0_dev109 (v0 : BitVec 32) : Nat :=
  let c0_i32_2161 : BitVec 32 := 0#32
  let c1_i32_2160 : BitVec 32 := 1#32
  let v1694 : BitVec 32 := Scalar.muli v0 c1_i32_2160
  let v1695 : BitVec 32 := Scalar.addi c0_i32_2161 v1694
  v1695.toNat
def k0_dev110 (v0 : BitVec 32) : Nat :=
  let c0_i32_2176 : BitVec 32 := 0#32
  let c1_i32_2175 : BitVec 32 := 1#32
  let v1708 : BitVec 32 := Scalar.muli v0 c1_i32_2175
  let v1709 : BitVec 32 := Scalar.addi c0_i32_2176 v1708
  v1709.toNat
def k0_dev111 (v0 : BitVec 32) : Nat :=
  let c0_i32_2192 : BitVec 32 := 0#32
  let c1_i32_2191 : BitVec 32 := 1#32
  let v1722 : BitVec 32 := Scalar.muli v0 c1_i32_2191
  let v1723 : BitVec 32 := Scalar.addi c0_i32_2192 v1722
  v1723.toNat
def k0_dev112 (v1 : BitVec 32) : Nat :=
  let c0_i32_2374 : BitVec 32 := 0#32
  let c1_i32_2373 : BitVec 32 := 1#32
  let v1860 : BitVec 32 := Scalar.muli v1 c1_i32_2373
  let v1861 : BitVec 32 := Scalar.addi c0_i32_2374 v1860
  v1861.toNat
def k0_dev113 (v1 : BitVec 32) : Nat :=
  let c0_i32_2389 : BitVec 32 := 0#32
  let c1_i32_2388 : BitVec 32 := 1#32
  let v1874 : BitVec 32 := Scalar.muli v1 c1_i32_2388
  let v1875 : BitVec 32 := Scalar.addi c0_i32_2389 v1874
  v1875.toNat
def k0_dev114 (v1 : BitVec 32) : Nat :=
  let c0_i32_2405 : BitVec 32 := 0#32
  let c1_i32_2404 : BitVec 32 := 1#32
  let v1888 : BitVec 32 := Scalar.muli v1 c1_i32_2404
  let v1889 : BitVec 32 := Scalar.addi c0_i32_2405 v1888
  v1889.toNat
def k0_dev115 (v0 : BitVec 32) : Nat :=
  let c0_i32_2444 : BitVec 32 := 0#32
  let c1_i32_2443 : BitVec 32 := 1#32
  let v1914 : BitVec 32 := Scalar.muli v0 c1_i32_2443
  let v1915 : BitVec 32 := Scalar.addi c0_i32_2444 v1914
  v1915.toNat
def k0_dev116 (v0 : BitVec 32) : Nat :=
  let c0_i32_2459 : BitVec 32 := 0#32
  let c1_i32_2458 : BitVec 32 := 1#32
  let v1928 : BitVec 32 := Scalar.muli v0 c1_i32_2458
  let v1929 : BitVec 32 := Scalar.addi c0_i32_2459 v1928
  v1929.toNat
def k0_dev117 (v0 : BitVec 32) : Nat :=
  let c0_i32_2475 : BitVec 32 := 0#32
  let c1_i32_2474 : BitVec 32 := 1#32
  let v1942 : BitVec 32 := Scalar.muli v0 c1_i32_2474
  let v1943 : BitVec 32 := Scalar.addi c0_i32_2475 v1942
  v1943.toNat

def k0_chk1_0 (v0 : BitVec 32) : Prop :=
  ((k0_dev1 v0) < nD) ∧
  ((k0_dev6 v0) < nD) ∧
  ((k0_dev7 v0) < nD) ∧
  ((k0_dev8 v0) < nD) ∧
  ((k0_dev12 v0) < nD) ∧
  ((k0_dev13 v0) < nD) ∧
  ((k0_dev14 v0) < nD) ∧
  ((k0_dev15 v0) < nD) ∧
  ((k0_dev20 v0) < nD) ∧
  ((k0_dev21 v0) < nD) ∧
  ((k0_dev22 v0) < nD) ∧
  ((k0_dev23 v0) < nD) ∧
  ((k0_dev28 v0) < nD) ∧
  ((k0_dev29 v0) < nD) ∧
  ((k0_dev30 v0) < nD) ∧
  ((k0_dev31 v0) < nD) ∧
  ((k0_dev36 v0) < nD) ∧
  ((k0_dev37 v0) < nD) ∧
  ((k0_dev38 v0) < nD) ∧
  ((k0_dev39 v0) < nD) ∧
  ((k0_dev44 v0) < nD) ∧
  ((k0_dev45 v0) < nD) ∧
  ((k0_dev46 v0) < nD) ∧
  ((k0_dev47 v0) < nD) ∧
  ((k0_dev52 v0) < nD) ∧
  ((k0_dev53 v0) < nD) ∧
  ((k0_dev54 v0) < nD) ∧
  ((k0_dev55 v0) < nD) ∧
  ((k0_dev60 v0) < nD) ∧
  ((k0_dev61 v0) < nD) ∧
  ((k0_dev62 v0) < nD) ∧
  ((k0_dev63 v0) < nD)
def k0_chk1_1 (v0 : BitVec 32) : Prop :=
  ((k0_dev68 v0) < nD) ∧
  ((k0_dev69 v0) < nD) ∧
  ((k0_dev70 v0) < nD) ∧
  ((k0_dev71 v0) < nD) ∧
  ((k0_dev76 v0) < nD) ∧
  ((k0_dev77 v0) < nD) ∧
  ((k0_dev78 v0) < nD) ∧
  ((k0_dev79 v0) < nD) ∧
  ((k0_dev84 v0) < nD) ∧
  ((k0_dev85 v0) < nD) ∧
  ((k0_dev86 v0) < nD) ∧
  ((k0_dev87 v0) < nD) ∧
  ((k0_dev92 v0) < nD) ∧
  ((k0_dev93 v0) < nD) ∧
  ((k0_dev94 v0) < nD) ∧
  ((k0_dev95 v0) < nD) ∧
  ((k0_dev100 v0) < nD) ∧
  ((k0_dev101 v0) < nD) ∧
  ((k0_dev102 v0) < nD) ∧
  ((k0_dev103 v0) < nD) ∧
  ((k0_dev108 v0) < nD) ∧
  ((k0_dev109 v0) < nD) ∧
  ((k0_dev110 v0) < nD) ∧
  ((k0_dev111 v0) < nD) ∧
  ((k0_dev115 v0) < nD) ∧
  ((k0_dev116 v0) < nD) ∧
  ((k0_dev117 v0) < nD)
def k0_chk1 (v0 : BitVec 32) : Prop :=
  k0_chk1_0 v0 ∧
  k0_chk1_1 v0
theorem k0_dev1_lt : ∀ (v0 : BitVec 32) (k0_hw1 : k0_chk1 v0), (k0_dev1 v0) < nD := fun v0 k0_hw1 => k0_hw1.1.1
theorem k0_dev6_lt : ∀ (v0 : BitVec 32) (k0_hw1 : k0_chk1 v0), (k0_dev6 v0) < nD := fun v0 k0_hw1 => k0_hw1.1.2.1
theorem k0_dev7_lt : ∀ (v0 : BitVec 32) (k0_hw1 : k0_chk1 v0), (k0_dev7 v0) < nD := fun v0 k0_hw1 => k0_hw1.1.2.2.1
theorem k0_dev8_lt : ∀ (v0 : BitVec 32) (k0_hw1 : k0_chk1 v0), (k0_dev8 v0) < nD := fun v0 k0_hw1 => k0_hw1.1.2.2.2.1
theorem k0_dev12_lt : ∀ (v0 : BitVec 32) (k0_hw1 : k0_chk1 v0), (k0_dev12 v0) < nD := fun v0 k0_hw1 => k0_hw1.1.2.2.2.2.1
theorem k0_dev13_lt : ∀ (v0 : BitVec 32) (k0_hw1 : k0_chk1 v0), (k0_dev13 v0) < nD := fun v0 k0_hw1 => k0_hw1.1.2.2.2.2.2.1
theorem k0_dev14_lt : ∀ (v0 : BitVec 32) (k0_hw1 : k0_chk1 v0), (k0_dev14 v0) < nD := fun v0 k0_hw1 => k0_hw1.1.2.2.2.2.2.2.1
theorem k0_dev15_lt : ∀ (v0 : BitVec 32) (k0_hw1 : k0_chk1 v0), (k0_dev15 v0) < nD := fun v0 k0_hw1 => k0_hw1.1.2.2.2.2.2.2.2.1
theorem k0_dev20_lt : ∀ (v0 : BitVec 32) (k0_hw1 : k0_chk1 v0), (k0_dev20 v0) < nD := fun v0 k0_hw1 => k0_hw1.1.2.2.2.2.2.2.2.2.1
theorem k0_dev21_lt : ∀ (v0 : BitVec 32) (k0_hw1 : k0_chk1 v0), (k0_dev21 v0) < nD := fun v0 k0_hw1 => k0_hw1.1.2.2.2.2.2.2.2.2.2.1
theorem k0_dev22_lt : ∀ (v0 : BitVec 32) (k0_hw1 : k0_chk1 v0), (k0_dev22 v0) < nD := fun v0 k0_hw1 => k0_hw1.1.2.2.2.2.2.2.2.2.2.2.1
theorem k0_dev23_lt : ∀ (v0 : BitVec 32) (k0_hw1 : k0_chk1 v0), (k0_dev23 v0) < nD := fun v0 k0_hw1 => k0_hw1.1.2.2.2.2.2.2.2.2.2.2.2.1
theorem k0_dev28_lt : ∀ (v0 : BitVec 32) (k0_hw1 : k0_chk1 v0), (k0_dev28 v0) < nD := fun v0 k0_hw1 => k0_hw1.1.2.2.2.2.2.2.2.2.2.2.2.2.1
theorem k0_dev29_lt : ∀ (v0 : BitVec 32) (k0_hw1 : k0_chk1 v0), (k0_dev29 v0) < nD := fun v0 k0_hw1 => k0_hw1.1.2.2.2.2.2.2.2.2.2.2.2.2.2.1
theorem k0_dev30_lt : ∀ (v0 : BitVec 32) (k0_hw1 : k0_chk1 v0), (k0_dev30 v0) < nD := fun v0 k0_hw1 => k0_hw1.1.2.2.2.2.2.2.2.2.2.2.2.2.2.2.1
theorem k0_dev31_lt : ∀ (v0 : BitVec 32) (k0_hw1 : k0_chk1 v0), (k0_dev31 v0) < nD := fun v0 k0_hw1 => k0_hw1.1.2.2.2.2.2.2.2.2.2.2.2.2.2.2.2.1
theorem k0_dev36_lt : ∀ (v0 : BitVec 32) (k0_hw1 : k0_chk1 v0), (k0_dev36 v0) < nD := fun v0 k0_hw1 => k0_hw1.1.2.2.2.2.2.2.2.2.2.2.2.2.2.2.2.2.1
theorem k0_dev37_lt : ∀ (v0 : BitVec 32) (k0_hw1 : k0_chk1 v0), (k0_dev37 v0) < nD := fun v0 k0_hw1 => k0_hw1.1.2.2.2.2.2.2.2.2.2.2.2.2.2.2.2.2.2.1
theorem k0_dev38_lt : ∀ (v0 : BitVec 32) (k0_hw1 : k0_chk1 v0), (k0_dev38 v0) < nD := fun v0 k0_hw1 => k0_hw1.1.2.2.2.2.2.2.2.2.2.2.2.2.2.2.2.2.2.2.1
theorem k0_dev39_lt : ∀ (v0 : BitVec 32) (k0_hw1 : k0_chk1 v0), (k0_dev39 v0) < nD := fun v0 k0_hw1 => k0_hw1.1.2.2.2.2.2.2.2.2.2.2.2.2.2.2.2.2.2.2.2.1
theorem k0_dev44_lt : ∀ (v0 : BitVec 32) (k0_hw1 : k0_chk1 v0), (k0_dev44 v0) < nD := fun v0 k0_hw1 => k0_hw1.1.2.2.2.2.2.2.2.2.2.2.2.2.2.2.2.2.2.2.2.2.1
theorem k0_dev45_lt : ∀ (v0 : BitVec 32) (k0_hw1 : k0_chk1 v0), (k0_dev45 v0) < nD := fun v0 k0_hw1 => k0_hw1.1.2.2.2.2.2.2.2.2.2.2.2.2.2.2.2.2.2.2.2.2.2.1
theorem k0_dev46_lt : ∀ (v0 : BitVec 32) (k0_hw1 : k0_chk1 v0), (k0_dev46 v0) < nD := fun v0 k0_hw1 => k0_hw1.1.2.2.2.2.2.2.2.2.2.2.2.2.2.2.2.2.2.2.2.2.2.2.1
theorem k0_dev47_lt : ∀ (v0 : BitVec 32) (k0_hw1 : k0_chk1 v0), (k0_dev47 v0) < nD := fun v0 k0_hw1 => k0_hw1.1.2.2.2.2.2.2.2.2.2.2.2.2.2.2.2.2.2.2.2.2.2.2.2.1
theorem k0_dev52_lt : ∀ (v0 : BitVec 32) (k0_hw1 : k0_chk1 v0), (k0_dev52 v0) < nD := fun v0 k0_hw1 => k0_hw1.1.2.2.2.2.2.2.2.2.2.2.2.2.2.2.2.2.2.2.2.2.2.2.2.2.1
theorem k0_dev53_lt : ∀ (v0 : BitVec 32) (k0_hw1 : k0_chk1 v0), (k0_dev53 v0) < nD := fun v0 k0_hw1 => k0_hw1.1.2.2.2.2.2.2.2.2.2.2.2.2.2.2.2.2.2.2.2.2.2.2.2.2.2.1
theorem k0_dev54_lt : ∀ (v0 : BitVec 32) (k0_hw1 : k0_chk1 v0), (k0_dev54 v0) < nD := fun v0 k0_hw1 => k0_hw1.1.2.2.2.2.2.2.2.2.2.2.2.2.2.2.2.2.2.2.2.2.2.2.2.2.2.2.1
theorem k0_dev55_lt : ∀ (v0 : BitVec 32) (k0_hw1 : k0_chk1 v0), (k0_dev55 v0) < nD := fun v0 k0_hw1 => k0_hw1.1.2.2.2.2.2.2.2.2.2.2.2.2.2.2.2.2.2.2.2.2.2.2.2.2.2.2.2.1
theorem k0_dev60_lt : ∀ (v0 : BitVec 32) (k0_hw1 : k0_chk1 v0), (k0_dev60 v0) < nD := fun v0 k0_hw1 => k0_hw1.1.2.2.2.2.2.2.2.2.2.2.2.2.2.2.2.2.2.2.2.2.2.2.2.2.2.2.2.2.1
theorem k0_dev61_lt : ∀ (v0 : BitVec 32) (k0_hw1 : k0_chk1 v0), (k0_dev61 v0) < nD := fun v0 k0_hw1 => k0_hw1.1.2.2.2.2.2.2.2.2.2.2.2.2.2.2.2.2.2.2.2.2.2.2.2.2.2.2.2.2.2.1
theorem k0_dev62_lt : ∀ (v0 : BitVec 32) (k0_hw1 : k0_chk1 v0), (k0_dev62 v0) < nD := fun v0 k0_hw1 => k0_hw1.1.2.2.2.2.2.2.2.2.2.2.2.2.2.2.2.2.2.2.2.2.2.2.2.2.2.2.2.2.2.2.1
theorem k0_dev63_lt : ∀ (v0 : BitVec 32) (k0_hw1 : k0_chk1 v0), (k0_dev63 v0) < nD := fun v0 k0_hw1 => k0_hw1.1.2.2.2.2.2.2.2.2.2.2.2.2.2.2.2.2.2.2.2.2.2.2.2.2.2.2.2.2.2.2.2
theorem k0_dev68_lt : ∀ (v0 : BitVec 32) (k0_hw1 : k0_chk1 v0), (k0_dev68 v0) < nD := fun v0 k0_hw1 => k0_hw1.2.1
theorem k0_dev69_lt : ∀ (v0 : BitVec 32) (k0_hw1 : k0_chk1 v0), (k0_dev69 v0) < nD := fun v0 k0_hw1 => k0_hw1.2.2.1
theorem k0_dev70_lt : ∀ (v0 : BitVec 32) (k0_hw1 : k0_chk1 v0), (k0_dev70 v0) < nD := fun v0 k0_hw1 => k0_hw1.2.2.2.1
theorem k0_dev71_lt : ∀ (v0 : BitVec 32) (k0_hw1 : k0_chk1 v0), (k0_dev71 v0) < nD := fun v0 k0_hw1 => k0_hw1.2.2.2.2.1
theorem k0_dev76_lt : ∀ (v0 : BitVec 32) (k0_hw1 : k0_chk1 v0), (k0_dev76 v0) < nD := fun v0 k0_hw1 => k0_hw1.2.2.2.2.2.1
theorem k0_dev77_lt : ∀ (v0 : BitVec 32) (k0_hw1 : k0_chk1 v0), (k0_dev77 v0) < nD := fun v0 k0_hw1 => k0_hw1.2.2.2.2.2.2.1
theorem k0_dev78_lt : ∀ (v0 : BitVec 32) (k0_hw1 : k0_chk1 v0), (k0_dev78 v0) < nD := fun v0 k0_hw1 => k0_hw1.2.2.2.2.2.2.2.1
theorem k0_dev79_lt : ∀ (v0 : BitVec 32) (k0_hw1 : k0_chk1 v0), (k0_dev79 v0) < nD := fun v0 k0_hw1 => k0_hw1.2.2.2.2.2.2.2.2.1
theorem k0_dev84_lt : ∀ (v0 : BitVec 32) (k0_hw1 : k0_chk1 v0), (k0_dev84 v0) < nD := fun v0 k0_hw1 => k0_hw1.2.2.2.2.2.2.2.2.2.1
theorem k0_dev85_lt : ∀ (v0 : BitVec 32) (k0_hw1 : k0_chk1 v0), (k0_dev85 v0) < nD := fun v0 k0_hw1 => k0_hw1.2.2.2.2.2.2.2.2.2.2.1
theorem k0_dev86_lt : ∀ (v0 : BitVec 32) (k0_hw1 : k0_chk1 v0), (k0_dev86 v0) < nD := fun v0 k0_hw1 => k0_hw1.2.2.2.2.2.2.2.2.2.2.2.1
theorem k0_dev87_lt : ∀ (v0 : BitVec 32) (k0_hw1 : k0_chk1 v0), (k0_dev87 v0) < nD := fun v0 k0_hw1 => k0_hw1.2.2.2.2.2.2.2.2.2.2.2.2.1
theorem k0_dev92_lt : ∀ (v0 : BitVec 32) (k0_hw1 : k0_chk1 v0), (k0_dev92 v0) < nD := fun v0 k0_hw1 => k0_hw1.2.2.2.2.2.2.2.2.2.2.2.2.2.1
theorem k0_dev93_lt : ∀ (v0 : BitVec 32) (k0_hw1 : k0_chk1 v0), (k0_dev93 v0) < nD := fun v0 k0_hw1 => k0_hw1.2.2.2.2.2.2.2.2.2.2.2.2.2.2.1
theorem k0_dev94_lt : ∀ (v0 : BitVec 32) (k0_hw1 : k0_chk1 v0), (k0_dev94 v0) < nD := fun v0 k0_hw1 => k0_hw1.2.2.2.2.2.2.2.2.2.2.2.2.2.2.2.1
theorem k0_dev95_lt : ∀ (v0 : BitVec 32) (k0_hw1 : k0_chk1 v0), (k0_dev95 v0) < nD := fun v0 k0_hw1 => k0_hw1.2.2.2.2.2.2.2.2.2.2.2.2.2.2.2.2.1
theorem k0_dev100_lt : ∀ (v0 : BitVec 32) (k0_hw1 : k0_chk1 v0), (k0_dev100 v0) < nD := fun v0 k0_hw1 => k0_hw1.2.2.2.2.2.2.2.2.2.2.2.2.2.2.2.2.2.1
theorem k0_dev101_lt : ∀ (v0 : BitVec 32) (k0_hw1 : k0_chk1 v0), (k0_dev101 v0) < nD := fun v0 k0_hw1 => k0_hw1.2.2.2.2.2.2.2.2.2.2.2.2.2.2.2.2.2.2.1
theorem k0_dev102_lt : ∀ (v0 : BitVec 32) (k0_hw1 : k0_chk1 v0), (k0_dev102 v0) < nD := fun v0 k0_hw1 => k0_hw1.2.2.2.2.2.2.2.2.2.2.2.2.2.2.2.2.2.2.2.1
theorem k0_dev103_lt : ∀ (v0 : BitVec 32) (k0_hw1 : k0_chk1 v0), (k0_dev103 v0) < nD := fun v0 k0_hw1 => k0_hw1.2.2.2.2.2.2.2.2.2.2.2.2.2.2.2.2.2.2.2.2.1
theorem k0_dev108_lt : ∀ (v0 : BitVec 32) (k0_hw1 : k0_chk1 v0), (k0_dev108 v0) < nD := fun v0 k0_hw1 => k0_hw1.2.2.2.2.2.2.2.2.2.2.2.2.2.2.2.2.2.2.2.2.2.1
theorem k0_dev109_lt : ∀ (v0 : BitVec 32) (k0_hw1 : k0_chk1 v0), (k0_dev109 v0) < nD := fun v0 k0_hw1 => k0_hw1.2.2.2.2.2.2.2.2.2.2.2.2.2.2.2.2.2.2.2.2.2.2.1
theorem k0_dev110_lt : ∀ (v0 : BitVec 32) (k0_hw1 : k0_chk1 v0), (k0_dev110 v0) < nD := fun v0 k0_hw1 => k0_hw1.2.2.2.2.2.2.2.2.2.2.2.2.2.2.2.2.2.2.2.2.2.2.2.1
theorem k0_dev111_lt : ∀ (v0 : BitVec 32) (k0_hw1 : k0_chk1 v0), (k0_dev111 v0) < nD := fun v0 k0_hw1 => k0_hw1.2.2.2.2.2.2.2.2.2.2.2.2.2.2.2.2.2.2.2.2.2.2.2.2.1
theorem k0_dev115_lt : ∀ (v0 : BitVec 32) (k0_hw1 : k0_chk1 v0), (k0_dev115 v0) < nD := fun v0 k0_hw1 => k0_hw1.2.2.2.2.2.2.2.2.2.2.2.2.2.2.2.2.2.2.2.2.2.2.2.2.2.1
theorem k0_dev116_lt : ∀ (v0 : BitVec 32) (k0_hw1 : k0_chk1 v0), (k0_dev116 v0) < nD := fun v0 k0_hw1 => k0_hw1.2.2.2.2.2.2.2.2.2.2.2.2.2.2.2.2.2.2.2.2.2.2.2.2.2.2.1
theorem k0_dev117_lt : ∀ (v0 : BitVec 32) (k0_hw1 : k0_chk1 v0), (k0_dev117 v0) < nD := fun v0 k0_hw1 => k0_hw1.2.2.2.2.2.2.2.2.2.2.2.2.2.2.2.2.2.2.2.2.2.2.2.2.2.2.2

def k0_dev118 (v1 : BitVec 32) : Nat :=
  let c0_i32_2514 : BitVec 32 := 0#32
  let c1_i32_2513 : BitVec 32 := 1#32
  let v1968 : BitVec 32 := Scalar.muli v1 c1_i32_2513
  let v1969 : BitVec 32 := Scalar.addi c0_i32_2514 v1968
  v1969.toNat
def k0_dev119 (v1 : BitVec 32) : Nat :=
  let c0_i32_2530 : BitVec 32 := 0#32
  let c1_i32_2529 : BitVec 32 := 1#32
  let v1982 : BitVec 32 := Scalar.muli v1 c1_i32_2529
  let v1983 : BitVec 32 := Scalar.addi c0_i32_2530 v1982
  v1983.toNat
def k0_dev120 (v1 : BitVec 32) : Nat :=
  let c0_i32_2546 : BitVec 32 := 0#32
  let c1_i32_2545 : BitVec 32 := 1#32
  let v1996 : BitVec 32 := Scalar.muli v1 c1_i32_2545
  let v1997 : BitVec 32 := Scalar.addi c0_i32_2546 v1996
  v1997.toNat

def k0_chk2_0 (v1 : BitVec 32) : Prop :=
  ((k0_dev2 v1) < nD) ∧
  ((k0_dev3 v1) < nD) ∧
  ((k0_dev4 v1) < nD) ∧
  ((k0_dev5 v1) < nD) ∧
  ((k0_dev9 v1) < nD) ∧
  ((k0_dev10 v1) < nD) ∧
  ((k0_dev11 v1) < nD) ∧
  ((k0_dev16 v1) < nD) ∧
  ((k0_dev17 v1) < nD) ∧
  ((k0_dev18 v1) < nD) ∧
  ((k0_dev19 v1) < nD) ∧
  ((k0_dev24 v1) < nD) ∧
  ((k0_dev25 v1) < nD) ∧
  ((k0_dev26 v1) < nD) ∧
  ((k0_dev27 v1) < nD) ∧
  ((k0_dev32 v1) < nD) ∧
  ((k0_dev33 v1) < nD) ∧
  ((k0_dev34 v1) < nD) ∧
  ((k0_dev35 v1) < nD) ∧
  ((k0_dev40 v1) < nD) ∧
  ((k0_dev41 v1) < nD) ∧
  ((k0_dev42 v1) < nD) ∧
  ((k0_dev43 v1) < nD) ∧
  ((k0_dev48 v1) < nD) ∧
  ((k0_dev49 v1) < nD) ∧
  ((k0_dev50 v1) < nD) ∧
  ((k0_dev51 v1) < nD) ∧
  ((k0_dev56 v1) < nD) ∧
  ((k0_dev57 v1) < nD) ∧
  ((k0_dev58 v1) < nD) ∧
  ((k0_dev59 v1) < nD) ∧
  ((k0_dev64 v1) < nD)
def k0_chk2_1 (v1 : BitVec 32) : Prop :=
  ((k0_dev65 v1) < nD) ∧
  ((k0_dev66 v1) < nD) ∧
  ((k0_dev67 v1) < nD) ∧
  ((k0_dev72 v1) < nD) ∧
  ((k0_dev73 v1) < nD) ∧
  ((k0_dev74 v1) < nD) ∧
  ((k0_dev75 v1) < nD) ∧
  ((k0_dev80 v1) < nD) ∧
  ((k0_dev81 v1) < nD) ∧
  ((k0_dev82 v1) < nD) ∧
  ((k0_dev83 v1) < nD) ∧
  ((k0_dev88 v1) < nD) ∧
  ((k0_dev89 v1) < nD) ∧
  ((k0_dev90 v1) < nD) ∧
  ((k0_dev91 v1) < nD) ∧
  ((k0_dev96 v1) < nD) ∧
  ((k0_dev97 v1) < nD) ∧
  ((k0_dev98 v1) < nD) ∧
  ((k0_dev99 v1) < nD) ∧
  ((k0_dev104 v1) < nD) ∧
  ((k0_dev105 v1) < nD) ∧
  ((k0_dev106 v1) < nD) ∧
  ((k0_dev107 v1) < nD) ∧
  ((k0_dev112 v1) < nD) ∧
  ((k0_dev113 v1) < nD) ∧
  ((k0_dev114 v1) < nD) ∧
  ((k0_dev118 v1) < nD) ∧
  ((k0_dev119 v1) < nD) ∧
  ((k0_dev120 v1) < nD)
def k0_chk2 (v1 : BitVec 32) : Prop :=
  k0_chk2_0 v1 ∧
  k0_chk2_1 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev4_lt : ∀ (v1 : BitVec 32) (k0_hw2 : k0_chk2 v1), (k0_dev4 v1) < nD := fun v1 k0_hw2 => k0_hw2.1.2.2.1
theorem k0_dev5_lt : ∀ (v1 : BitVec 32) (k0_hw2 : k0_chk2 v1), (k0_dev5 v1) < nD := fun v1 k0_hw2 => k0_hw2.1.2.2.2.1
theorem k0_dev9_lt : ∀ (v1 : BitVec 32) (k0_hw2 : k0_chk2 v1), (k0_dev9 v1) < nD := fun v1 k0_hw2 => k0_hw2.1.2.2.2.2.1
theorem k0_dev10_lt : ∀ (v1 : BitVec 32) (k0_hw2 : k0_chk2 v1), (k0_dev10 v1) < nD := fun v1 k0_hw2 => k0_hw2.1.2.2.2.2.2.1
theorem k0_dev11_lt : ∀ (v1 : BitVec 32) (k0_hw2 : k0_chk2 v1), (k0_dev11 v1) < nD := fun v1 k0_hw2 => k0_hw2.1.2.2.2.2.2.2.1
theorem k0_dev16_lt : ∀ (v1 : BitVec 32) (k0_hw2 : k0_chk2 v1), (k0_dev16 v1) < nD := fun v1 k0_hw2 => k0_hw2.1.2.2.2.2.2.2.2.1
theorem k0_dev17_lt : ∀ (v1 : BitVec 32) (k0_hw2 : k0_chk2 v1), (k0_dev17 v1) < nD := fun v1 k0_hw2 => k0_hw2.1.2.2.2.2.2.2.2.2.1
theorem k0_dev18_lt : ∀ (v1 : BitVec 32) (k0_hw2 : k0_chk2 v1), (k0_dev18 v1) < nD := fun v1 k0_hw2 => k0_hw2.1.2.2.2.2.2.2.2.2.2.1
theorem k0_dev19_lt : ∀ (v1 : BitVec 32) (k0_hw2 : k0_chk2 v1), (k0_dev19 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev25_lt : ∀ (v1 : BitVec 32) (k0_hw2 : k0_chk2 v1), (k0_dev25 v1) < nD := fun v1 k0_hw2 => k0_hw2.1.2.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.2.1
theorem k0_dev32_lt : ∀ (v1 : BitVec 32) (k0_hw2 : k0_chk2 v1), (k0_dev32 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.2.1
theorem k0_dev40_lt : ∀ (v1 : BitVec 32) (k0_hw2 : k0_chk2 v1), (k0_dev40 v1) < nD := fun v1 k0_hw2 => k0_hw2.1.2.2.2.2.2.2.2.2.2.2.2.2.2.2.2.2.2.2.2.1
theorem k0_dev41_lt : ∀ (v1 : BitVec 32) (k0_hw2 : k0_chk2 v1), (k0_dev41 v1) < nD := fun v1 k0_hw2 => k0_hw2.1.2.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.2.1
theorem k0_dev48_lt : ∀ (v1 : BitVec 32) (k0_hw2 : k0_chk2 v1), (k0_dev48 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.2.1
theorem k0_dev56_lt : ∀ (v1 : BitVec 32) (k0_hw2 : k0_chk2 v1), (k0_dev56 v1) < nD := fun v1 k0_hw2 => k0_hw2.1.2.2.2.2.2.2.2.2.2.2.2.2.2.2.2.2.2.2.2.2.2.2.2.2.2.2.2.1
theorem k0_dev57_lt : ∀ (v1 : BitVec 32) (k0_hw2 : k0_chk2 v1), (k0_dev57 v1) < nD := fun v1 k0_hw2 => k0_hw2.1.2.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.2.1
theorem k0_dev64_lt : ∀ (v1 : BitVec 32) (k0_hw2 : k0_chk2 v1), (k0_dev64 v1) < nD := fun v1 k0_hw2 => k0_hw2.1.2.2.2.2.2.2.2.2.2.2.2.2.2.2.2.2.2.2.2.2.2.2.2.2.2.2.2.2.2.2.2
theorem k0_dev65_lt : ∀ (v1 : BitVec 32) (k0_hw2 : k0_chk2 v1), (k0_dev65 v1) < nD := fun v1 k0_hw2 => k0_hw2.2.1
theorem k0_dev66_lt : ∀ (v1 : BitVec 32) (k0_hw2 : k0_chk2 v1), (k0_dev66 v1) < nD := fun v1 k0_hw2 => k0_hw2.2.2.1
theorem k0_dev67_lt : ∀ (v1 : BitVec 32) (k0_hw2 : k0_chk2 v1), (k0_dev67 v1) < nD := fun v1 k0_hw2 => k0_hw2.2.2.2.1
theorem k0_dev72_lt : ∀ (v1 : BitVec 32) (k0_hw2 : k0_chk2 v1), (k0_dev72 v1) < nD := fun v1 k0_hw2 => k0_hw2.2.2.2.2.1
theorem k0_dev73_lt : ∀ (v1 : BitVec 32) (k0_hw2 : k0_chk2 v1), (k0_dev73 v1) < nD := fun v1 k0_hw2 => k0_hw2.2.2.2.2.2.1
theorem k0_dev74_lt : ∀ (v1 : BitVec 32) (k0_hw2 : k0_chk2 v1), (k0_dev74 v1) < nD := fun v1 k0_hw2 => k0_hw2.2.2.2.2.2.2.1
theorem k0_dev75_lt : ∀ (v1 : BitVec 32) (k0_hw2 : k0_chk2 v1), (k0_dev75 v1) < nD := fun v1 k0_hw2 => k0_hw2.2.2.2.2.2.2.2.1
theorem k0_dev80_lt : ∀ (v1 : BitVec 32) (k0_hw2 : k0_chk2 v1), (k0_dev80 v1) < nD := fun v1 k0_hw2 => k0_hw2.2.2.2.2.2.2.2.2.1
theorem k0_dev81_lt : ∀ (v1 : BitVec 32) (k0_hw2 : k0_chk2 v1), (k0_dev81 v1) < nD := fun v1 k0_hw2 => k0_hw2.2.2.2.2.2.2.2.2.2.1
theorem k0_dev82_lt : ∀ (v1 : BitVec 32) (k0_hw2 : k0_chk2 v1), (k0_dev82 v1) < nD := fun v1 k0_hw2 => k0_hw2.2.2.2.2.2.2.2.2.2.2.1
theorem k0_dev83_lt : ∀ (v1 : BitVec 32) (k0_hw2 : k0_chk2 v1), (k0_dev83 v1) < nD := fun v1 k0_hw2 => k0_hw2.2.2.2.2.2.2.2.2.2.2.2.1
theorem k0_dev88_lt : ∀ (v1 : BitVec 32) (k0_hw2 : k0_chk2 v1), (k0_dev88 v1) < nD := fun v1 k0_hw2 => k0_hw2.2.2.2.2.2.2.2.2.2.2.2.2.1
theorem k0_dev89_lt : ∀ (v1 : BitVec 32) (k0_hw2 : k0_chk2 v1), (k0_dev89 v1) < nD := fun v1 k0_hw2 => k0_hw2.2.2.2.2.2.2.2.2.2.2.2.2.2.1
theorem k0_dev90_lt : ∀ (v1 : BitVec 32) (k0_hw2 : k0_chk2 v1), (k0_dev90 v1) < nD := fun v1 k0_hw2 => k0_hw2.2.2.2.2.2.2.2.2.2.2.2.2.2.2.1
theorem k0_dev91_lt : ∀ (v1 : BitVec 32) (k0_hw2 : k0_chk2 v1), (k0_dev91 v1) < nD := fun v1 k0_hw2 => k0_hw2.2.2.2.2.2.2.2.2.2.2.2.2.2.2.2.1
theorem k0_dev96_lt : ∀ (v1 : BitVec 32) (k0_hw2 : k0_chk2 v1), (k0_dev96 v1) < nD := fun v1 k0_hw2 => k0_hw2.2.2.2.2.2.2.2.2.2.2.2.2.2.2.2.2.1
theorem k0_dev97_lt : ∀ (v1 : BitVec 32) (k0_hw2 : k0_chk2 v1), (k0_dev97 v1) < nD := fun v1 k0_hw2 => k0_hw2.2.2.2.2.2.2.2.2.2.2.2.2.2.2.2.2.2.1
theorem k0_dev98_lt : ∀ (v1 : BitVec 32) (k0_hw2 : k0_chk2 v1), (k0_dev98 v1) < nD := fun v1 k0_hw2 => k0_hw2.2.2.2.2.2.2.2.2.2.2.2.2.2.2.2.2.2.2.1
theorem k0_dev99_lt : ∀ (v1 : BitVec 32) (k0_hw2 : k0_chk2 v1), (k0_dev99 v1) < nD := fun v1 k0_hw2 => k0_hw2.2.2.2.2.2.2.2.2.2.2.2.2.2.2.2.2.2.2.2.1
theorem k0_dev104_lt : ∀ (v1 : BitVec 32) (k0_hw2 : k0_chk2 v1), (k0_dev104 v1) < nD := fun v1 k0_hw2 => k0_hw2.2.2.2.2.2.2.2.2.2.2.2.2.2.2.2.2.2.2.2.2.1
theorem k0_dev105_lt : ∀ (v1 : BitVec 32) (k0_hw2 : k0_chk2 v1), (k0_dev105 v1) < nD := fun v1 k0_hw2 => k0_hw2.2.2.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.2.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.2.2.2.2.2.2.2.2.2.2.2.2.2.2.2.2.2.2.2.2.2.2.1
theorem k0_dev112_lt : ∀ (v1 : BitVec 32) (k0_hw2 : k0_chk2 v1), (k0_dev112 v1) < nD := fun v1 k0_hw2 => k0_hw2.2.2.2.2.2.2.2.2.2.2.2.2.2.2.2.2.2.2.2.2.2.2.2.2.1
theorem k0_dev113_lt : ∀ (v1 : BitVec 32) (k0_hw2 : k0_chk2 v1), (k0_dev113 v1) < nD := fun v1 k0_hw2 => k0_hw2.2.2.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.2.2.2.2.2.2.2.2.2.2.2.2.2.2.2.2.2.2.2.2.2.2.2.2.2.2.2.1
theorem k0_dev120_lt : ∀ (v1 : BitVec 32) (k0_hw2 : k0_chk2 v1), (k0_dev120 v1) < nD := fun v1 k0_hw2 => k0_hw2.2.2.2.2.2.2.2.2.2.2.2.2.2.2.2.2.2.2.2.2.2.2.2.2.2.2.2.2.2

abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/- The kernel body as a list of steps.

   The printed body is one long sequence of about nine hundred operations. Here the same sequence is
   written as a short prefix and a LIST of steps, each step one of six forms (start a copy, wait for
   its sending half, wait for its receiving half, wait for a credit, give a credit, one tile of the
   product), and the two are shown to be the same program by the kernel's own unfolding. -/
module

public import proofs.«01_k».proof.Proof.Gen.KernelIdeal.Points

@[expose] public section

noncomputable section

namespace Cert.KernelIdeal.Own

open Idealize.ShloMosaic Idealize.ShloMosaic.TcCoe
open Idealize.SL Idealize.SL.Sem
open Cert.KernelIdeal Cert.KernelIdeal.Gen

variable {F : FTy → Type} [FloatOps F]

/-- The two directions of the ring. -/
inductive Dr | R | L
deriving DecidableEq
/-- The three parts a slot is sent in: the upper and lower half of the x columns, and the w rows. -/
inductive Hf | x0 | x1 | w
deriving DecidableEq
/-- How a tile of the product is stored: put, added, or added and scaled. -/
inductive Md | init | mid | fin
deriving DecidableEq
/-- How many slots a product takes at once. -/
inductive Nc | one | three | four
deriving DecidableEq

instance : Fintype Dr := ⟨{.R, .L}, by intro d; cases d <;> decide⟩
instance : Fintype Hf := ⟨{.x0, .x1, .w}, by intro d; cases d <;> decide⟩

/-- One step of the body. -/
inductive Op
  | sendW (d : Dr) (h : Hf) (s : Fin 16)
  | send (d : Dr) (h : Hf) (s : Fin 16)
  | recvW (d : Dr) (h : Hf) (s : Fin 16)
  | credW (d : Dr) (i : ℕ)
  | credS (d : Dr) (i : ℕ)
  | tile (md : Md) (nc : Nc) (c0 : Fin 29) (m : Fin 8)
deriving DecidableEq

/-- The slot step `s` sends. -/
def srcJ : Dr → Fin 16 → Fin 32
  | .R, s => ⟨(32 - s.val) % 32, Nat.mod_lt _ (by decide)⟩
  | .L, s => ⟨s.val, by omega⟩
/-- The slot it lands in. -/
def dstJ : Dr → Fin 16 → Fin 32
  | .R, s => ⟨31 - s.val, by omega⟩
  | .L, s => ⟨s.val + 1, by omega⟩

/-! ## The pieces -/

abbrev hsh : Hf → Shape | .w => S128x2048 | _ => S2048x128
abbrev hel : Hf → EltTy | .w => .fp8e5m2 | _ => .fp8e4m3

theorem inb_x (h : ℕ) (j : Fin 32) (hh : h ≤ 2048) :
    ∀ a, (![h, j.val * 128] : Fin 2 → Nat) a + S2048x128.size a ≤ S4096x4096.size a := by
  intro a; have := j.isLt; fin_cases a <;> simp [S2048x128, S4096x4096] <;> omega
theorem inb_w (j : Fin 32) : ∀ a, (![j.val * 128, 0] : Fin 2 → Nat) a + S128x2048.size a ≤ S4096x2048.size a := by
  intro a; have := j.isLt; fin_cases a <;> simp [S128x2048, S4096x2048] <;> omega

/-- Half `h` of slot `j` of the two gathering buffers. -/
def pc : (h : Hf) → Fin 32 → Memref sig .tc .vmem (hsh h) (hel h)
  | .x0, j => (Memref.whole cc0_scratch0).slice (Rect.unit (s := S4096x4096) ![0, j.val * 128] S2048x128.size (inb_x 0 j (by decide))) (fun _ => rfl)
  | .x1, j => (Memref.whole cc0_scratch0).slice (Rect.unit (s := S4096x4096) ![2048, j.val * 128] S2048x128.size (inb_x 2048 j (by decide))) (fun _ => rfl)
  | .w, j => (Memref.whole cc0_scratch1).slice (Rect.unit (s := S4096x2048) ![j.val * 128, 0] S128x2048.size (inb_w j)) (fun _ => rfl)

theorem pc_words (h : Hf) (j : Fin 32) : (pc h j).view.WordExact := by
  cases h
  · exact (Memref.isWhole_whole _).wordExact_slice rfl _ (.inl (.inr ⟨by decide, rfl, .inl ⟨⟨0, rfl⟩, ⟨512, rfl⟩⟩⟩))
  · exact (Memref.isWhole_whole _).wordExact_slice rfl _ (.inl (.inr ⟨by decide, rfl, .inl ⟨⟨512, rfl⟩, ⟨512, rfl⟩⟩⟩))
  · exact (Memref.isWhole_whole _).wordExact_slice rfl _ (.inl (.inr ⟨by decide, rfl, .inl ⟨⟨j.val * 32, by show j.val * 128 = 4 * (j.val * 32); omega⟩, ⟨32, rfl⟩⟩⟩))

/-- The send semaphores of a direction and half. -/
def sArr : Dr → Hf → DmaSems sig S3
  | .R, .x0 => cc0_scratch2 | .R, .x1 => cc0_scratch4 | .R, .w => cc0_scratch6
  | .L, .x0 => cc0_scratch8 | .L, .x1 => cc0_scratch10 | .L, .w => cc0_scratch12
/-- The receive semaphores. -/
def rArr : Dr → Hf → DmaSems sig S3
  | .R, .x0 => cc0_scratch3 | .R, .x1 => cc0_scratch5 | .R, .w => cc0_scratch7
  | .L, .x0 => cc0_scratch9 | .L, .x1 => cc0_scratch11 | .L, .w => cc0_scratch13
theorem inb_s (k : Fin 3) : ∀ a, (![k.val] : Fin 1 → Nat) a + S1.size a ≤ S3.size a := by
  intro a; have := k.isLt; fin_cases a; simp [S1, S3]; omega
/-- Entry `k` of an array of three semaphores. -/
def sem3 (a : DmaSems sig S3) (k : Fin 3) : DmaSem sig :=
  ((a.slice (Rect.unit (s := S3) ![k.val] S1.size (inb_s k))).squeeze S_ squeezes_S1_S_).sem
/-- Step number to the semaphore it uses. -/
def k3 (s : Fin 16) : Fin 3 := ⟨s.val % 3, Nat.mod_lt _ (by decide)⟩
def sSem (d : Dr) (h : Hf) (s : Fin 16) : DmaSem sig := sem3 (sArr d h) (k3 s)
def rSem (d : Dr) (h : Hf) (s : Fin 16) : DmaSem sig := sem3 (rArr d h) (k3 s)
/-- The credit semaphore of a direction. -/
def cSem : Dr → Sem sig | .R => cc0_scratch14.sem | .L => cc0_scratch15.sem

/-- The barrier semaphore. -/
abbrev barSem : Sem sig := (SemArray.scalar (sig.barrier 0 rfl) : Sems sig S_).sem

/-! ## One tile of the product -/

abbrev xsh : Nc → Shape | .one => S512x128 | .three => S512x384 | .four => S512x512
abbrev wsh : Nc → Shape | .one => S128x2048 | .three => S384x2048 | .four => S512x2048
def Nc.n : Nc → ℕ | .one => 1 | .three => 3 | .four => 4

theorem inb_tx (nc : Nc) (m : Fin 8) (c0 : Fin 29) :
    ∀ a, (![m.val * 512, c0.val * 128] : Fin 2 → Nat) a + (xsh nc).size (Fin.cast (by cases nc <;> rfl) a) ≤ S4096x4096.size a := by
  intro a; have := m.isLt; have := c0.isLt; cases nc <;> fin_cases a <;> simp [S512x128, S512x384, S512x512, S4096x4096] <;> omega
theorem inb_tw (nc : Nc) (c0 : Fin 29) :
    ∀ a, (![c0.val * 128, 0] : Fin 2 → Nat) a + (wsh nc).size (Fin.cast (by cases nc <;> rfl) a) ≤ S4096x2048.size a := by
  intro a; have := c0.isLt; cases nc <;> fin_cases a <;> simp [S128x2048, S384x2048, S512x2048, S4096x2048] <;> omega
theorem inb_to (m : Fin 8) : ∀ a, (![m.val * 512, 0] : Fin 2 → Nat) a + S512x2048.size a ≤ S4096x2048.size a := by
  intro a; have := m.isLt; fin_cases a <;> simp [S512x2048, S4096x2048] <;> omega

/-- The rectangle of the gathered x a tile reads. -/
def rx : (nc : Nc) → Fin 8 → Fin 29 → Rect S4096x4096
  | .one, m, c0 => Rect.unit (s := S4096x4096) ![m.val * 512, c0.val * 128] S512x128.size (inb_tx .one m c0)
  | .three, m, c0 => Rect.unit (s := S4096x4096) ![m.val * 512, c0.val * 128] S512x384.size (inb_tx .three m c0)
  | .four, m, c0 => Rect.unit (s := S4096x4096) ![m.val * 512, c0.val * 128] S512x512.size (inb_tx .four m c0)
/-- The rectangle of the gathered w a tile reads. -/
def rw' : (nc : Nc) → Fin 29 → Rect S4096x2048
  | .one, c0 => Rect.unit (s := S4096x2048) ![c0.val * 128, 0] S128x2048.size (inb_tw .one c0)
  | .three, c0 => Rect.unit (s := S4096x2048) ![c0.val * 128, 0] S384x2048.size (inb_tw .three c0)
  | .four, c0 => Rect.unit (s := S4096x2048) ![c0.val * 128, 0] S512x2048.size (inb_tw .four c0)
/-- The rectangle of the output a tile writes. -/
def ro (m : Fin 8) : Rect S4096x2048 := Rect.unit (s := S4096x2048) ![m.val * 512, 0] S512x2048.size (inb_to m)

theorem rx_loads (nc : Nc) (m : Fin 8) (c0 : Fin 29) : (Memref.whole cc0_scratch0).view.LoadsAt (rx nc m c0).toLoadRect := by
  cases nc
  · exact View.loadsAt_vmem (show 0 < S512x128.numel by decide)
  · exact View.loadsAt_vmem (show 0 < S512x384.numel by decide)
  · exact View.loadsAt_vmem (show 0 < S512x512.numel by decide)
theorem rw_loads (nc : Nc) (c0 : Fin 29) : (Memref.whole cc0_scratch1).view.LoadsAt (rw' nc c0).toLoadRect := by
  cases nc
  · exact View.loadsAt_vmem (show 0 < S128x2048.numel by decide)
  · exact View.loadsAt_vmem (show 0 < S384x2048.numel by decide)
  · exact View.loadsAt_vmem (show 0 < S512x2048.numel by decide)

/-- The product of one tile: `nc` slots at once, from a zero start. -/
def tdot : (nc : Nc) → (m : Fin 8) → (c0 : Fin 29) → Vec F (rx nc m c0).shape .fp8e4m3 → Vec F (rw' nc c0).shape .fp8e5m2 → FVec F S512x2048 .f32
  | .one, _, _, a, b => matmul dot_S512x128_S128x2048_S512x2048_1_0_0_1_n_n none a b (constant S512x2048 .f32 0x00000000#32)
  | .three, _, _, a, b => matmul dot_S512x384_S384x2048_S512x2048_1_0_0_1_n_n none a b (constant S512x2048 .f32 0x00000000#32)
  | .four, _, _, a, b => matmul dot_S512x512_S512x2048_S512x2048_1_0_0_1_n_n none a b (constant S512x2048 .f32 0x00000000#32)

/-- What is stored, from the product and what stood there. -/
def tput (v4 : F .f32) : Md → FVec F S512x2048 .f32 → FVec F S512x2048 .f32 → FVec F S512x2048 .f32
  | .init, p, _ => p
  | .mid, p, o => addf (shapeCast S512x2048 o shapeCasts_S512x2048_S512x2048) p
  | .fin, p, o => mulf (addf (shapeCast S512x2048 o shapeCasts_S512x2048_S512x2048) p) (broadcast S512x2048 v4)

abbrev PP (F : FTy → Type) [FloatOps F] := Prog (TpuEff nD τ sig (Elt F) Λ₀ .tc) PUnit

/-- The steps after the product: load, and load again where the value is added, then store. -/
def tileTail (arg6 : Memref sig .tc .vmem S4096x2048 .f32) (v4 : F .f32) (m : Fin 8) (p : FVec F S512x2048 .f32) : Md → PP F
  | .init => do
    let o : Vec F S512x2048 .f32 ← Prog.lift (.load arg6 (ro m).toLoadRect (View.loadsAt_vmem h_S512x2048))
    Prog.lift (.store arg6 (ro m) (tput v4 .init p o) Finset.univ (View.stores_vmem_bits_univ h_S512x2048 rfl) (.inl rfl))
  | .mid => do
    let o : Vec F S512x2048 .f32 ← Prog.lift (.load arg6 (ro m).toLoadRect (View.loadsAt_vmem h_S512x2048))
    let _o' : Vec F S512x2048 .f32 ← Prog.lift (.load arg6 (ro m).toLoadRect (View.loadsAt_vmem h_S512x2048))
    Prog.lift (.store arg6 (ro m) (tput v4 .mid p o) Finset.univ (View.stores_vmem_bits_univ h_S512x2048 rfl) (.inl rfl))
  | .fin => do
    let o : Vec F S512x2048 .f32 ← Prog.lift (.load arg6 (ro m).toLoadRect (View.loadsAt_vmem h_S512x2048))
    let _o' : Vec F S512x2048 .f32 ← Prog.lift (.load arg6 (ro m).toLoadRect (View.loadsAt_vmem h_S512x2048))
    Prog.lift (.store arg6 (ro m) (tput v4 .fin p o) Finset.univ (View.stores_vmem_bits_univ h_S512x2048 rfl) (.inl rfl))

/-! ## A step as a program -/

/-- The device a direction sends to: `dl` is the left neighbour, `dr` the right one. -/
def tgt (dl dr : Dev nD) : Dr → Dev nD | .R => dr | .L => dl
/-- The device a direction's credit goes to. -/
def ctgt (dl dr : Dev nD) : Dr → Dev nD | .R => dl | .L => dr

/-- The program of a step. -/
def Op.prog (arg6 : Memref sig .tc .vmem S4096x2048 .f32) (dl dr : Dev nD) (v4 : F .f32) : Op → PP F
  | .sendW d h s => Prog.lift (.waitDma2 (sSem d h s) (pc h (dstJ d s)) (pc h (srcJ d s)) (pc_words _ _) (pc_words _ _))
  | .send d h s => Prog.lift (.enqueueDma (pc h (srcJ d s)) (.remote (Dev.tc (tgt dl dr d)) (pc h (dstJ d s)) (.dma (sSem d h s))) (.dma (rSem d h s))
      (pc_words _ _) (pc_words _ _) ⟨⟨rfl, Or.inl rfl⟩, trivial⟩)
  | .recvW d h s => Prog.lift (.waitDma2 (rSem d h s) (pc h (srcJ d s)) (pc h (dstJ d s)) (pc_words _ _) (pc_words _ _))
  | .credW d _ => semWaitWord (cSem d) 1#32
  | .credS d _ => semSignalWord (ctgt dl dr d) (cSem d) 1#32
  | .tile md nc c0 m => do
    let a ← Prog.lift (.load (Memref.whole cc0_scratch0) (rx nc m c0).toLoadRect (rx_loads nc m c0))
    let b ← Prog.lift (.load (Memref.whole cc0_scratch1) (rw' nc c0).toLoadRect (rw_loads nc c0))
    tileTail arg6 v4 m (tdot nc m c0 a b) md

/-- Run a list of steps. -/
def runOps (arg6 : Memref sig .tc .vmem S4096x2048 .f32) (dl dr : Dev nD) (v4 : F .f32) : List Op → PP F
  | [] => pure ⟨⟩
  | o :: l => (o.prog arg6 dl dr v4).bind fun _ => runOps arg6 dl dr v4 l

/-! ## The list -/

def hfs : List Hf := [.x0, .x1, .w]
def f16 (s : ℕ) : Fin 16 := ⟨s % 16, Nat.mod_lt _ (by decide)⟩
def when' (b : Bool) (l : List Op) : List Op := match b with | true => l | false => []

/-- One direction's part of step `s`: `n` sends in all, `n - 3` credits. -/
def dirOps (d : Dr) (n s : ℕ) : List Op :=
  when' (Nat.ble 3 s && Nat.blt s n) (hfs.map (fun h => .sendW d h (f16 (s - 3))) ++ [.credW d (s - 3)])
  ++ hfs.flatMap (fun h => when' (Nat.ble 1 s && Nat.ble s n) [.recvW d h (f16 (s - 1))] ++ when' (Nat.blt s n) [.send d h (f16 s)])
  ++ when' (Nat.ble 1 s && Nat.ble (s + 3) n) [.credS d (s - 1)]

/-- The eight tiles of one product. -/
def accOps (md : Md) (nc : Nc) (c0 : Fin 29) : List Op :=
  [.tile md nc c0 0, .tile md nc c0 1, .tile md nc c0 2, .tile md nc c0 3, .tile md nc c0 4, .tile md nc c0 5, .tile md nc c0 6, .tile md nc c0 7]

/-- The products run after the copies of step `s`. -/
def midOps : ℕ → List Op
  | 0 => accOps .init .one 0
  | 5 => accOps .mid .four 28 ++ accOps .mid .four 1
  | 9 => accOps .mid .four 24 ++ accOps .mid .four 5
  | 13 => accOps .mid .four 20 ++ accOps .mid .four 9
  | 16 => accOps .mid .three 13 ++ accOps .fin .four 16
  | _ => []

def steps : List ℕ := [0, 1, 2, 3, 4, 5, 6, 7, 8, 9, 10, 11, 12, 13, 14, 15, 16]

/-- All the steps. -/
def trace : List Op :=
  steps.flatMap (fun s => dirOps .R 16 s ++ dirOps .L 15 s ++ midOps s)
  ++ [13, 14, 15].flatMap (fun s => hfs.map (fun h => .sendW .R h (f16 s)))
  ++ [12, 13, 14].flatMap (fun s => hfs.map (fun h => .sendW .L h (f16 s)))

/-! ## The body -/

/-- A neighbour's number as the body computes it. -/
abbrev word1 (v : BitVec 32) : ℕ := (Scalar.addi 0#32 (Scalar.muli v 1#32)).toNat

/-- The body: read the scalars, put the device's own shards into slot 0, meet the neighbours, then the steps. -/
def bodyOps (arg0 : Memref sig .tc .vmem S4096x128 .fp8e4m3) (arg1 : Memref sig .tc .vmem S128x2048 .fp8e5m2)
    (arg2 arg3 : Memref sig .tc .smem S1 .f32) (arg4 arg5 : Memref sig .tc .smem S1 .i32) (arg6 : Memref sig .tc .vmem S4096x2048 .f32) : PP F := do
  let v0 : Elt F .i32 ← smemLoad arg5 (Rect.unit (s := S1) ![0] S1.size inb_S1_S1_0) numel1_S1 rfl
  have hw1 : k0_chk1 v0 := (← Prog.lift (TpuEff.assume (k0_chk1 v0) (k0_chk1.dec v0))).down
  let v1 : Elt F .i32 ← smemLoad arg4 (Rect.unit (s := S1) ![0] S1.size inb_S1_S1_0) numel1_S1 rfl
  have hw2 : k0_chk2 v1 := (← Prog.lift (TpuEff.assume (k0_chk2 v1) (k0_chk2.dec v1))).down
  let v2 : Elt F .f32 ← smemLoad arg2 (Rect.unit (s := S1) ![0] S1.size inb_S1_S1_0) numel1_S1 rfl
  let v3 : Elt F .f32 ← smemLoad arg3 (Rect.unit (s := S1) ![0] S1.size inb_S1_S1_0) numel1_S1 rfl
  let v5 : Vec F S4096x128 .fp8e4m3 ← Prog.lift (.load arg0 (Rect.unit (s := S4096x128) ![0, 0] S4096x128.size inb_S4096x128_S4096x128_0_0).toLoadRect (View.loadsAt_vmem h_S4096x128))
  let _v7 : Vec F S4096x128 .fp8e4m3 ← Prog.lift (.load (Memref.whole cc0_scratch0) (Rect.unit (s := S4096x4096) ![0, 0] S4096x128.size inb_S4096x4096_S4096x128_0_0).toLoadRect (View.loadsAt_vmem h_S4096x128))
  Prog.lift (.store (Memref.whole cc0_scratch0) (Rect.unit (s := S4096x4096) ![0, 0] S4096x128.size inb_S4096x4096_S4096x128_0_0)
    (shapeCast S4096x128 (shapeCast S4096x128 v5 shapeCasts_S4096x128_S4096x128) shapeCasts_S4096x128_S4096x128) Finset.univ
    (View.stores_vmem h_S4096x128 ((Memref.isWhole_whole _).storeExact_slice rfl _ packedfp8e4m3_S4096x4096_S4096x128_0_0) (fun _ => rfl)) (.inl rfl))
  let v10 : Vec F S128x2048 .fp8e5m2 ← Prog.lift (.load arg1 (Rect.unit (s := S128x2048) ![0, 0] S128x2048.size inb_S128x2048_S128x2048_0_0).toLoadRect (View.loadsAt_vmem h_S128x2048))
  let _v12 : Vec F S128x2048 .fp8e5m2 ← Prog.lift (.load (Memref.whole cc0_scratch1) (Rect.unit (s := S4096x2048) ![0, 0] S128x2048.size inb_S4096x2048_S128x2048_0_0).toLoadRect (View.loadsAt_vmem h_S128x2048))
  Prog.lift (.store (Memref.whole cc0_scratch1) (Rect.unit (s := S4096x2048) ![0, 0] S128x2048.size inb_S4096x2048_S128x2048_0_0)
    (shapeCast S128x2048 (shapeCast S128x2048 v10 shapeCasts_S128x2048_S128x2048) shapeCasts_S128x2048_S128x2048) Finset.univ
    (View.stores_vmem h_S128x2048 ((Memref.isWhole_whole _).storeExact_slice rfl _ packedfp8e5m2_S4096x2048_S128x2048_0_0) (fun _ => rfl)) (.inl rfl))
  semSignalWord (⟨word1 v0, k0_dev1_lt v0 hw1⟩ : Dev nD) barSem 1#32
  semSignalWord (⟨word1 v1, k0_dev2_lt v1 hw2⟩ : Dev nD) barSem 1#32
  semWaitWord barSem 2#32
  runOps arg6 ⟨word1 v0, k0_dev1_lt v0 hw1⟩ ⟨word1 v1, k0_dev2_lt v1 hw2⟩ (Scalar.mulf v2 v3) trace

end Cert.KernelIdeal.Own

end
-- ==== Proof.Ring.lean ====
/- The ring: each device's right and left neighbour, what a device's slot holds in the end, and that a
   piece copied one device on is the piece the next device is to hold there. -/
module

public import proofs.«01_k».proof.Proof.Prog
public import Idealize.ShloMosaic.Lib.Pointwise.Index

@[expose] public section

noncomputable section

namespace Cert.KernelIdeal.Own

open Idealize.ShloMosaic Idealize.ShloMosaic.TcCoe
open Idealize.SL Idealize.SL.Sem
open Cert.KernelIdeal Cert.KernelIdeal.Gen

variable {F : FTy → Type} [FloatOps F]

/-- The right neighbour of each device. -/
def scT : List ℕ := [4, 2, 6, 19, 8, 1, 10, 3, 12, 5, 14, 7, 13, 9, 15, 11, 0, 21, 17, 23, 16, 25, 18, 27, 20, 29, 22, 31, 24, 28, 26, 30]
/-- The left neighbour of each device. -/
def pdT : List ℕ := [16, 5, 1, 7, 0, 9, 2, 11, 4, 13, 6, 15, 8, 12, 10, 14, 20, 18, 22, 3, 24, 17, 26, 19, 28, 21, 30, 23, 29, 25, 31, 27]
def sc (c : Dev nD) : Dev nD := ⟨scT.getD c.val 0 % 32, Nat.mod_lt _ (by decide)⟩
def pd (c : Dev nD) : Dev nD := ⟨pdT.getD c.val 0 % 32, Nat.mod_lt _ (by decide)⟩

theorem pd_sc : ∀ c : Dev nD, pd (sc c) = c := by decide +kernel
theorem sc_pd : ∀ c : Dev nD, sc (pd c) = c := by decide +kernel

/-- `j` devices to the right. -/
def sit : ℕ → Dev nD → Dev nD
  | 0, c => c
  | j + 1, c => sit j (sc c)
theorem sit_32 : ∀ c : Dev nD, sit 32 c = c := by decide +kernel
/-- The shard slot `j` of device `c` holds in the end. -/
def own (c : Dev nD) (j : Fin 32) : Dev nD := sit j.val c
theorem own_inj : ∀ c : Dev nD, ∀ i j : Fin 32, own c i = own c j → i = j := by decide +kernel

/-- The device a direction's copies go to, and the one they come from. -/
def fwd (d : Dr) (c : Dev nD) : Dev nD := match d with | .R => sc c | .L => pd c
@[inherit_doc fwd] def bwd (d : Dr) (c : Dev nD) : Dev nD := match d with | .R => pd c | .L => sc c
theorem fwd_bwd (d : Dr) (c : Dev nD) : fwd d (bwd d c) = c := by cases d; exacts [sc_pd c, pd_sc c]
theorem bwd_fwd (d : Dr) (c : Dev nD) : bwd d (fwd d c) = c := by cases d; exacts [pd_sc c, sc_pd c]

/-- How many copies a direction makes. -/
def nS : Dr → ℕ | .R => 16 | .L => 15

/-- The slot a copy leaves and the slot it lands in hold the same shard. -/
theorem own_step (d : Dr) (s : Fin 16) (c : Dev nD) : own (fwd d c) (dstJ d s) = own c (srcJ d s) := by
  cases d
  · show sit (31 - s.val) (sc c) = sit ((32 - s.val) % 32) c
    have h := s.isLt
    by_cases h0 : s.val = 0
    · rw [h0]; exact (show sit 31 (sc c) = sit 32 c from rfl).trans (sit_32 c)
    · rw [Nat.mod_eq_of_lt (by omega), show 32 - s.val = (31 - s.val) + 1 by omega]; rfl
  · show sit (s.val + 1) (pd c) = sit s.val c
    rw [sit, sc_pd]

/-! ## What the gathering buffers hold in the end -/

variable (X : Dev nD → (S4096x128.Idx → Elt F .fp8e4m3)) (Wt : Dev nD → (S128x2048.Idx → Elt F .fp8e5m2))

/-- The gathered x on device `c`. -/
def XG (c : Dev nD) : S4096x4096.Idx → Elt F .fp8e4m3 := fun i =>
  X (sit ((i 1).val / 128) c) (ix2 (i 0) ⟨(i 1).val % 128, Nat.mod_lt _ (by decide)⟩)
/-- The gathered w on device `c`. -/
def WG (c : Dev nD) : S4096x2048.Idx → Elt F .fp8e5m2 := fun i =>
  Wt (sit ((i 0).val / 128) c) (ix2 ⟨(i 0).val % 128, Nat.mod_lt _ (by decide)⟩ (i 1))

/-- A half of a shard. -/
def shard : (h : Hf) → Dev nD → (hsh h).Idx → Elt F (hel h)
  | .x0, o => fun i => X o (ix2 ⟨(i 0).val, lt_trans (i 0).isLt (by decide)⟩ (i 1))
  | .x1, o => fun i => X o (ix2 ⟨2048 + (i 0).val, Nat.add_lt_add_left (i 0).isLt 2048⟩ (i 1))
  | .w, o => fun i => Wt o i

/-- The final content of the buffer a half lies in. -/
def G : (h : Hf) → (c : Dev nD) → (j : Fin 32) → Buf (Elt F) ((pc h j).view.loc (c : Thread nD τ))
  | .x0, c, _ => XG X c
  | .x1, c, _ => XG X c
  | .w, c, _ => WG Wt c

theorem pc_emb_x0 (j : Fin 32) (i : S2048x128.Idx) :
    (pc .x0 j).view.emb i = ix2 (n0 := 4096) (n1 := 4096) ⟨(i 0).val, lt_trans (i 0).isLt (by decide)⟩ ⟨j.val * 128 + (i 1).val, by have := j.isLt; have : (i 1).val < 128 := (i 1).isLt; omega⟩ := by
  refine funext fun (a : Fin 2) => ?_
  fin_cases a <;> apply Fin.ext
  · show 0 + 1 * (i 0).val = (i 0).val; omega
  · show j.val * 128 + 1 * (i 1).val = j.val * 128 + (i 1).val; omega
theorem pc_emb_x1 (j : Fin 32) (i : S2048x128.Idx) :
    (pc .x1 j).view.emb i = ix2 (n0 := 4096) (n1 := 4096) ⟨2048 + (i 0).val, Nat.add_lt_add_left (i 0).isLt 2048⟩ ⟨j.val * 128 + (i 1).val, by have := j.isLt; have : (i 1).val < 128 := (i 1).isLt; omega⟩ := by
  refine funext fun (a : Fin 2) => ?_
  fin_cases a <;> apply Fin.ext
  · show 2048 + 1 * (i 0).val = 2048 + (i 0).val; omega
  · show j.val * 128 + 1 * (i 1).val = j.val * 128 + (i 1).val; omega
theorem pc_emb_w (j : Fin 32) (i : S128x2048.Idx) :
    (pc .w j).view.emb i = ix2 (n0 := 4096) (n1 := 2048) ⟨j.val * 128 + (i 0).val, by have := j.isLt; have : (i 0).val < 128 := (i 0).isLt; omega⟩ (i 1) := by
  refine funext fun (a : Fin 2) => ?_
  fin_cases a <;> apply Fin.ext
  · show j.val * 128 + 1 * (i 0).val = j.val * 128 + (i 0).val; omega
  · show 0 + 1 * (i 1).val = (i 1).val; omega

theorem div_key (a r : ℕ) (hr : r < 128) : (a * 128 + r) / 128 = a ∧ (a * 128 + r) % 128 = r := by omega

theorem XG_at (c : Dev nD) (j : Fin 32) (a : Fin 4096) (r : Fin 128) (h) :
    XG X c (ix2 (n0 := 4096) (n1 := 4096) a ⟨j.val * 128 + r.val, h⟩) = X (own c j) (ix2 a r) := by
  have h1 := div_key j.val r.val r.isLt
  show X (sit ((j.val * 128 + r.val) / 128) c) (ix2 a ⟨(j.val * 128 + r.val) % 128, _⟩) = X (sit j.val c) (ix2 a r)
  congr 1
  · rw [h1.1]
  · congr 1; exact Fin.ext h1.2
theorem WG_at (c : Dev nD) (j : Fin 32) (r : Fin 128) (b : Fin 2048) (h) :
    WG Wt c (ix2 (n0 := 4096) (n1 := 2048) ⟨j.val * 128 + r.val, h⟩ b) = Wt (own c j) (ix2 r b) := by
  have h1 := div_key j.val r.val r.isLt
  show Wt (sit ((j.val * 128 + r.val) / 128) c) (ix2 ⟨(j.val * 128 + r.val) % 128, _⟩ b) = Wt (sit j.val c) (ix2 r b)
  congr 1
  · rw [h1.1]
  · congr 1; exact Fin.ext h1.2

theorem read_G (h : Hf) (c : Dev nD) (j : Fin 32) : (pc h j).view.read (Elt F) (G X Wt h c j) = shard X Wt h (own c j) := by
  cases h
  · funext i
    show XG X c ((pc .x0 j).view.emb i) = _
    rw [pc_emb_x0]; exact XG_at X c j _ (i 1) _
  · funext i
    show XG X c ((pc .x1 j).view.emb i) = _
    rw [pc_emb_x1]; exact XG_at X c j _ (i 1) _
  · funext i
    show WG Wt c ((pc .w j).view.emb i) = _
    rw [pc_emb_w]; exact (WG_at Wt c j (i 0) (i 1) _).trans (congrArg (Wt _) (ix2_eta i))

/-- A copy's landing: the destination piece then holds what it is to hold. -/
theorem landed (d : Dr) (h : Hf) (s : Fin 16) (c : Dev nD) (fd : Buf (Elt F) ((pc h (dstJ d s)).view.loc (fwd d c : Thread nD τ))) :
    ∀ i ∈ (pc h (dstJ d s)).view.set,
      (pc h (dstJ d s)).view.write (Elt F) fd ((pc h (srcJ d s)).view.read (Elt F) (G X Wt h c (srcJ d s))) Finset.univ i = G X Wt h (fwd d c) (dstJ d s) i := by
  intro i hi
  obtain ⟨x, -, rfl⟩ := Finset.mem_map.mp hi
  have e := read_G X Wt h (fwd d c) (dstJ d s)
  rw [own_step, ← read_G] at e
  have e2 := (View.read_write_univ (v := (pc h (dstJ d s)).view) fd ((pc h (srcJ d s)).view.read (Elt F) (G X Wt h c (srcJ d s)))).trans e.symm
  have e3 := congrFun e2 x
  rw [View.read_apply, View.read_apply] at e3
  exact (cast_inj _).1 e3

end Cert.KernelIdeal.Own

end
-- ==== Proof.Sched.lean ====
/- The cells the devices meet on, who pays each round of each cell, and what a payment carries.

   - A send cell carries back a share of the piece sent, a receive cell the piece landed.
   - A barrier unit from a neighbour carries that neighbour's empty slots for this device's copies to it,
     and that its cells are open.
   - A credit carries how far its sender has emptied its receive cells. -/
module

public import proofs.«01_k».proof.Proof.Ring
public import Idealize.ShloMosaic.Lib.Rounds
public import Idealize.ShloMosaic.Lib.Pipeline.BigSepL
public import Idealize.ShloMosaic.Lib.Pipeline.TalkSites
public import Idealize.ShloMosaic.Lib.Pipeline.TalkSched

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Cert.KernelIdeal Cert.KernelIdeal.Gen

variable {F : FTy → Type} [FloatOps F]

/-! ## Cells -/

/-- The cells a device has. -/
inductive Cl
  | bar
  | cred (d : Dr)
  | snd (d : Dr) (h : Hf) (k : Fin 3)
  | rcv (d : Dr) (h : Hf) (k : Fin 3)
deriving DecidableEq

/-- The semaphore of a cell. -/
def Cl.sm : Cl → SemLoc sig
  | .bar => .reg barSem
  | .cred d => .reg (cSem d)
  | .snd d h k => .dma (sem3 (sArr d h) k)
  | .rcv d h k => .dma (sem3 (rArr d h) k)

def drs : List Dr := [.R, .L]
def hks : List (Hf × Fin 3) := [(.x0, 0), (.x0, 1), (.x0, 2), (.x1, 0), (.x1, 1), (.x1, 2), (.w, 0), (.w, 1), (.w, 2)]
/-- The cells opened when the kernel begins. -/
def dormCl : List Cl := drs.map .cred ++ drs.flatMap (fun d => hks.map fun p => .snd d p.1 p.2) ++ drs.flatMap (fun d => hks.map fun p => .rcv d p.1 p.2)

theorem mem_drs (d : Dr) : d ∈ drs := by cases d <;> decide
theorem mem_hks (h : Hf) (k : Fin 3) : (h, k) ∈ hks := by cases h <;> fin_cases k <;> decide

/-- The cell of a semaphore. -/
def cellOf (s : SemLoc sig) : Option Cl := (Cl.bar :: dormCl).find? fun x => x.sm = s
theorem cellOf_sm (x : Cl) : cellOf x.sm = some x := by
  rcases x with _ | d | ⟨d, h, k⟩ | ⟨d, h, k⟩
  · decide +kernel
  · cases d <;> decide +kernel
  · cases d <;> cases h <;> fin_cases k <;> decide +kernel
  · cases d <;> cases h <;> fin_cases k <;> decide +kernel
theorem sm_inj {x y : Cl} (h : x.sm = y.sm) : x = y := Option.some.inj ((cellOf_sm x).symm.trans ((congrArg cellOf h).trans (cellOf_sm y)))

/-- A device's cell. -/
abbrev cell (c : Dev nD) (x : Cl) : GSem nD τ sig := ((c : Thread nD τ), x.sm)

/-- The duties' names: who pays, and which of its payments. -/
abbrev Dty : Type := Dev nD × ℕ
abbrev UU : Type := UR sig nD τ × URounds (GSem nD τ sig) Dty
local notation "𝕄" => MT nD τ sig ℕ (Elt F) ℕ UU ℕ
abbrev ER : Emb (URounds (GSem nD τ sig) Dty) (MT nD τ sig ℕ (Elt F) ℕ UU ℕ) := embR

/-- How many credits a direction gives. -/
def nC : Dr → ℕ | .R => 13 | .L => 12
def oth : Dr → Dr | .R => .L | .L => .R
theorem fwd_oth (d : Dr) (c : Dev nD) : fwd (oth d) c = bwd d c := by cases d <;> rfl
theorem bwd_oth (d : Dr) (c : Dev nD) : bwd (oth d) c = fwd d c := by cases d <;> rfl

/-- The units a copy of a half brings. -/
def cr (h : Hf) : ℕ := (pc h 0).view.dmaCredit
theorem cr_eq (h : Hf) (j : Fin 32) : (pc h j).view.dmaCredit = cr h := by cases h <;> rfl
theorem cr_pos (h : Hf) : 0 < cr h := View.dmaCredit_pos _ (by cases h <;> decide)

/-- The copies of a direction, as the steps make them. -/
def opDst : Op → List (Dr × Hf × Fin 16)
  | .send d h s => [(d, h, s)]
  | _ => []
def dks : List (Dr × Hf × Fin 16) := trace.flatMap opDst
def dk (d : Dr) : List (Dr × Hf × Fin 16) := dks.filter fun x => x.1 = d

/-! ## Shares and pieces -/

/-- The share a device reads its own slots at, and those its copies read at. -/
def qO : PosShare TreeShare := fullShare.left
@[inherit_doc qO] def qd : Dr → PosShare TreeShare | .R => fullShare.right.left | .L => fullShare.right.right

/-- A piece on a device, at a share and a content. -/
abbrev pts (c : Dev nD) (h : Hf) (j : Fin 32) (q : PosShare TreeShare) (f : Buf (Elt F) ((pc h j).view.loc (c : Thread nD τ))) : sProp 𝕄 :=
  (pc h j).view.loc (c : Thread nD τ) ↦[(pc h j).view.set]{q} f

variable (X : Dev nD → (S4096x128.Idx → Elt F .fp8e4m3)) (Wt : Dev nD → (S128x2048.Idx → Elt F .fp8e5m2))

/-- A piece at its final content. -/
abbrev gp (c : Dev nD) (h : Hf) (j : Fin 32) (q : PosShare TreeShare) : sProp 𝕄 := pts c h j q (G X Wt h c j)

/-! ## Payloads -/

/-- What the neighbour this device's copies of direction `d` go to pays into its barrier. -/
def barPay (c : Dev nD) (d : Dr) : sProp 𝕄 :=
  iprop((bigSepL (dk d) fun k => iprop(∃ f, pts (F := F) (fwd d c) k.2.1 (dstJ k.1 k.2.2) fullShare f))
    ∗ (bigSepL hks fun p => reached (ER (F := F)) (cell (fwd d c) (.rcv d p.1 p.2)) 0)
    ∗ reached (ER (F := F)) (cell (fwd d c) (.cred (oth d))) 0)

/-- What credit `i` carries. -/
def credPay (c : Dev nD) (d : Dr) (i : ℕ) : sProp 𝕄 :=
  bigSepL hks fun p => reached (ER (F := F)) (cell (fwd d c) (.rcv d p.1 p.2)) ((i + 3 - p.2.val) / 3)

def payC (c : Dev nD) : Cl → ℕ → ℕ → sProp 𝕄
  | .bar, _, i => if i = 0 then barPay c .L else barPay c .R
  | .cred d, _, i => credPay c d i
  | .snd d h k, r, _ => gp X Wt c h (srcJ d (f16 (3 * r + k.val))) (qd d)
  | .rcv d h k, r, _ => gp X Wt c h (dstJ d (f16 (3 * r + k.val))) fullShare

/-- Who pays a round. -/
def dutC (c : Dev nD) : Cl → ℕ → Finset Dty
  | .bar, r => if r = 0 then {(pd c, 0), (sc c, 1)} else ∅
  | .cred d, r => if r = 0 then (Finset.range (nC d)).image (fun i => (fwd d c, i)) else ∅
  | .snd d _ k, r => if 3 * r + k.val < nS d then {(c, 0)} else ∅
  | .rcv d _ k, r => if 3 * r + k.val < nS d then {(bwd d c, 0)} else ∅

def amtC : Cl → ℕ
  | .bar => 1
  | .cred _ => 1
  | .snd _ h _ => cr h
  | .rcv _ h _ => cr h
theorem amtC_pos (x : Cl) : 0 < amtC x := by
  rcases x with _ | d | ⟨d, h, k⟩ | ⟨d, h, k⟩
  · exact Nat.one_pos
  · exact Nat.one_pos
  · exact cr_pos h
  · exact cr_pos h

/-- The schedule. -/
def Rd : Schedule (GSem nD τ sig) Dty 𝕄 where
  duties g r := match cellOf g.2 with | some x => if g.1.2 = .tc then dutC g.1.1 x r else ∅ | none => ∅
  amount g _ _ := match cellOf g.2 with | some x => amtC x | none => 1
  payload g r d := match cellOf g.2 with | some x => payC X Wt g.1.1 x r d.2 | none => iprop(emp)
  amount_pos g r d _ := by
    show 0 < (match cellOf g.2 with | some x => amtC x | none => 1)
    split
    · exact amtC_pos _
    · exact Nat.one_pos

theorem duties_eq (c : Dev nD) (x : Cl) (r : ℕ) : (Rd X Wt).duties (cell c x) r = dutC c x r := by
  show (match cellOf x.sm with | some x => if (c : Thread nD τ).2 = Proc.tc then dutC (c : Thread nD τ).1 x r else ∅ | none => ∅) = _
  rw [cellOf_sm]; rfl
theorem amount_eq (c : Dev nD) (x : Cl) (r : ℕ) (d : Dty) : (Rd X Wt).amount (cell c x) r d = amtC x := by
  show (match cellOf x.sm with | some x => amtC x | none => 1) = _
  rw [cellOf_sm]
theorem payload_eq (c : Dev nD) (x : Cl) (r : ℕ) (d : Dty) : (Rd X Wt).payload (cell c x) r d = payC X Wt c x r d.2 := by
  show (match cellOf x.sm with | some x => payC X Wt (c : Thread nD τ).1 x r d.2 | none => iprop(emp)) = _
  rw [cellOf_sm]
theorem expect_eq (c : Dev nD) (x : Cl) (r : ℕ) : (Rd X Wt).expect (cell c x) r = (dutC c x r).card * amtC x := by
  unfold Schedule.expect Schedule.amountOf
  rw [duties_eq, Finset.sum_congr rfl (fun d _ => amount_eq X Wt c x r d), Finset.sum_const, smul_eq_mul]

instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => show BI.Storable _ (iprop(emp) : sProp 𝕄); infer_instance
  | cons i l ih => rw [bigSepL_cons']; infer_instance
instance bigSepL_persistent {I : Type} (l : List I) (Φ : I → sProp 𝕄) [∀ i, BI.Persistent (Φ i)] : BI.Persistent (bigSepL l Φ) := by
  induction l with
  | nil => show BI.Persistent (iprop(emp) : sProp 𝕄); infer_instance
  | cons i l ih => rw [bigSepL_cons']; infer_instance

instance credPay_persistent (c : Dev nD) (d : Dr) (i : ℕ) : BI.Persistent (credPay (F := F) c d i) := by unfold credPay; infer_instance

instance credPay_storable (c : Dev nD) (d : Dr) (i : ℕ) : BI.Storable (upEmb : UEmb _ 𝕄) (credPay (F := F) c d i) := by unfold credPay; infer_instance

instance Rd_storable (g : GSem nD τ sig) (r : ℕ) (d : Dty) : BI.Storable (upEmb : UEmb _ 𝕄) ((Rd X Wt).payload g r d) := by
  show BI.Storable upEmb (match cellOf g.2 with | some x => payC X Wt g.1.1 x r d.2 | none => iprop(emp))
  split
  · rename_i x _
    rcases x with _ | d | ⟨d, h, k⟩ | ⟨d, h, k⟩
    · unfold payC barPay; split <;> infer_instance
    · unfold payC; infer_instance
    · unfold payC; infer_instance
    · unfold payC; infer_instance
  · infer_instance

/-! ## Tokens -/

/-- The payments a step makes: the cell, the round, the number. -/
def opToks : Op → List (Cl × ℕ × ℕ)
  | .send d h s => [(.snd d h (k3 s), s.val / 3, 0), (.rcv d h (k3 s), s.val / 3, 0)]
  | .credS d i => [(.cred d, 0, i)]
  | _ => []
def tokKeys : List (Cl × ℕ × ℕ) := (.bar, 0, 0) :: (.bar, 0, 1) :: trace.flatMap opToks
theorem tokKeys_nodup : tokKeys.Nodup := by decide +kernel

/-- The device whose cell a payment of device `c` goes to. -/
def tokDev (c : Dev nD) : Cl → ℕ → Dev nD
  | .bar, i => if i = 0 then sc c else pd c
  | .cred d, _ => bwd d c
  | .snd _ _ _, _ => c
  | .rcv d _ _, _ => fwd d c
def tok (c : Dev nD) : (Cl × ℕ × ℕ) ↪ (GSem nD τ sig × ℕ × Dty) where
  toFun k := (cell (tokDev c k.1 k.2.2) k.1, k.2.1, (c, k.2.2))
  inj' a b h :=
    Prod.ext (sm_inj (congrArg (fun y : GSem nD τ sig × ℕ × Dty => y.1.2) h))
      (Prod.ext (congrArg (fun y : GSem nD τ sig × ℕ × Dty => y.2.1) h) (congrArg (fun y : GSem nD τ sig × ℕ × Dty => y.2.2.2) h))

/-- The tokens, cells and keys of the launch. -/
def fam : TalkSites.Fam nD τ sig Dty 1 where
  bar := Cl.bar.sm
  dorm _ := (dormCl.map Cl.sm).toFinset
  toks c _ := tokKeys.toFinset.map (tok c)
  semKey _ := 0
  hsem j _ _ := Subsingleton.elim _ _
  hbar _ := by decide +kernel
  tokKey x := (x.2.2.1, 0)
  htok c j x hx := by
    obtain ⟨k, -, rfl⟩ := Finset.mem_map.mp hx
    exact Prod.ext rfl (Subsingleton.elim _ _)

theorem mem_dormCl (x : Cl) (hx : x ≠ .bar) : x ∈ dormCl := by
  rcases x with _ | d | ⟨d, h, k⟩ | ⟨d, h, k⟩
  · exact absurd rfl hx
  · clear hx; cases d <;> decide
  · clear hx; cases d <;> cases h <;> fin_cases k <;> decide
  · clear hx; cases d <;> cases h <;> fin_cases k <;> decide
theorem mem_dorm (x : Cl) (h : x ≠ .bar) (j : Fin 1) : x.sm ∈ fam.dorm j :=
  List.mem_toFinset.mpr (List.mem_map.mpr ⟨x, mem_dormCl x h, rfl⟩)
theorem fam_bar : fam.bar = Cl.bar.sm := rfl
theorem fam_dorm (j : Fin 1) : fam.dorm j = (dormCl.map Cl.sm).toFinset := rfl
theorem fam_toks (c : Dev nD) (j : Fin 1) : fam.toks c j = tokKeys.toFinset.map (tok c) := rfl
attribute [irreducible] fam

end Cert.KernelIdeal.Own

end
-- ==== Proof.State.lean ====
/- What a device holds between two steps, as a small record, and the check that a step may run. -/
module

public import proofs.«01_k».proof.Proof.Sched

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

/-! ## The record -/

/-- The slots held at the reading share; the slots held at each direction's share; the copies in flight;
    the round each send and receive cell stands at; the credits taken. -/
structure St where
  ow : Finset (Hf × Fin 32)
  av : Finset (Dr × Hf × Fin 32)
  fl : Finset (Dr × Hf × Fin 16)
  ps : Cl → ℕ
  cw : Dr → ℕ

/-- A function changed at one place. -/
def upd {I : Type} [DecidableEq I] (p : I → ℕ) (i : I) (n : ℕ) : I → ℕ := fun j => if j = i then n else p j

/-- The level at which a copy's landing is owed, and a credit. -/
def lvS : Dr → ℕ → ℕ | .R, s => 100 * s + 10 | .L, s => 100 * s + 30
@[inherit_doc lvS] def lvC : Dr → ℕ → ℕ | .R, i => 100 * (i + 1) + 20 | .L, i => 100 * (i + 1) + 40

/-- What a step pays off: the cell, the level, the units. -/
def opPay : Op → List (Cl × ℕ × ℕ)
  | .send d h s => [(.rcv d h (k3 s), lvS d s.val, cr h)]
  | .credS d i => [(.cred d, lvC d i, 1)]
  | _ => []
/-- The credit a step waits with. -/
def opWt : Op → List (Cl × ℕ × ℕ)
  | .recvW d h s => [(.rcv d h (k3 s), lvS d s.val, cr h)]
  | .credW d i => [(.cred d, lvC d i, 1)]
  | _ => []
/-- The levels of what a step pays off. -/
def opLv : Op → List ℕ
  | .send d _ s => [lvS d s.val]
  | .credS d i => [lvC d i]
  | _ => []

/-- Everything a list of steps still pays lies above a level. -/
def lvOk (n : ℕ) (l : List Op) : Bool := l.all fun o => (opLv o).all fun i => Nat.blt n i && Nat.blt i 2000

/-- The half of x a tile reads. -/
def mh (m : Fin 8) : Hf := if m.val < 4 then .x0 else .x1

/-- The slots of a product. -/
def slots (nc : Nc) (c0 : Fin 29) : List (Fin 32) := (List.finRange 32).filter fun j => decide (c0.val ≤ j.val ∧ j.val < c0.val + nc.n)

/-- A step may run. -/
def ok (σ : St) (rest : List Op) : Op → Bool
  | .sendW d h s => decide ((d, h, s) ∈ σ.fl) && decide (σ.ps (.snd d h (k3 s)) = s.val / 3) && decide ((d, h, srcJ d s) ∉ σ.av) && decide (s.val < nS d) && lvOk 0 rest
  | .send d h s => decide ((d, h, srcJ d s) ∈ σ.av) && decide ((d, h, s) ∉ σ.fl) && decide (s.val / 3 ≤ σ.ps (.snd d h (k3 s)))
      && decide (s.val / 3 ≤ (σ.cw d + 2 - s.val % 3) / 3) && decide (s.val < nS d)
  | .recvW d h s => decide (σ.ps (.rcv d h (k3 s)) = s.val / 3) && decide (s.val < nS d) && decide ((h, dstJ d s) ∉ σ.ow)
      && decide ((Dr.R, h, dstJ d s) ∉ σ.av) && decide ((Dr.L, h, dstJ d s) ∉ σ.av) && lvOk (lvS d s.val) rest && decide (lvS d s.val < 2000)
  | .credW d i => decide (σ.cw d = i) && decide (i < nC d) && lvOk (lvC d i) rest && decide (lvC d i < 2000)
  | .credS d i => decide (i < nC d) && hks.all fun p => decide ((i + 3 - p.2.val) / 3 ≤ σ.ps (.rcv d p.1 p.2))
  | .tile _ nc c0 m => (slots nc c0).all fun j => decide ((mh m, j) ∈ σ.ow) && decide ((Hf.w, j) ∈ σ.ow)

/-- What a step leaves. -/
def stp (σ : St) : Op → St
  | .sendW d h s => { σ with av := insert (d, h, srcJ d s) σ.av, fl := σ.fl.erase (d, h, s), ps := upd σ.ps (.snd d h (k3 s)) (s.val / 3 + 1) }
  | .send d h s => { σ with av := σ.av.erase (d, h, srcJ d s), fl := insert (d, h, s) σ.fl }
  | .recvW d h s => { σ with ow := insert (h, dstJ d s) σ.ow, av := insert (Dr.R, h, dstJ d s) (insert (Dr.L, h, dstJ d s) σ.av), ps := upd σ.ps (.rcv d h (k3 s)) (s.val / 3 + 1) }
  | .credW d i => { σ with cw := fun d' => if d' = d then i + 1 else σ.cw d' }
  | .credS _ _ => σ
  | .tile _ _ _ _ => σ

def okAll (σ : St) : List Op → Bool
  | [] => true
  | o :: l => ok σ l o && okAll (stp σ o) l
def stpAll (σ : St) : List Op → St
  | [] => σ
  | o :: l => stpAll (stp σ o) l

def hf3 : Finset Hf := {.x0, .x1, .w}
/-- Before the steps: slot 0 held at every share. -/
def st0 : St where
  ow := {(.x0, 0), (.x1, 0), (.w, 0)}
  av := {(.R, .x0, 0), (.R, .x1, 0), (.R, .w, 0), (.L, .x0, 0), (.L, .x1, 0), (.L, .w, 0)}
  fl := ∅
  ps _ := 0
  cw _ := 0

/-- After the steps. -/
def stE : St := stpAll st0 trace

/-- How often each cell is used. -/
def endR : Cl → ℕ
  | .snd d _ k => (nS d + 2 - k.val) / 3
  | .rcv d _ k => (nS d + 2 - k.val) / 3
  | _ => 0

theorem trace_ok : okAll st0 trace = true := by decide +kernel
theorem stE_ow : ∀ k, k ∈ stE.ow := by decide +kernel
theorem stE_av : ∀ k, k ∈ stE.av := by decide +kernel
theorem stE_fl : stE.fl = ∅ := by decide +kernel
theorem stE_cw : ∀ d, stE.cw d = nC d := by decide +kernel
theorem stE_ps : ∀ x ∈ dormCl, x ≠ .cred .R → x ≠ .cred .L → stE.ps x = endR x := by decide +kernel

end Cert.KernelIdeal.Own

end
-- ==== Proof.Held.lean ====
/- What a device holds between two steps, and what stays true through the run. -/
module

public import proofs.«01_k».proof.Proof.State
public import Idealize.ShloMosaic.Lib.Pipeline.SiteBlocks

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

/-! ## Lists and products -/

/-- One member out of a product, and one more into it, in the form the proof mode splits. -/
theorem take1 {I : Type} [DecidableEq I] {S : Finset I} {i : I} (hi : i ∈ S) (Φ : I → sProp 𝕄) : bigSep S Φ = iprop(Φ i ∗ bigSep (S.erase i) Φ) := bigSep_erase hi
@[inherit_doc take1] theorem put1 {I : Type} [DecidableEq I] {S : Finset I} {i : I} (hi : i ∉ S) (Φ : I → sProp 𝕄) : bigSep (insert i S) Φ = iprop(Φ i ∗ bigSep S Φ) := bigSep_insert hi

theorem bigSep_put {I : Type} [DecidableEq I] {S : Finset I} {i : I} (hi : i ∈ S) (Φ : I → ℕ → sProp 𝕄) (p : I → ℕ) (n : ℕ) :
    bigSep S (fun j => Φ j (upd p i n j)) = iprop(Φ i n ∗ bigSep (S.erase i) fun j => Φ j (p j)) := by
  rw [take1 hi]
  congr 1
  · simp only [upd, if_true]
  · exact bigSep_congr fun j hj => by simp only [upd, if_neg (Finset.ne_of_mem_erase hj)]

theorem bigSepL_elim {I : Type} {l : List I} {i : I} (h : i ∈ l) (Φ : I → sProp 𝕄) : (bigSepL l Φ : sProp 𝕄) ⊢ Φ i := by
  induction l with
  | nil => exact absurd h List.not_mem_nil
  | cons j l ih =>
    rw [bigSepL_cons']
    rcases List.mem_cons.mp h with rfl | h
    · iintro ⟨H, -⟩; iexact H
    · iintro ⟨-, H⟩; iapply (ih h); iexact H

/-! ## What is held -/

/-- A position on an own send or receive cell. -/
def pos (c : Dev nD) (x : Cl) (n : ℕ) : sProp 𝕄 := iprop(atPos (ER (F := F)) (cell c x) n ∅ 0 ∗ reached (ER (F := F)) (cell c x) n)
/-- How far the receiver is known to have come after `n` credits. -/
def known (c : Dev nD) (d : Dr) (n : ℕ) : sProp 𝕄 :=
  bigSepL hks fun p => reached (ER (F := F)) (cell (fwd d c) (.rcv d p.1 p.2)) ((n + 2 - p.2.val) / 3)
instance known_persistent (c : Dev nD) (d : Dr) (n : ℕ) : BI.Persistent (known (F := F) c d n) := by unfold known; infer_instance
/-- The credit cell with `n` credits taken. -/
def credAt (c : Dev nD) (d : Dr) (n : ℕ) : sProp 𝕄 :=
  if n = nC d then atPos (ER (F := F)) (cell c (.cred d)) 1 ∅ 0
  else iprop(∃ T, ⌜T ⊆ dutC c (.cred d) 0 ∧ n ≤ T.card⌝ ∗ atPos (ER (F := F)) (cell c (.cred d)) 0 T n ∗ bigSep T fun y => credPay (F := F) c d y.2)
def credSt (c : Dev nD) (d : Dr) (n : ℕ) : sProp 𝕄 := iprop(credAt c d n ∗ known (F := F) c d n)

def psL : List Cl := drs.flatMap (fun d => hks.map fun p => .snd d p.1 p.2) ++ drs.flatMap (fun d => hks.map fun p => .rcv d p.1 p.2)
def psS : Finset Cl := psL.toFinset
theorem mem_psS_snd (d : Dr) (h : Hf) (k : Fin 3) : Cl.snd d h k ∈ psS :=
  List.mem_toFinset.mpr (List.mem_append_left _ (List.mem_flatMap.mpr ⟨d, mem_drs d, List.mem_map.mpr ⟨(h, k), mem_hks h k, rfl⟩⟩))
theorem mem_psS_rcv (d : Dr) (h : Hf) (k : Fin 3) : Cl.rcv d h k ∈ psS :=
  List.mem_toFinset.mpr (List.mem_append_right _ (List.mem_flatMap.mpr ⟨d, mem_drs d, List.mem_map.mpr ⟨(h, k), mem_hks h k, rfl⟩⟩))

variable (X : Dev nD → (S4096x128.Idx → Elt F .fp8e4m3)) (Wt : Dev nD → (S128x2048.Idx → Elt F .fp8e5m2))

/-- Everything a device holds between two steps, but the output and what the steps to come bring. -/
def Res (c : Dev nD) (σ : St) : sProp 𝕄 :=
  iprop((bigSep σ.ow fun k => gp X Wt c k.1 k.2 qO)
    ∗ (bigSep σ.av fun k => gp X Wt c k.2.1 k.2.2 (qd k.1))
    ∗ (bigSep σ.fl fun k => cred (tallyAt (cell c (.snd k.1 k.2.1 (k3 k.2.2))) 0 (cr k.2.1)))
    ∗ (bigSep psS fun x => pos c x (σ.ps x))
    ∗ bigSep Finset.univ fun d => credSt c d (σ.cw d))

/-- A token. -/
abbrev tokAt (c : Dev nD) (k : Cl × ℕ × ℕ) : sProp 𝕄 := dutyTok (ER (F := F)) (cell (tokDev c k.1 k.2.2) k.1) k.2.1 (c, k.2.2)
/-- What a step to come brings: tokens, the empty slot it fills, the credit it waits with. -/
def opRes (c : Dev nD) (o : Op) : sProp 𝕄 :=
  iprop((bigSepL (opToks o) fun k => tokAt c k)
    ∗ (bigSepL (opDst o) fun k => iprop(∃ f, pts (F := F) (fwd k.1 c) k.2.1 (dstJ k.1 k.2.2) fullShare f))
    ∗ (bigSepL (opWt o) fun p => cred (tallyAt (cell c p.1) p.2.1 p.2.2)))

/-- The payments of a list of steps. -/
def pays (c : Dev nD) (l : List (Cl × ℕ × ℕ)) : List (Pay nD τ sig) := l.map fun p => (cell (tokDev c p.1 0) p.1, p.2.1, p.2.2)
def dues (c : Dev nD) (l : List Op) : CellTallies nD τ sig ℕ := tallyL (pays c (l.flatMap opPay))

abbrev NL : ℕ := 2000
abbrev lv : GSem nD τ sig → ℕ → ℕ := SiteBlocks.lv

/-- What stays true through the run. -/
def ctx (κ : GSem nD τ sig → ℕ) (c : Dev nD) : sProp 𝕄 :=
  iprop(fam.cellInvs (ER (F := F)) (Rd X Wt) κ ∗ levAts (SiteBlocks.L NL) SiteBlocks.lv
    ∗ bigSepL drs fun d => reached (ER (F := F)) (cell (bwd d c) (.cred d)) 0)
instance ctx_persistent (κ : GSem nD τ sig → ℕ) (c : Dev nD) : BI.Persistent (ctx X Wt κ c) := by unfold ctx; infer_instance

theorem inv_bar (κ : GSem nD τ sig → ℕ) (c' : Dev nD) : fam.cellInvs (ER (F := F)) (Rd X Wt) κ ⊢ cellInv ER (Rd X Wt) (κ (cell c' .bar)) (cell c' .bar) := by
  have h := fam.cellInvs_bar (ER (F := F)) (Rd X Wt) κ c'
  rw [fam_bar] at h
  exact h
theorem inv_dorm (κ : GSem nD τ sig → ℕ) (c' : Dev nD) (x : Cl) (hx : x ≠ .bar) :
    fam.cellInvs (ER (F := F)) (Rd X Wt) κ ⊢ cellInv ER (Rd X Wt) (κ (cell c' x)) (cell c' x) :=
  fam.cellInvs_dorm (ER (F := F)) (Rd X Wt) κ c' (mem_dorm x hx 0)

theorem ctx_fam (κ : GSem nD τ sig → ℕ) (c : Dev nD) : ctx X Wt κ c ⊢ fam.cellInvs (ER (F := F)) (Rd X Wt) κ := by
  unfold ctx
  iintro ⟨H, -, -⟩
  iexact H
theorem ctx_inv (κ : GSem nD τ sig → ℕ) (c c' : Dev nD) (x : Cl) : ctx X Wt κ c ⊢ cellInv ER (Rd X Wt) (κ (cell c' x)) (cell c' x) := by
  by_cases hx : x = .bar
  · rw [hx]; exact (ctx_fam X Wt κ c).trans (inv_bar X Wt κ c')
  · exact (ctx_fam X Wt κ c).trans (inv_dorm X Wt κ c' x hx)

theorem ctx_cred (κ : GSem nD τ sig → ℕ) (c : Dev nD) (d : Dr) : ctx X Wt κ c ⊢ reached ER (cell (bwd d c) (.cred d)) 0 := by
  unfold ctx
  iintro ⟨-, -, H⟩
  iapply (bigSepL_elim (mem_drs d) fun d => reached (ER (F := F)) (cell (bwd d c) (.cred d)) 0); iexact H

theorem mayWaitL (c : Dev nD) (sm : SemLoc sig) (i : ℕ) (hi : i < NL) (l : List Op) (h : lvOk i l = true) :
    (levAts (SiteBlocks.L NL) SiteBlocks.lv : sProp 𝕄) ⊢ MayWait (c : Thread nD τ) sm i (dues c l) := by
  have key : ∀ g (k : ℕ), 0 < dues c l g k → k ∈ SiteBlocks.L NL g ∧ i < k := by
    intro g k hk
    obtain ⟨x, hx, rfl, rfl⟩ := TalkSites.tallyL_pos hk
    obtain ⟨p, hp, rfl⟩ := List.mem_map.mp hx
    obtain ⟨o, ho, hp⟩ := List.mem_flatMap.mp hp
    have h1 := List.all_eq_true.mp h o ho
    have h2 : p.2.1 ∈ opLv o := by
      cases o <;> first
        | exact absurd hp List.not_mem_nil
        | (rw [List.mem_singleton.mp hp]; exact List.mem_singleton_self _)
    have h3 := List.all_eq_true.mp h1 _ h2
    rw [Bool.and_eq_true, Nat.blt_eq, Nat.blt_eq] at h3
    exact ⟨SiteBlocks.mem_L _ _ h3.2, h3.1⟩
  exact SiteBlocks.mayWait_of hi c sm (dues c l) key
theorem mayWait (κ : GSem nD τ sig → ℕ) (c : Dev nD) (sm : SemLoc sig) (i : ℕ) (hi : i < NL) (l : List Op) (h : lvOk i l = true) :
    ctx X Wt κ c ⊢ MayWait (c : Thread nD τ) sm i (dues c l) := by
  unfold ctx
  iintro ⟨-, H, -⟩
  iapply (mayWaitL c sm i hi l h); iexact H

theorem f16_eq (s : Fin 16) : f16 (3 * (s.val / 3) + (k3 s).val) = s := by
  apply Fin.ext; show (3 * (s.val / 3) + s.val % 3) % 16 = s.val; have := s.isLt; omega
theorem k3_lt (s : Fin 16) (n : ℕ) (h : s.val < n) : 3 * (s.val / 3) + (k3 s).val < n := by
  show 3 * (s.val / 3) + s.val % 3 < n; omega

theorem dut_snd (c : Dev nD) (d : Dr) (h : Hf) (s : Fin 16) (hs : s.val < nS d) : dutC c (.snd d h (k3 s)) (s.val / 3) = {(c, 0)} := if_pos (k3_lt s _ hs)
theorem dut_rcv (c : Dev nD) (d : Dr) (h : Hf) (s : Fin 16) (hs : s.val < nS d) : dutC c (.rcv d h (k3 s)) (s.val / 3) = {(bwd d c, 0)} := if_pos (k3_lt s _ hs)

abbrev 𝒱₀ : Variants := Variants.none

end Cert.KernelIdeal.Own

end
-- ==== Proof.Pieces.lean ====
/- The pieces of the gathering buffers: which elements they have, how they make up the buffers, and which of them a tile reads. -/
module

public import proofs.«01_k».proof.Proof.Held

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

variable (X : Dev nD → (S4096x128.Idx → Elt F .fp8e4m3)) (Wt : Dev nD → (S128x2048.Idx → Elt F .fp8e5m2))

/-! ## Which elements a piece has -/

theorem mem_x0 (j : Fin 32) (i : S4096x4096.Idx) : i ∈ (pc .x0 j).view.set ↔ (i 0).val < 2048 ∧ (i 1).val / 128 = j.val := by
  constructor
  · intro h
    obtain ⟨x, -, e⟩ := Finset.mem_map.mp h
    have e' := (pc_emb_x0 j x).symm.trans e
    rw [← e']
    exact ⟨(x 0).isLt, (div_key j.val (x 1).val (x 1).isLt).1⟩
  · rintro ⟨h0, h1⟩
    refine Finset.mem_map.mpr ⟨ix2 ⟨(i 0).val, h0⟩ ⟨(i 1).val % 128, Nat.mod_lt _ (by decide)⟩, Finset.mem_univ _, ?_⟩
    refine (pc_emb_x0 j _).trans (Eq.trans ?_ (eq_ix2 i).symm)
    congr 1
    exact Fin.ext (show j.val * 128 + (i 1).val % 128 = (i 1).val by omega)
theorem mem_x1 (j : Fin 32) (i : S4096x4096.Idx) : i ∈ (pc .x1 j).view.set ↔ 2048 ≤ (i 0).val ∧ (i 1).val / 128 = j.val := by
  have hi : (i 0).val < 4096 := (i 0).isLt
  constructor
  · intro h
    obtain ⟨x, -, e⟩ := Finset.mem_map.mp h
    have e' := (pc_emb_x1 j x).symm.trans e
    rw [← e']
    exact ⟨Nat.le_add_right _ _, (div_key j.val (x 1).val (x 1).isLt).1⟩
  · rintro ⟨h0, h1⟩
    refine Finset.mem_map.mpr ⟨ix2 ⟨(i 0).val - 2048, by omega⟩ ⟨(i 1).val % 128, Nat.mod_lt _ (by decide)⟩, Finset.mem_univ _, ?_⟩
    refine (pc_emb_x1 j _).trans (Eq.trans ?_ (eq_ix2 i).symm)
    exact congrArg₂ (fun a b => ix2 (n0 := 4096) (n1 := 4096) a b) (Fin.ext (Nat.add_sub_cancel' h0)) (Fin.ext (show j.val * 128 + (i 1).val % 128 = (i 1).val by omega))
theorem mem_w (j : Fin 32) (i : S4096x2048.Idx) : i ∈ (pc .w j).view.set ↔ (i 0).val / 128 = j.val := by
  constructor
  · intro h
    obtain ⟨x, -, e⟩ := Finset.mem_map.mp h
    have e' := (pc_emb_w j x).symm.trans e
    rw [← e']
    exact (div_key j.val (x 0).val (x 0).isLt).1
  · intro h0
    refine Finset.mem_map.mpr ⟨ix2 ⟨(i 0).val % 128, Nat.mod_lt _ (by decide)⟩ (i 1), Finset.mem_univ _, ?_⟩
    refine (pc_emb_w j _).trans (Eq.trans ?_ (eq_ix2 i).symm)
    congr 1
    exact Fin.ext (show j.val * 128 + (i 0).val % 128 = (i 0).val by omega)

/-- The slot of a column. -/
def jx (n : ℕ) (h : n < 4096) : Fin 32 := ⟨n / 128, by omega⟩

abbrev K0 (j : Fin 32) : Finset S4096x4096.Idx := (pc .x0 j).view.set
abbrev K1 (j : Fin 32) : Finset S4096x4096.Idx := (pc .x1 j).view.set
abbrev Kw (j : Fin 32) : Finset S4096x2048.Idx := (pc .w j).view.set

theorem dis_x0 (j j' : Fin 32) (h : j ≠ j') : Disjoint (K0 j) (K0 j') :=
  Finset.disjoint_left.mpr fun i a b => h (Fin.ext (((mem_x0 j i).mp a).2.symm.trans ((mem_x0 j' i).mp b).2))
theorem dis_x1 (j j' : Fin 32) (h : j ≠ j') : Disjoint (K1 j) (K1 j') :=
  Finset.disjoint_left.mpr fun i a b => h (Fin.ext (((mem_x1 j i).mp a).2.symm.trans ((mem_x1 j' i).mp b).2))
theorem dis_w (j j' : Fin 32) (h : j ≠ j') : Disjoint (Kw j) (Kw j') :=
  Finset.disjoint_left.mpr fun i a b => h (Fin.ext (((mem_w j i).mp a).symm.trans ((mem_w j' i).mp b)))

/-! ## Pieces together -/

abbrev loc0 (c : Dev nD) : Loc nD τ sig := (Memref.whole cc0_scratch0).view.loc (c : Thread nD τ)
abbrev loc1 (c : Dev nD) : Loc nD τ sig := (Memref.whole cc0_scratch1).view.loc (c : Thread nD τ)

theorem join_x0 (c : Dev nD) (q : PosShare TreeShare) (S : Finset (Fin 32)) (f : S4096x4096.Idx → Elt F .fp8e4m3) :
    (bigSep S fun j => pts (F := F) c .x0 j q f) = (loc0 c ↦[S.biUnion K0]{q} f) :=
  (pointsTo_biUnion (ℓ := loc0 c) S K0 (fun j _ j' _ h => dis_x0 j j' h)).symm
theorem join_x1 (c : Dev nD) (q : PosShare TreeShare) (S : Finset (Fin 32)) (f : S4096x4096.Idx → Elt F .fp8e4m3) :
    (bigSep S fun j => pts (F := F) c .x1 j q f) = (loc0 c ↦[S.biUnion K1]{q} f) :=
  (pointsTo_biUnion (ℓ := loc0 c) S K1 (fun j _ j' _ h => dis_x1 j j' h)).symm
theorem join_w (c : Dev nD) (q : PosShare TreeShare) (S : Finset (Fin 32)) (f : S4096x2048.Idx → Elt F .fp8e5m2) :
    (bigSep S fun j => pts (F := F) c .w j q f) = (loc1 c ↦[S.biUnion Kw]{q} f) :=
  (pointsTo_biUnion (ℓ := loc1 c) S Kw (fun j _ j' _ h => dis_w j j' h)).symm

/-- The whole of a gathering buffer is its pieces. -/
theorem whole_x (c : Dev nD) (q : PosShare TreeShare) (f : S4096x4096.Idx → Elt F .fp8e4m3) :
    (loc0 c ↦[(Finset.univ : Finset S4096x4096.Idx)]{q} f : sProp 𝕄)
      ⊣⊢ iprop((bigSep Finset.univ fun j => pts (F := F) c .x0 j q f) ∗ bigSep Finset.univ fun j => pts (F := F) c .x1 j q f) := by
  rw [join_x0, join_x1]
  have hu : (Finset.univ : Finset S4096x4096.Idx) = Finset.univ.biUnion K0 ∪ Finset.univ.biUnion K1 := by
    ext i
    have hi : (i 1).val < 4096 := (i 1).isLt
    refine ⟨fun _ => ?_, fun _ => Finset.mem_univ _⟩
    rcases lt_or_ge (i 0).val 2048 with h | h
    · exact Finset.mem_union_left _ (Finset.mem_biUnion.mpr ⟨jx _ hi, Finset.mem_univ _, (mem_x0 (jx _ hi) i).mpr ⟨h, rfl⟩⟩)
    · exact Finset.mem_union_right _ (Finset.mem_biUnion.mpr ⟨jx _ hi, Finset.mem_univ _, (mem_x1 (jx _ hi) i).mpr ⟨h, rfl⟩⟩)
  have hd : Disjoint (Finset.univ.biUnion K0) (Finset.univ.biUnion K1) := by
    refine Finset.disjoint_left.mpr fun i a b => ?_
    obtain ⟨j, -, a⟩ := Finset.mem_biUnion.mp a
    obtain ⟨j', -, b⟩ := Finset.mem_biUnion.mp b
    have := ((mem_x0 j i).mp a).1
    have := ((mem_x1 j' i).mp b).1
    omega
  have e := pointsTo_union (ℓ := loc0 c) (q := q) (f := f) (Val := Elt F) (Ix := ℕ) (Name := ℕ) (U := UU) (Lvl := ℕ) hd
  rw [hu]
  exact e
theorem whole_w (c : Dev nD) (q : PosShare TreeShare) (f : S4096x2048.Idx → Elt F .fp8e5m2) :
    (loc1 c ↦[(Finset.univ : Finset S4096x2048.Idx)]{q} f : sProp 𝕄) = bigSep Finset.univ fun j => pts (F := F) c .w j q f := by
  rw [join_w]
  have hu : (Finset.univ : Finset S4096x2048.Idx) = Finset.univ.biUnion Kw := by
    ext i
    have hi : (i 0).val < 4096 := (i 0).isLt
    exact ⟨fun _ => Finset.mem_biUnion.mpr ⟨jx _ hi, Finset.mem_univ _, (mem_w (jx _ hi) i).mpr rfl⟩, fun _ => Finset.mem_univ _⟩
  rw [hu]

/-! ## What a tile reads -/

theorem rx_row (nc : Nc) (m : Fin 8) (c0 : Fin 29) (i : S4096x4096.Idx) (h : i ∈ ((Memref.whole cc0_scratch0).access (rx nc m c0)).set) :
    (m.val * 512 ≤ (i 0).val ∧ (i 0).val < m.val * 512 + 512) ∧ c0.val * 128 ≤ (i 1).val ∧ (i 1).val < c0.val * 128 + nc.n * 128 := by
  cases nc
  all_goals
    obtain ⟨x, -, rfl⟩ := Finset.mem_map.mp h
    have h0 : (x 0).val < 512 := (x 0).isLt
  · have h1 : (x 1).val < 128 := (x 1).isLt
    show (m.val * 512 ≤ m.val * 512 + 1 * (x 0).val ∧ m.val * 512 + 1 * (x 0).val < m.val * 512 + 512) ∧ c0.val * 128 ≤ c0.val * 128 + 1 * (x 1).val ∧ c0.val * 128 + 1 * (x 1).val < c0.val * 128 + 1 * 128
    omega
  · have h1 : (x 1).val < 384 := (x 1).isLt
    show (m.val * 512 ≤ m.val * 512 + 1 * (x 0).val ∧ m.val * 512 + 1 * (x 0).val < m.val * 512 + 512) ∧ c0.val * 128 ≤ c0.val * 128 + 1 * (x 1).val ∧ c0.val * 128 + 1 * (x 1).val < c0.val * 128 + 3 * 128
    omega
  · have h1 : (x 1).val < 512 := (x 1).isLt
    show (m.val * 512 ≤ m.val * 512 + 1 * (x 0).val ∧ m.val * 512 + 1 * (x 0).val < m.val * 512 + 512) ∧ c0.val * 128 ≤ c0.val * 128 + 1 * (x 1).val ∧ c0.val * 128 + 1 * (x 1).val < c0.val * 128 + 4 * 128
    omega
theorem rw_row (nc : Nc) (c0 : Fin 29) (i : S4096x2048.Idx) (h : i ∈ ((Memref.whole cc0_scratch1).access (rw' nc c0)).set) :
    c0.val * 128 ≤ (i 0).val ∧ (i 0).val < c0.val * 128 + nc.n * 128 := by
  cases nc
  all_goals
    obtain ⟨x, -, rfl⟩ := Finset.mem_map.mp h
  · have h1 : (x 0).val < 128 := (x 0).isLt
    show c0.val * 128 ≤ c0.val * 128 + 1 * (x 0).val ∧ c0.val * 128 + 1 * (x 0).val < c0.val * 128 + 1 * 128
    omega
  · have h1 : (x 0).val < 384 := (x 0).isLt
    show c0.val * 128 ≤ c0.val * 128 + 1 * (x 0).val ∧ c0.val * 128 + 1 * (x 0).val < c0.val * 128 + 3 * 128
    omega
  · have h1 : (x 0).val < 512 := (x 0).isLt
    show c0.val * 128 ≤ c0.val * 128 + 1 * (x 0).val ∧ c0.val * 128 + 1 * (x 0).val < c0.val * 128 + 4 * 128
    omega

theorem mem_slots (nc : Nc) (c0 : Fin 29) (j : Fin 32) : j ∈ (slots nc c0).toFinset ↔ c0.val ≤ j.val ∧ j.val < c0.val + nc.n := by
  unfold slots
  rw [List.mem_toFinset, List.mem_filter, decide_eq_true_eq]
  exact ⟨fun h => h.2, fun h => ⟨List.mem_finRange j, h⟩⟩

theorem jx_slots (nc : Nc) (c0 : Fin 29) (n : ℕ) (h : n < 4096) (h1 : c0.val * 128 ≤ n) (h2 : n < c0.val * 128 + nc.n * 128) : jx n h ∈ (slots nc c0).toFinset :=
  (mem_slots nc c0 _).mpr (by show c0.val ≤ n / 128 ∧ n / 128 < c0.val + nc.n; omega)

theorem rx_sub0 (nc : Nc) (m : Fin 8) (c0 : Fin 29) (hm : m.val < 4) :
    ((Memref.whole cc0_scratch0).access (rx nc m c0)).set ⊆ (slots nc c0).toFinset.biUnion K0 := fun i h => by
  have h1 := rx_row nc m c0 i h
  have h2 : ((i : S4096x4096.Idx) 0).val < 2048 := by have := h1.1.2; omega
  exact Finset.mem_biUnion.mpr ⟨jx _ ((i : S4096x4096.Idx) 1).isLt, jx_slots nc c0 _ _ h1.2.1 h1.2.2, (mem_x0 _ i).mpr ⟨h2, rfl⟩⟩
theorem rx_sub1 (nc : Nc) (m : Fin 8) (c0 : Fin 29) (hm : ¬m.val < 4) :
    ((Memref.whole cc0_scratch0).access (rx nc m c0)).set ⊆ (slots nc c0).toFinset.biUnion K1 := fun i h => by
  have h1 := rx_row nc m c0 i h
  have h2 : 2048 ≤ ((i : S4096x4096.Idx) 0).val := by have := h1.1.1; omega
  exact Finset.mem_biUnion.mpr ⟨jx _ ((i : S4096x4096.Idx) 1).isLt, jx_slots nc c0 _ _ h1.2.1 h1.2.2, (mem_x1 _ i).mpr ⟨h2, rfl⟩⟩
theorem rw_sub (nc : Nc) (c0 : Fin 29) :
    ((Memref.whole cc0_scratch1).access (rw' nc c0)).set ⊆ (slots nc c0).toFinset.biUnion Kw := fun i h => by
  have h1 := rw_row nc c0 i h
  exact Finset.mem_biUnion.mpr ⟨jx _ ((i : S4096x2048.Idx) 0).isLt, jx_slots nc c0 _ _ h1.1 h1.2, (mem_w _ i).mpr rfl⟩

end Cert.KernelIdeal.Own

end
-- ==== Proof.Ops.lean ====
/- Each step of the body that copies, waits or gives credit, from what the device holds before it to what it holds after. -/
module

public import proofs.«01_k».proof.Proof.Held

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

variable (X : Dev nD → (S4096x128.Idx → Elt F .fp8e4m3)) (Wt : Dev nD → (S128x2048.Idx → Elt F .fp8e5m2))

theorem payC_snd (c : Dev nD) (d : Dr) (h : Hf) (s : Fin 16) (i : ℕ) : payC X Wt c (.snd d h (k3 s)) (s.val / 3) i = gp X Wt c h (srcJ d s) (qd d) := by
  show gp X Wt c h (srcJ d (f16 (3 * (s.val / 3) + (k3 s).val))) (qd d) = _; rw [f16_eq]
theorem payC_rcv (c : Dev nD) (d : Dr) (h : Hf) (s : Fin 16) (i : ℕ) : payC X Wt c (.rcv d h (k3 s)) (s.val / 3) i = gp X Wt c h (dstJ d s) fullShare := by
  show gp X Wt c h (dstJ d (f16 (3 * (s.val / 3) + (k3 s).val))) fullShare = _; rw [f16_eq]

theorem rest_snd (c : Dev nD) (d : Dr) (h : Hf) (s : Fin 16) (hs : s.val < nS d) :
    (bigSep ((Rd X Wt).duties ((c : Thread nD τ), .dma (sSem d h s)) (s.val / 3) \ ∅) fun y => (Rd X Wt).payload ((c : Thread nD τ), .dma (sSem d h s)) (s.val / 3) y)
      = gp X Wt c h (srcJ d s) (qd d) := by
  rw [show ((c : Thread nD τ), SemLoc.dma (sSem d h s)) = cell c (.snd d h (k3 s)) from rfl, Finset.sdiff_empty, duties_eq, dut_snd c d h s hs, bigSep_singleton, payload_eq, payC_snd]
theorem rest_rcv (c : Dev nD) (d : Dr) (h : Hf) (s : Fin 16) (hs : s.val < nS d) :
    (bigSep ((Rd X Wt).duties ((c : Thread nD τ), .dma (rSem d h s)) (s.val / 3) \ ∅) fun y => (Rd X Wt).payload ((c : Thread nD τ), .dma (rSem d h s)) (s.val / 3) y)
      = gp X Wt c h (dstJ d s) fullShare := by
  rw [show ((c : Thread nD τ), SemLoc.dma (rSem d h s)) = cell c (.rcv d h (k3 s)) from rfl, Finset.sdiff_empty, duties_eq, dut_rcv c d h s hs, bigSep_singleton, payload_eq, payC_rcv]

theorem expect_snd (c : Dev nD) (d : Dr) (h : Hf) (s : Fin 16) (hs : s.val < nS d) :
    (Rd X Wt).expect ((c : Thread nD τ), .dma (sSem d h s)) (s.val / 3) = cr h := by
  rw [show ((c : Thread nD τ), SemLoc.dma (sSem d h s)) = cell c (.snd d h (k3 s)) from rfl, expect_eq, dut_snd c d h s hs, Finset.card_singleton, one_mul]; rfl
theorem expect_rcv (c : Dev nD) (d : Dr) (h : Hf) (s : Fin 16) (hs : s.val < nS d) :
    (Rd X Wt).expect ((c : Thread nD τ), .dma (rSem d h s)) (s.val / 3) = cr h := by
  rw [show ((c : Thread nD τ), SemLoc.dma (rSem d h s)) = cell c (.rcv d h (k3 s)) from rfl, expect_eq, dut_rcv c d h s hs, Finset.card_singleton, one_mul]; rfl

/-- A piece held whole, as its three shares. -/
theorem thirds (c : Dev nD) (h : Hf) (j : Fin 32) (f : Buf (Elt F) ((pc h j).view.loc (c : Thread nD τ))) :
    pts (F := F) c h j fullShare f ⊢ iprop(pts (F := F) c h j qO f ∗ pts (F := F) c h j (qd .R) f ∗ pts (F := F) c h j (qd .L) f) := by
  iintro H
  ihave H := (pointsTo_share (PosShare.mem_left_op_right fullShare)).1 $$ H
  icases H with ⟨H1, H2⟩
  ihave H2 := (pointsTo_share (PosShare.mem_left_op_right fullShare.right)).1 $$ H2
  icases H2 with ⟨H2, H3⟩
  isplitl [H1]; · iexact H1
  isplitl [H2]; · iexact H2
  iexact H3
theorem thirds_join (c : Dev nD) (h : Hf) (j : Fin 32) (f : Buf (Elt F) ((pc h j).view.loc (c : Thread nD τ))) :
    iprop(pts (F := F) c h j qO f ∗ pts (F := F) c h j (qd .R) f ∗ pts (F := F) c h j (qd .L) f) ⊢ pts (F := F) c h j fullShare f := by
  iintro ⟨H1, H2, H3⟩
  iapply (pointsTo_share (PosShare.mem_left_op_right fullShare)).2
  isplitl [H1]; · iexact H1
  iapply (pointsTo_share (PosShare.mem_left_op_right fullShare.right)).2
  isplitl [H2]; · iexact H2
  iexact H3

/-! ## Waiting for an own copy to leave -/

theorem st_sendW (κ : GSem nD τ sig → ℕ) (c : Dev nD) (σ : St) (rest : List Op) (d : Dr) (h : Hf) (s : Fin 16) (hok : ok σ rest (.sendW d h s) = true)
    (W : Waits sig ℕ) (k : PUnit → PP F) (Q : PUnit → sProp 𝕄) :
    iprop(ctx X Wt κ c ∗ Res X Wt c σ ∗ owes (c : Thread nD τ) (dues c rest) W)
      ⊢ iprop(((∃ W', owes (c : Thread nD τ) (dues c rest) W') ∗ Res X Wt c (stp σ (.sendW d h s)) -∗ wp frame (wpE (defs₀ (F := F)) 𝒱₀ c none) Set.univ (k ⟨⟩) Q)
        -∗ wp frame (wpE (defs₀ (F := F)) 𝒱₀ c none) Set.univ
          (.op (.waitDma2 (sSem d h s) (pc h (dstJ d s)) (pc h (srcJ d s)) (pc_words _ _) (pc_words _ _)) k) Q) := by
  simp only [ok, Bool.and_eq_true, decide_eq_true_eq] at hok
  obtain ⟨⟨⟨⟨hfl, hps⟩, hav⟩, hs⟩, hlv⟩ := hok
  unfold Res stp
  simp only
  rw [take1 hfl, put1 hav, take1 (mem_psS_snd d h (k3 s)), hps, bigSep_put (mem_psS_snd d h (k3 s)) (pos c)]
  iintro ⟨#Hx, ⟨How, Hav, ⟨Hc, Hfl⟩, ⟨Hp, Hps⟩, Hcw⟩, HO⟩ Hk
  unfold pos
  icases Hp with ⟨Hat, -⟩
  iapply (Rounds.wp_wait_rest_token 𝒱₀ ER (Rd X Wt) (c : Thread nD τ) none (κ := κ (cell c (.snd d h (k3 s))))
      (wpE_waitDma2_eq 𝒱₀ (c : Thread nD τ) none Set.univ) (Set.mem_univ _) 0 (O := dues c rest) (W := W) (R := s.val / 3) (m := 0) (T := ∅)
      (by rw [Nat.zero_add, cr_eq, expect_snd X Wt c d h s hs])) $$ [Hc HO Hat]
  · isplitr; · iapply (ctx_inv X Wt κ c c (.snd d h (k3 s))); iexact Hx
    isplitl [Hc]; · rw [cr_eq]; iexact Hc
    isplitl [HO]; · iexact HO
    isplitr; · iapply (mayWait X Wt κ c _ 0 (by decide) rest hlv); iexact Hx
    iexact Hat
  iintro ⟨HO, Hat, Hr, Hpay⟩
  ihave Hpay := (Entails.of_eq (rest_snd X Wt c d h s hs)) $$ Hpay
  iapply Hk
  isplitl [HO]; · iexists _; iexact HO
  isplitl [How]; · iexact How
  isplitl [Hpay Hav]
  · isplitl [Hpay]; · iexact Hpay
    iexact Hav
  isplitl [Hfl]; · iexact Hfl
  isplitr [Hcw]
  · isplitl [Hat Hr]
    · isplitl [Hat]; · iexact Hat
      iexact Hr
    iexact Hps
  iexact Hcw

/-! ## Waiting for a neighbour's copy -/

theorem st_recvW (κ : GSem nD τ sig → ℕ) (c : Dev nD) (σ : St) (rest : List Op) (d : Dr) (h : Hf) (s : Fin 16) (hok : ok σ rest (.recvW d h s) = true)
    (W : Waits sig ℕ) (k : PUnit → PP F) (Q : PUnit → sProp 𝕄) :
    iprop(ctx X Wt κ c ∗ Res X Wt c σ ∗ owes (c : Thread nD τ) (dues c rest) W ∗ cred (tallyAt (cell c (.rcv d h (k3 s))) (lvS d s.val) (cr h)))
      ⊢ iprop(((∃ W', owes (c : Thread nD τ) (dues c rest) W') ∗ Res X Wt c (stp σ (.recvW d h s)) -∗ wp frame (wpE (defs₀ (F := F)) 𝒱₀ c none) Set.univ (k ⟨⟩) Q)
        -∗ wp frame (wpE (defs₀ (F := F)) 𝒱₀ c none) Set.univ
          (.op (.waitDma2 (rSem d h s) (pc h (srcJ d s)) (pc h (dstJ d s)) (pc_words _ _) (pc_words _ _)) k) Q) := by
  simp only [ok, Bool.and_eq_true, decide_eq_true_eq] at hok
  obtain ⟨⟨⟨⟨⟨⟨hps, hs⟩, how⟩, haR⟩, haL⟩, hlv⟩, hlt⟩ := hok
  have haR' : (Dr.R, h, dstJ d s) ∉ insert (Dr.L, h, dstJ d s) σ.av := by
    rw [Finset.mem_insert]; rintro (e | e)
    · exact absurd (show Dr.R = Dr.L from congrArg Prod.fst e) (by decide)
    · exact haR e
  unfold Res stp
  simp only
  rw [put1 how, put1 haR', put1 haL, take1 (mem_psS_rcv d h (k3 s)), hps, bigSep_put (mem_psS_rcv d h (k3 s)) (pos c)]
  iintro ⟨#Hx, ⟨How, Hav, Hfl, ⟨Hp, Hps⟩, Hcw⟩, HO, Hc⟩ Hk
  unfold pos
  icases Hp with ⟨Hat, -⟩
  iapply (Rounds.wp_wait_rest_token 𝒱₀ ER (Rd X Wt) (c : Thread nD τ) none (κ := κ (cell c (.rcv d h (k3 s))))
      (wpE_waitDma2_eq 𝒱₀ (c : Thread nD τ) none Set.univ) (Set.mem_univ _) (lvS d s.val) (O := dues c rest) (W := W) (R := s.val / 3) (m := 0) (T := ∅)
      (by rw [Nat.zero_add, cr_eq, expect_rcv X Wt c d h s hs])) $$ [Hc HO Hat]
  · isplitr; · iapply (ctx_inv X Wt κ c c (.rcv d h (k3 s))); iexact Hx
    isplitl [Hc]; · rw [cr_eq]; iexact Hc
    isplitl [HO]; · iexact HO
    isplitr; · iapply (mayWait X Wt κ c _ (lvS d s.val) hlt rest hlv); iexact Hx
    iexact Hat
  iintro ⟨HO, Hat, Hr, Hpay⟩
  ihave Hpay := (Entails.of_eq (rest_rcv X Wt c d h s hs)) $$ Hpay
  ihave Hpay := (thirds c h (dstJ d s) (G X Wt h c (dstJ d s))) $$ Hpay
  icases Hpay with ⟨H1, H2, H3⟩
  iapply Hk
  isplitl [HO]; · iexists _; iexact HO
  isplitl [How H1]
  · isplitl [H1]; · iexact H1
    iexact How
  isplitl [Hav H2 H3]
  · isplitl [H2]; · iexact H2
    isplitl [H3]; · iexact H3
    iexact Hav
  isplitl [Hfl]; · iexact Hfl
  isplitr [Hcw]
  · isplitl [Hat Hr]
    · isplitl [Hat]; · iexact Hat
      iexact Hr
    iexact Hps
  iexact Hcw

/-! ## Sending -/

theorem known_at (c : Dev nD) (d : Dr) (h : Hf) (s : Fin 16) (n : ℕ) (hn : s.val / 3 ≤ (n + 2 - s.val % 3) / 3) :
    known (F := F) c d n ⊢ reached (ER (F := F)) (cell (fwd d c) (.rcv d h (k3 s))) (s.val / 3) := by
  unfold known
  iintro H
  ihave H := (bigSepL_elim (mem_hks h (k3 s)) fun p => reached (ER (F := F)) (cell (fwd d c) (.rcv d p.1 p.2)) ((n + 2 - p.2.val) / 3)) $$ H
  iapply (Rounds.reached_mono ER hn)
  iexact H

theorem st_send (κ : GSem nD τ sig → ℕ) (c : Dev nD) (σ : St) (rest : List Op) (d : Dr) (h : Hf) (s : Fin 16) (hok : ok σ rest (.send d h s) = true)
    (W : Waits sig ℕ) (k : PUnit → PP F) (Q : PUnit → sProp 𝕄) (c' : Dev nD) (hc' : c' = fwd d c) :
    iprop(ctx X Wt κ c ∗ Res X Wt c σ ∗ owes (c : Thread nD τ) (dues c (.send d h s :: rest)) W ∗ tokAt c (.snd d h (k3 s), s.val / 3, 0) ∗ tokAt c (.rcv d h (k3 s), s.val / 3, 0)
        ∗ ∃ f, pts (F := F) (fwd d c) h (dstJ d s) fullShare f)
      ⊢ iprop(((∃ W', owes (c : Thread nD τ) (dues c rest) W') ∗ Res X Wt c (stp σ (.send d h s)) -∗ wp frame (wpE (defs₀ (F := F)) 𝒱₀ c none) Set.univ (k ⟨⟩) Q)
        -∗ wp frame (wpE (defs₀ (F := F)) 𝒱₀ c none) Set.univ
          (.op (.enqueueDma (pc h (srcJ d s)) (.remote (Dev.tc c') (pc h (dstJ d s)) (.dma (sSem d h s))) (.dma (rSem d h s))
            (pc_words _ _) (pc_words _ _) ⟨⟨rfl, Or.inl rfl⟩, trivial⟩) k) Q) := by
  subst hc'
  simp only [ok, Bool.and_eq_true, decide_eq_true_eq] at hok
  obtain ⟨⟨⟨⟨hav, hfl⟩, hps⟩, hkn⟩, hs⟩ := hok
  unfold Res stp
  simp only
  rw [take1 hav, put1 hfl, take1 (mem_psS_snd d h (k3 s)), take1 (Finset.mem_univ d)]
  iintro ⟨#Hx, ⟨How, ⟨Hsrc, Hav⟩, Hfl, ⟨Hp, Hps⟩, ⟨Hcd, Hcw⟩⟩, HO, Ht1, Ht2, ⟨%fd, Hdst⟩⟩ Hk
  unfold pos
  icases Hp with ⟨Hat, #Hr⟩
  unfold credSt
  icases Hcd with ⟨Hcd, #Hkn⟩
  iapply (Rounds.wp_send_pointsTo 𝒱₀ ER (Rd X Wt) (c : Thread nD τ) none (c' := (fwd d c : Thread nD τ)) (src := pc h (srcJ d s)) (dst := pc h (dstJ d s))
      (sS := .dma (sSem d h s)) (sem := .dma (rSem d h s)) (q := qd d) (fs := G X Wt h c (srcJ d s)) (κ₁ := κ (cell c (.snd d h (k3 s)))) (κ₂ := κ (cell (fwd d c) (.rcv d h (k3 s))))
      (r₁ := s.val / 3) (r₂ := s.val / 3) (d₁ := (c, 0)) (d₂ := (c, 0)) (fd := fd)
      (by rw [show ((c : Thread nD τ), SemLoc.dma (sSem d h s)) = cell c (.snd d h (k3 s)) from rfl, duties_eq, dut_snd c d h s hs]; exact Finset.mem_singleton_self _)
      (by rw [show ((fwd d c : Thread nD τ), SemLoc.dma (rSem d h s)) = cell (fwd d c) (.rcv d h (k3 s)) from rfl, duties_eq, dut_rcv _ d h s hs, bwd_fwd]; exact Finset.mem_singleton_self _)
      (lvS d s.val) 0 (cr h) (cr_eq h (dstJ d s)) (amount_eq X Wt c (.snd d h (k3 s)) _ _) (amount_eq X Wt (fwd d c) (.rcv d h (k3 s)) _ _) (dues c rest) (add_comm _ _) (W := W)
      (by rw [show ((c : Thread nD τ), SemLoc.dma (sSem d h s)) = cell c (.snd d h (k3 s)) from rfl, payload_eq, payC_snd])
      (by
        rw [show ((fwd d c : Thread nD τ), SemLoc.dma (rSem d h s)) = cell (fwd d c) (.rcv d h (k3 s)) from rfl, payload_eq, payC_rcv]
        exact Entails.of_eq (pointsTo_congr (landed X Wt d h s c fd)))) $$ [Hsrc Hdst HO Ht1 Ht2]
  · isplitr; · iapply (ctx_inv X Wt κ c c (.snd d h (k3 s))); iexact Hx
    isplitr; · iapply (ctx_inv X Wt κ c (fwd d c) (.rcv d h (k3 s))); iexact Hx
    isplitl [Hsrc]; · iexact Hsrc
    isplitl [Hdst]; · iexact Hdst
    isplitl [HO]; · iexact HO
    isplitl [Ht1]; · iexact Ht1
    isplitr; · iapply (Rounds.reached_mono ER hps); iexact Hr
    isplitl [Ht2]; · iexact Ht2
    iapply (known_at c d h s _ hkn); iexact Hkn
  iintro ⟨Hc, HO⟩
  iapply Hk
  isplitl [HO]; · iexists _; iexact HO
  isplitl [How]; · iexact How
  isplitl [Hav]; · iexact Hav
  isplitl [Hfl Hc]
  · isplitl [Hc]; · iexact Hc
    iexact Hfl
  isplitl [Hat Hps]
  · isplitl [Hat]
    · isplitl [Hat]; · iexact Hat
      iexact Hr
    iexact Hps
  isplitl [Hcd]
  · isplitl [Hcd]; · iexact Hcd
    iexact Hkn
  iexact Hcw

end Cert.KernelIdeal.Own

end
-- ==== Proof.Credit.lean ====
/- The steps that give and take credit. -/
module

public import proofs.«01_k».proof.Proof.Ops

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

variable (X : Dev nD → (S4096x128.Idx → Elt F .fp8e4m3)) (Wt : Dev nD → (S128x2048.Idx → Elt F .fp8e5m2))

theorem payC_cred (c : Dev nD) (d : Dr) (r i : ℕ) : payC X Wt c (.cred d) r i = credPay c d i := rfl
theorem credAt_eq (c : Dev nD) (d : Dr) : credAt (F := F) c d (nC d) = atPos ER (cell c (.cred d)) 1 ∅ 0 := if_pos rfl
theorem credAt_ne (c : Dev nD) (d : Dr) (n : ℕ) (h : n ≠ nC d) : credAt (F := F) c d n
    = iprop(∃ T, ⌜T ⊆ dutC c (.cred d) 0 ∧ n ≤ T.card⌝ ∗ atPos (ER (F := F)) (cell c (.cred d)) 0 T n ∗ bigSep T fun y => credPay (F := F) c d y.2) := if_neg h

theorem cred_rest (c : Dev nD) (d : Dr) (T : Finset Dty) :
    (bigSep ((Rd X Wt).duties ((c : Thread nD τ), .reg (cSem d)) 0 \ T) fun y => (Rd X Wt).payload ((c : Thread nD τ), .reg (cSem d)) 0 y)
      ⊢ bigSep (dutC c (.cred d) 0 \ T) fun y => credPay (F := F) c d y.2 := by
  rw [show ((c : Thread nD τ), SemLoc.reg (cSem d)) = cell c (.cred d) from rfl, duties_eq]
  exact Entails.of_eq (bigSep_congr fun y _ => payload_eq X Wt c (.cred d) 0 y)
theorem cred_part (c : Dev nD) (d : Dr) (S T : Finset Dty) :
    (bigSep (S \ T) fun y => (Rd X Wt).payload ((c : Thread nD τ), .reg (cSem d)) 0 y) ⊢ bigSep (S \ T) fun y => credPay (F := F) c d y.2 :=
  Entails.of_eq (bigSep_congr fun y _ => payload_eq X Wt c (.cred d) 0 y)

/-- A list of persistent facts out of a resource that gives each. -/
theorem bigSepL_of {I : Type} (l : List I) (P : sProp 𝕄) (Φ : I → sProp 𝕄) [∀ i, BI.Persistent (Φ i)] (h : ∀ i ∈ l, P ⊢ iprop(Φ i ∗ P)) :
    P ⊢ iprop(bigSepL l Φ ∗ P) := by
  induction l with
  | nil => iintro H; isplitr; · iempintro
           iexact H
  | cons i l ih =>
    rw [bigSepL_cons']
    iintro H
    ihave H := (h i List.mem_cons_self) $$ H
    icases H with ⟨H1, H⟩
    ihave H := (ih fun j hj => h j (List.mem_cons_of_mem _ hj)) $$ H
    icases H with ⟨H2, H⟩
    isplitr [H]
    · isplitl [H1]; · iexact H1
      iexact H2
    iexact H

theorem credPay_of (c : Dev nD) (d : Dr) (i : ℕ) (ps : Cl → ℕ) (h : ∀ p ∈ hks, (i + 3 - p.2.val) / 3 ≤ ps (.rcv d p.1 p.2)) :
    (bigSep psS (fun x => pos (F := F) c x (ps x)) : sProp 𝕄) ⊢ iprop(credPay (F := F) (bwd d c) d i ∗ bigSep psS fun x => pos c x (ps x)) := by
  unfold credPay
  rw [fwd_bwd]
  refine bigSepL_of hks _ _ fun p hp => ?_
  rw [take1 (mem_psS_rcv d p.1 p.2)]
  unfold pos
  iintro ⟨⟨Hat, #Hr⟩, H⟩
  isplitr; · iapply (Rounds.reached_mono (ER (F := F)) (h p hp)); iexact Hr
  isplitl [Hat]
  · isplitl [Hat]; · iexact Hat
    iexact Hr
  iexact H

/-! ## Giving a credit -/

theorem st_credS (κ : GSem nD τ sig → ℕ) (c : Dev nD) (σ : St) (rest : List Op) (d : Dr) (i : ℕ) (hok : ok σ rest (.credS d i) = true)
    (W : Waits sig ℕ) (k : PUnit → PP F) (Q : PUnit → sProp 𝕄) (c' : Dev nD) (hc' : c' = bwd d c) :
    iprop(ctx X Wt κ c ∗ Res X Wt c σ ∗ owes (c : Thread nD τ) (dues c (.credS d i :: rest)) W ∗ tokAt c (.cred d, 0, i))
      ⊢ iprop(((∃ W', owes (c : Thread nD τ) (dues c rest) W') ∗ Res X Wt c (stp σ (.credS d i)) -∗ wp frame (wpE (defs₀ (F := F)) 𝒱₀ c none) Set.univ (k ⟨⟩) Q)
        -∗ wp frame (wpE (defs₀ (F := F)) 𝒱₀ c none) Set.univ (.op (.semSignal (c' : Thread nD τ) (cSem d) ((1 : ℕ) : ℤ)) k) Q) := by
  subst hc'
  simp only [ok, Bool.and_eq_true, decide_eq_true_eq] at hok
  obtain ⟨hi, hps⟩ := hok
  have hps' : ∀ p ∈ hks, (i + 3 - p.2.val) / 3 ≤ σ.ps (.rcv d p.1 p.2) := fun p hp => of_decide_eq_true (List.all_eq_true.mp hps p hp)
  unfold stp
  iintro ⟨#Hx, HR, HO, Ht⟩ Hk
  unfold Res
  icases HR with ⟨How, Hav, Hfl, Hps, Hcw⟩
  -- the receive cells' positions say how far they have come
  ihave Hps := (show (bigSep psS (fun x => pos c x (σ.ps x)) : sProp 𝕄) ⊢ iprop(credPay (F := F) (bwd d c) d i ∗ bigSep psS fun x => pos c x (σ.ps x)) from
    credPay_of c d i σ.ps hps') $$ Hps
  icases Hps with ⟨Hpay, Hps⟩
  iapply (Rounds.wp_signal 𝒱₀ ER (Rd X Wt) (c : Thread nD τ) none (dst := (bwd d c : Thread nD τ)) (sem := cSem d) (r := 0) (d := (c, i)) (κ := κ (cell (bwd d c) (.cred d)))
      (by rw [show ((bwd d c : Thread nD τ), SemLoc.reg (cSem d)) = cell (bwd d c) (.cred d) from rfl, duties_eq]
          show _ ∈ (Finset.range (nC d)).image fun j => (fwd d (bwd d c), j)
          rw [fwd_bwd]; exact Finset.mem_image.mpr ⟨i, Finset.mem_range.mpr hi, rfl⟩)
      (amount_eq X Wt (bwd d c) (.cred d) _ _) (lvC d i) (dues c rest) (add_comm _ _))
    $$ [HO Ht Hpay]
  · isplitr; · iapply (ctx_inv X Wt κ c (bwd d c) (.cred d)); iexact Hx
    isplitl [HO]; · iexact HO
    isplitl [Ht]; · iexact Ht
    isplitl [Hpay]
    · rw [show ((bwd d c : Thread nD τ), SemLoc.reg (cSem d)) = cell (bwd d c) (.cred d) from rfl, payload_eq, payC_cred]; iexact Hpay
    · iapply (ctx_cred X Wt κ c d); iexact Hx
  iintro HO
  iapply Hk
  isplitl [HO]; · iexists _; iexact HO
  isplitl [How]; · iexact How
  isplitl [Hav]; · iexact Hav
  isplitl [Hfl]; · iexact Hfl
  isplitl [Hps]; · iexact Hps
  iexact Hcw

/-! ## Taking a credit -/

theorem exists_ge {c : Dev nD} {d : Dr} {n : ℕ} {S : Finset Dty} (hS : S ⊆ dutC c (.cred d) 0) (hn : n < S.card) : ∃ y ∈ S, n ≤ y.2 := by
  by_contra h
  push Not at h
  have hsub : S ⊆ (Finset.range n).image fun i => (fwd d c, i) := fun y hy => by
    obtain ⟨i, -, rfl⟩ := Finset.mem_image.mp (show y ∈ (Finset.range (nC d)).image fun i => (fwd d c, i) from hS hy)
    exact Finset.mem_image.mpr ⟨i, Finset.mem_range.mpr (h _ hy), rfl⟩
  have := (Finset.card_le_card hsub).trans (Finset.card_image_le.trans (Finset.card_range n).le)
  omega

theorem card_cred (c : Dev nD) (d : Dr) : (dutC c (.cred d) 0).card = nC d := by
  show ((Finset.range (nC d)).image fun i => (fwd d c, i)).card = nC d
  rw [Finset.card_image_of_injective _ (fun a b h => congrArg Prod.snd h), Finset.card_range]

theorem known_of (c : Dev nD) (d : Dr) (n : ℕ) (S : Finset Dty) (hS : S ⊆ dutC c (.cred d) 0) (hn : n < S.card) :
    (bigSep S fun y => credPay (F := F) c d y.2) ⊢ known (F := F) c d (n + 1) := by
  obtain ⟨y, hy, hge⟩ := exists_ge hS hn
  iintro H
  ihave H := (Entails.of_eq (take1 hy fun y => credPay (F := F) c d y.2)) $$ H
  icases H with ⟨H, -⟩
  unfold credPay known
  iapply (bigSepL_mono (l := hks) fun p _ => Rounds.reached_mono (ER (F := F)) (show (n + 1 + 2 - p.2.val) / 3 ≤ (y.2 + 3 - p.2.val) / 3 from Nat.div_le_div_right (by omega)))
  iexact H

theorem st_credW (κ : GSem nD τ sig → ℕ) (c : Dev nD) (σ : St) (rest : List Op) (d : Dr) (i : ℕ) (hok : ok σ rest (.credW d i) = true)
    (W : Waits sig ℕ) (k : PUnit → PP F) (Q : PUnit → sProp 𝕄) :
    iprop(ctx X Wt κ c ∗ Res X Wt c σ ∗ owes (c : Thread nD τ) (dues c rest) W ∗ cred (tallyAt (cell c (.cred d)) (lvC d i) 1))
      ⊢ iprop(((∃ W', owes (c : Thread nD τ) (dues c rest) W') ∗ Res X Wt c (stp σ (.credW d i)) -∗ wp frame (wpE (defs₀ (F := F)) 𝒱₀ c none) Set.univ (k ⟨⟩) Q)
        -∗ wp frame (wpE (defs₀ (F := F)) 𝒱₀ c none) Set.univ (.op (.semWait (cSem d) ((1 : ℕ) : ℤ)) k) Q) := by
  simp only [ok, Bool.and_eq_true, decide_eq_true_eq] at hok
  obtain ⟨⟨⟨hcw, hi⟩, hlv⟩, hlt⟩ := hok
  unfold Res stp
  simp only
  rw [take1 (Finset.mem_univ d), hcw, show (bigSep Finset.univ fun d' => credSt (F := F) c d' (if d' = d then i + 1 else σ.cw d')) = _ from bigSep_put (Finset.mem_univ d) (credSt c) σ.cw (i + 1)]
  iintro ⟨#Hx, ⟨How, Hav, Hfl, Hps, ⟨Hcd, Hcw⟩⟩, HO, Hc⟩ Hk
  unfold credSt
  icases Hcd with ⟨Hcd, -⟩
  ihave Hcd := (Entails.of_eq (credAt_ne c d i (Nat.ne_of_lt hi))) $$ Hcd
  icases Hcd with ⟨%T, %hT, Hat, #HT⟩
  have hexp : (Rd X Wt).expect (cell c (.cred d)) 0 = nC d := by rw [expect_eq, card_cred]; exact Nat.mul_one _
  by_cases hlast : i + 1 = nC d
  · iapply (Rounds.wp_wait_rest_token 𝒱₀ ER (Rd X Wt) (c : Thread nD τ) none (sm := .reg (cSem d)) (κ := κ (cell c (.cred d)))
        (wpE_semWait_eq 𝒱₀ (c : Thread nD τ) none Set.univ) (Set.mem_univ _) (lvC d i) (O := dues c rest) (W := W) (R := 0) (m := i) (T := T)
        (hlast.trans hexp.symm)) $$ [Hc HO Hat]
    · isplitr; · iapply (ctx_inv X Wt κ c c (.cred d)); iexact Hx
      isplitl [Hc]; · iexact Hc
      isplitl [HO]; · iexact HO
      isplitr; · iapply (mayWait X Wt κ c _ (lvC d i) hlt rest hlv); iexact Hx
      iexact Hat
    iintro ⟨HO, Hat, -, Hpay⟩
    ihave Hpay := (cred_rest X Wt c d T) $$ Hpay
    iapply Hk
    isplitl [HO]; · iexists _; iexact HO
    isplitl [How]; · iexact How
    isplitl [Hav]; · iexact Hav
    isplitl [Hfl]; · iexact Hfl
    isplitl [Hps]; · iexact Hps
    isplitl [Hat Hpay]
    · rw [hlast, credAt_eq, ← hlast]
      isplitl [Hat]; · iexact Hat
      iapply (known_of c d i (T ∪ (dutC c (.cred d) 0 \ T)) (by rw [Finset.union_sdiff_of_subset hT.1]) (by rw [Finset.union_sdiff_of_subset hT.1, card_cred]; exact hi))
      iapply (show iprop((bigSep T fun y => credPay (F := F) c d y.2) ∗ bigSep (dutC c (.cred d) 0 \ T) fun y => credPay (F := F) c d y.2) ⊢ bigSep (T ∪ (dutC c (.cred d) 0 \ T)) fun y => credPay (F := F) c d y.2 from
        Entails.of_eq (bigSep_union Finset.disjoint_sdiff).symm)
      isplitr; · iexact HT
      iexact Hpay
    iexact Hcw
  · iapply (Rounds.wp_wait 𝒱₀ ER (Rd X Wt) (c : Thread nD τ) none (sm := .reg (cSem d)) (κ := κ (cell c (.cred d)))
        (wpE_semWait_eq 𝒱₀ (c : Thread nD τ) none Set.univ) (Set.mem_univ _) (cr := Finsupp.single (lvC d i) 1) (O := dues c rest) (W := W) {(SemLoc.reg (cSem d), lvC d i)} (R := 0) (m := i) (T := T)
        (Util.total_single _ _) (image_single_subset _ _ _)) $$ [Hc HO Hat]
    · isplitr; · iapply (ctx_inv X Wt κ c c (.cred d)); iexact Hx
      isplitl [Hc]; · iexact Hc
      isplitl [HO]; · iexact HO
      isplitr; · iapply (mayWait X Wt κ c _ (lvC d i) hlt rest hlv); iexact Hx
      iexact Hat
    iintro %S
    iintro ⟨%hS, HO, Hat, Hpay⟩
    ihave Hpay := (cred_part X Wt c d S T) $$ Hpay
    obtain ⟨hTS, hSD, hcard⟩ := hS
    rw [show (Rd X Wt).expect ((c : Thread nD τ), SemLoc.reg (cSem d)) 0 = nC d from hexp, show (Rd X Wt).duties ((c : Thread nD τ), SemLoc.reg (cSem d)) 0 = dutC c (.cred d) 0 from duties_eq X Wt c (.cred d) 0] at hcard
    rw [show (Rd X Wt).duties ((c : Thread nD τ), SemLoc.reg (cSem d)) 0 = dutC c (.cred d) 0 from duties_eq X Wt c (.cred d) 0] at hSD
    have hSc : i + 1 ≤ S.card := by
      have h1 := Finset.card_sdiff_add_card_eq_card hSD
      rw [card_cred] at h1
      omega
    iapply Hk
    isplitl [HO]; · iexists _; iexact HO
    isplitl [How]; · iexact How
    isplitl [Hav]; · iexact Hav
    isplitl [Hfl]; · iexact Hfl
    isplitl [Hps]; · iexact Hps
    isplitl [Hat Hpay]
    · rw [credAt_ne c d (i + 1) hlast]
      ihave #HS := (show iprop((bigSep T fun y => credPay (F := F) c d y.2) ∗ bigSep (S \ T) fun y => credPay (F := F) c d y.2) ⊢ bigSep S fun y => credPay (F := F) c d y.2 from
        Entails.of_eq (bigSep_sdiff_split hTS).symm) $$ [Hpay]
      · isplitr; · iexact HT
        iexact Hpay
      isplitl [Hat]
      · iexists S
        isplitr; · ipureintro; exact ⟨hSD, hSc⟩
        isplitl [Hat]; · iexact Hat
        iexact HS
      iapply (known_of c d i S hSD hSc)
      iexact HS
    iexact Hcw

end Cert.KernelIdeal.Own

end
-- ==== Proof.Begin.lean ====
/- The gathering buffers taken apart when the kernel begins and put together when it ends, and every cell opened and closed. -/
module

public import proofs.«01_k».proof.Proof.Pieces
public import proofs.«01_k».proof.Proof.Ops
public import proofs.«01_k».proof.Proof.Credit

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

variable (X : Dev nD → (S4096x128.Idx → Elt F .fp8e4m3)) (Wt : Dev nD → (S128x2048.Idx → Elt F .fp8e5m2))

/-! ## Products over lists -/

theorem bigSepL_flatMap {I J : Type} (l : List I) (g : I → List J) (Φ : J → sProp 𝕄) :
    bigSepL (l.flatMap g) Φ = bigSepL l fun i => bigSepL (g i) Φ := by
  induction l with
  | nil => rfl
  | cons i l ih => rw [List.flatMap_cons, bigSepL_append, bigSepL_cons', ih]

theorem bigSepL_two {I : Type} (l : List I) (Φ Ψ : I → sProp 𝕄) :
    iprop(bigSepL l Φ ∗ bigSepL l Ψ) ⊢ bigSepL l fun i => iprop(Φ i ∗ Ψ i) := by
  induction l with
  | nil => iintro ⟨H, -⟩; iexact H
  | cons i l ih =>
    rw [bigSepL_cons', bigSepL_cons', bigSepL_cons']
    iintro ⟨⟨H1, H2⟩, H3, H4⟩
    isplitl [H1 H3]
    · isplitl [H1]; · iexact H1
      iexact H3
    iapply ih
    isplitl [H2]; · iexact H2
    iexact H4
theorem bigSepL_two' {I : Type} (l : List I) (Φ Ψ : I → sProp 𝕄) :
    (bigSepL l fun i => iprop(Φ i ∗ Ψ i)) ⊢ iprop(bigSepL l Φ ∗ bigSepL l Ψ) := by
  induction l with
  | nil => iintro H; isplitl [H]; · iexact H
           iempintro
  | cons i l ih =>
    rw [bigSepL_cons', bigSepL_cons', bigSepL_cons']
    iintro ⟨⟨H1, H3⟩, H⟩
    ihave H := ih $$ H
    icases H with ⟨H2, H4⟩
    isplitl [H1 H2]
    · isplitl [H1]; · iexact H1
      iexact H2
    isplitl [H3]; · iexact H3
    iexact H4

/-- A change of every member of a list, one after another. -/
theorem bigSepL_fupd {I : Type} (l : List I) (Φ Ψ : I → sProp 𝕄) (h : ∀ i ∈ l, Φ i ⊢ iprop(|={Set.univ}=> Ψ i)) :
    bigSepL l Φ ⊢ iprop(|={Set.univ}=> bigSepL l Ψ) := by
  induction l with
  | nil => iintro H; imodintro; iexact H
  | cons i l ih =>
    rw [bigSepL_cons', bigSepL_cons']
    iintro ⟨H1, H2⟩
    imod (h i List.mem_cons_self) $$ H1 with H1
    imod (ih fun j hj => h j (List.mem_cons_of_mem _ hj)) $$ H2 with H2
    imodintro
    isplitl [H1]; · iexact H1
    iexact H2

/-- A list of changes that need what stays true. -/
theorem bigSepL_with {I : Type} (l : List I) (R : sProp 𝕄) [BI.Persistent R] (Φ Ψ : I → sProp 𝕄) (h : ∀ i ∈ l, iprop(R ∗ Φ i) ⊢ iprop(|={Set.univ}=> Ψ i)) :
    iprop(R ∗ bigSepL l Φ) ⊢ iprop(|={Set.univ}=> bigSepL l Ψ) := by
  induction l with
  | nil => iintro ⟨-, H⟩; imodintro; iexact H
  | cons i l ih =>
    rw [bigSepL_cons', bigSepL_cons']
    iintro ⟨#HR, H1, H2⟩
    imod (h i List.mem_cons_self) $$ [H1] with H1
    · isplitr; · iexact HR
      iexact H1
    imod (ih fun j hj => h j (List.mem_cons_of_mem _ hj)) $$ [H2] with H2
    · isplitr; · iexact HR
      iexact H2
    imodintro
    isplitl [H1]; · iexact H1
    iexact H2

/-! ## The buffers as pieces -/

/-- The pieces, own slot first, then those each neighbour fills. -/
def pieceL : List (Hf × Fin 32) := [(.x0, 0), (.x1, 0), (.w, 0)] ++ ((dk .R).map (fun k => (k.2.1, dstJ k.1 k.2.2)) ++ (dk .L).map fun k => (k.2.1, dstJ k.1 k.2.2))
theorem pieceL_nodup : pieceL.Nodup := by decide +kernel
theorem pieceL_all : ∀ k : Hf × Fin 32, k ∈ pieceL := by decide +kernel
theorem pieceL_univ : (Finset.univ : Finset (Hf × Fin 32)) = pieceL.toFinset :=
  Finset.ext fun k => ⟨fun _ => List.mem_toFinset.mpr (pieceL_all k), fun _ => Finset.mem_univ _⟩

/-- The contents of a piece's buffer out of the two buffers' contents. -/
def GG (g0 : S4096x4096.Idx → Elt F .fp8e4m3) (g1 : S4096x2048.Idx → Elt F .fp8e5m2) : (h : Hf) → (c : Dev nD) → (j : Fin 32) → Buf (Elt F) ((pc h j).view.loc (c : Thread nD τ))
  | .x0, _, _ => g0
  | .x1, _, _ => g0
  | .w, _, _ => g1
theorem GG_G (c : Dev nD) (h : Hf) (j : Fin 32) : GG (XG X c) (WG Wt c) h c j = G X Wt h c j := by cases h <;> rfl

theorem univ_hf : (Finset.univ : Finset Hf) = [Hf.x0, Hf.x1, Hf.w].toFinset := by decide

theorem scratch_pieces (c : Dev nD) (g0 : S4096x4096.Idx → Elt F .fp8e4m3) (g1 : S4096x2048.Idx → Elt F .fp8e5m2) :
    iprop((loc0 c ↦[(Finset.univ : Finset S4096x4096.Idx)]{fullShare} g0) ∗ (loc1 c ↦[(Finset.univ : Finset S4096x2048.Idx)]{fullShare} g1))
      ⊣⊢ (bigSep Finset.univ fun k : Hf × Fin 32 => pts (F := F) c k.1 k.2 fullShare (GG g0 g1 k.1 c k.2)) := by
  rw [bigSep_univ_prod, bigSep_univ_eq_bigSepL [Hf.x0, Hf.x1, Hf.w] univ_hf (by decide)]
  rw [bigSepL_cons', bigSepL_cons', bigSepL_singleton]
  have e := whole_x (F := F) c fullShare g0
  have e' := whole_w (F := F) c fullShare g1
  constructor
  · iintro ⟨H0, H1⟩
    ihave H0 := e.1 $$ H0
    ihave H1 := (Entails.of_eq e') $$ H1
    icases H0 with ⟨Ha, Hb⟩
    isplitl [Ha]; · iexact Ha
    isplitl [Hb]; · iexact Hb
    iexact H1
  · iintro ⟨Ha, Hb, Hc⟩
    isplitl [Ha Hb]
    · iapply e.2
      isplitl [Ha]; · iexact Ha
      iexact Hb
    · iapply (Entails.of_eq e'.symm); iexact Hc

/-- The empty slots a direction's copies fill on device `c`. -/
abbrev slotsAt (c : Dev nD) (d : Dr) : sProp 𝕄 := bigSepL (dk d) fun k => iprop(∃ f, pts (F := F) c k.2.1 (dstJ k.1 k.2.2) fullShare f)

/-- The buffers once slot 0 is filled: slot 0's pieces and the empty ones. -/
theorem scratch_split (c : Dev nD) (g0 : S4096x4096.Idx → Elt F .fp8e4m3) (g1 : S4096x2048.Idx → Elt F .fp8e5m2)
    (h0 : ∀ i : S4096x4096.Idx, (i 1).val < 128 → g0 i = XG X c i) (h1 : ∀ i : S4096x2048.Idx, (i 0).val < 128 → g1 i = WG Wt c i) :
    iprop((loc0 c ↦[(Finset.univ : Finset S4096x4096.Idx)]{fullShare} g0) ∗ (loc1 c ↦[(Finset.univ : Finset S4096x2048.Idx)]{fullShare} g1))
      ⊢ iprop((gp X Wt c .x0 0 fullShare ∗ gp X Wt c .x1 0 fullShare ∗ gp X Wt c .w 0 fullShare) ∗ slotsAt c .R ∗ slotsAt c .L) := by
  refine (scratch_pieces c g0 g1).1.trans ?_
  rw [bigSep_eq_bigSepL_of_eq pieceL pieceL_univ pieceL_nodup]
  unfold pieceL
  rw [bigSepL_append, bigSepL_append, bigSepL_cons', bigSepL_cons', bigSepL_singleton, bigSepL_map, bigSepL_map]
  have ea : pts (F := F) c .x0 0 fullShare g0 = gp X Wt c .x0 0 fullShare :=
    pointsTo_congr fun i hi => h0 i (by have := ((mem_x0 0 i).mp hi).2; have h2 : ((0 : Fin 32)).val = 0 := rfl; omega)
  have eb : pts (F := F) c .x1 0 fullShare g0 = gp X Wt c .x1 0 fullShare :=
    pointsTo_congr fun i hi => h0 i (by have := ((mem_x1 0 i).mp hi).2; have h2 : ((0 : Fin 32)).val = 0 := rfl; omega)
  have ec : pts (F := F) c .w 0 fullShare g1 = gp X Wt c .w 0 fullShare :=
    pointsTo_congr fun i hi => h1 i (by have := ((mem_w 0 i).mp hi); have h2 : ((0 : Fin 32)).val = 0 := rfl; omega)
  iintro ⟨⟨Ha, Hb, Hc⟩, HR, HL⟩
  isplitl [Ha Hb Hc]
  · isplitl [Ha]; · iapply (Entails.of_eq ea); iexact Ha
    isplitl [Hb]; · iapply (Entails.of_eq eb); iexact Hb
    iapply (Entails.of_eq ec); iexact Hc
  have hm : ∀ d : Dr, (bigSepL (dk d) fun k : Dr × Hf × Fin 16 => pts (F := F) c k.2.1 (dstJ k.1 k.2.2) fullShare (GG g0 g1 k.2.1 c (dstJ k.1 k.2.2))) ⊢ slotsAt c d :=
    fun d => bigSepL_mono fun k _ => exists_intro (Φ := fun f => pts (F := F) c k.2.1 (dstJ k.1 k.2.2) fullShare f) _
  isplitl [HR]
  · iapply (hm .R); iexact HR
  · iapply (hm .L); iexact HL

/-- The slots in the end, together the buffers. -/
theorem scratch_join (c : Dev nD) (σ : St) (how : ∀ k, k ∈ σ.ow) (hav : ∀ k, k ∈ σ.av) :
    iprop((bigSep σ.ow fun k => gp X Wt c k.1 k.2 qO) ∗ (bigSep σ.av fun k => gp X Wt c k.2.1 k.2.2 (qd k.1)))
      ⊢ iprop((loc0 c ↦[(Finset.univ : Finset S4096x4096.Idx)]{fullShare} XG X c) ∗ (loc1 c ↦[(Finset.univ : Finset S4096x2048.Idx)]{fullShare} WG Wt c)) := by
  rw [Finset.eq_univ_iff_forall.mpr how, Finset.eq_univ_iff_forall.mpr hav]
  refine .trans ?_ (scratch_pieces c (XG X c) (WG Wt c)).2
  rw [bigSep_univ_prod (Φ := fun k : Dr × Hf × Fin 32 => gp X Wt c k.2.1 k.2.2 (qd k.1)),
    bigSep_univ_eq_bigSepL [Dr.R, Dr.L] (by decide) (by decide) (fun d => bigSep Finset.univ fun k : Hf × Fin 32 => gp X Wt c k.1 k.2 (qd d)), bigSepL_cons', bigSepL_singleton]
  have e : (bigSep Finset.univ fun k : Hf × Fin 32 => iprop(gp X Wt c k.1 k.2 qO ∗ gp X Wt c k.1 k.2 (qd .R) ∗ gp X Wt c k.1 k.2 (qd .L)))
      ⊢ (bigSep Finset.univ fun k : Hf × Fin 32 => pts (F := F) c k.1 k.2 fullShare (GG (XG X c) (WG Wt c) k.1 c k.2)) :=
    bigSep_mono fun k _ => by
      rw [GG_G]; exact thirds_join c k.1 k.2 _
  refine .trans ?_ e
  rw [bigSep_sep', bigSep_sep']

/-! ## Cells -/

theorem closed_bar (c : Dev nD) (r : ℕ) (h : 1 ≤ r) : (Rd X Wt).duties (cell c .bar) r = ∅ := by
  rw [duties_eq]; exact if_neg (by omega)
/-- The round each own cell ends at. -/
def lastR : Cl → ℕ
  | .snd d _ k => (nS d + 2 - k.val) / 3
  | .rcv d _ k => (nS d + 2 - k.val) / 3
  | _ => 1
theorem closed_cell (c : Dev nD) (x : Cl) (r : ℕ) (h : lastR x ≤ r) : (Rd X Wt).duties (cell c x) r = ∅ := by
  rw [duties_eq]
  rcases x with _ | d | ⟨d, h', k⟩ | ⟨d, h', k⟩
  · exact if_neg (by have : 1 ≤ r := h; omega)
  · exact if_neg (by have : 1 ≤ r := h; omega)
  · have h2 : (nS d + 2 - k.val) / 3 ≤ r := h
    have := k.isLt
    exact if_neg (by omega)
  · have h2 : (nS d + 2 - k.val) / 3 ≤ r := h
    have := k.isLt
    exact if_neg (by omega)

/-- Every own cell opened. -/
theorem open_all (κ : GSem nD τ sig → ℕ) (c : Dev nD) :
    iprop(fam.cellInvs (ER (F := F)) (Rd X Wt) κ ∗ bigSepL dormCl fun x => iprop(openTok (ER (F := F)) (cell c x) ∗ semVal (cell c x) 0))
      ⊢ iprop(|={Set.univ}=> bigSepL dormCl fun x => pos (F := F) c x 0) := by
  refine bigSepL_with dormCl _ _ _ fun x hx => ?_
  have hb : x ≠ .bar := fun h => absurd (h ▸ hx) (by decide)
  iintro ⟨HI, Ht, Hv⟩
  ihave HI := (inv_dorm X Wt κ c x hb) $$ HI
  iapply (Rounds.cell_open ER (Rd X Wt) (g := cell c x) (Set.mem_univ (κ (cell c x))))
  isplitl [HI]; · iexact HI
  isplitl [Ht]; · iexact Ht
  iexact Hv

/-- Every own cell closed. -/
theorem close_all (κ : GSem nD τ sig → ℕ) (c : Dev nD) :
    iprop(fam.cellInvs (ER (F := F)) (Rd X Wt) κ ∗ bigSepL dormCl fun x => atPos (ER (F := F)) (cell c x) (lastR x) ∅ 0)
      ⊢ iprop(|={Set.univ}=> bigSepL dormCl fun x => semVal (cell c x) 0) := by
  refine bigSepL_with dormCl _ _ _ fun x hx => ?_
  have hb : x ≠ .bar := fun h => absurd (h ▸ hx) (by decide)
  iintro ⟨HI, Hat⟩
  ihave HI := (inv_dorm X Wt κ c x hb) $$ HI
  iapply (Rounds.cell_close ER (Rd X Wt) (g := cell c x) (Set.mem_univ (κ (cell c x))) id (fun r hr => closed_cell X Wt c x r hr))
  isplitl [HI]; · iexact HI
  iexact Hat

theorem psL_nodup : psL.Nodup := by decide +kernel
theorem dormCl_eq : dormCl = .cred .R :: .cred .L :: psL := by decide +kernel

/-- The positions of the send and receive cells, and the credit cells, when all is done. -/
theorem end_pos (c : Dev nD) (σ : St) (hσ : σ = stE) :
    iprop((bigSep psS fun x => pos (F := F) c x (σ.ps x)) ∗ bigSep Finset.univ fun d => credSt (F := F) c d (σ.cw d))
      ⊢ bigSepL dormCl fun x => atPos (ER (F := F)) (cell c x) (lastR x) ∅ 0 := by
  have hcw : ∀ d, σ.cw d = nC d := hσ ▸ stE_cw
  rw [dormCl_eq, bigSepL_cons', bigSepL_cons']
  unfold psS
  rw [bigSep_eq_bigSepL psL psL_nodup, bigSep_univ_eq_bigSepL [Dr.R, Dr.L] (by decide) (by decide), bigSepL_cons', bigSepL_singleton, hcw, hcw]
  unfold credSt
  rw [credAt_eq, credAt_eq]
  have hm : (bigSepL psL fun x => pos (F := F) c x (σ.ps x)) ⊢ bigSepL psL fun x => atPos (ER (F := F)) (cell c x) (lastR x) ∅ 0 :=
    bigSepL_mono fun x hx => by
      have hd : x ∈ dormCl := by rw [dormCl_eq]; exact List.mem_cons_of_mem _ (List.mem_cons_of_mem _ hx)
      have h1 : x ≠ .cred .R := fun h => absurd (h ▸ hx) (by decide)
      have h2 : x ≠ .cred .L := fun h => absurd (h ▸ hx) (by decide)
      have e : σ.ps x = lastR x := by
        rw [hσ, stE_ps x hd h1 h2]
        rcases x with _ | d | ⟨d, h', k⟩ | ⟨d, h', k⟩
        · exact absurd hx (by decide)
        · cases d
          · exact absurd rfl h1
          · exact absurd rfl h2
        · rfl
        · rfl
      rw [e]
      unfold pos
      iintro ⟨H, -⟩; iexact H
  iintro ⟨H, ⟨HR, -⟩, HL, -⟩
  isplitl [HR]; · iexact HR
  isplitl [HL]; · iexact HL
  iapply hm; iexact H

end Cert.KernelIdeal.Own

end
-- ==== Proof.Meet.lean ====
/- The meeting with the neighbours: what a device pays them, what they pay it, and what it holds when the steps begin. -/
module

public import proofs.«01_k».proof.Proof.Begin

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

variable (X : Dev nD → (S4096x128.Idx → Elt F .fp8e4m3)) (Wt : Dev nD → (S128x2048.Idx → Elt F .fp8e5m2))

/-- Every own cell at its start. -/
def starts (c : Dev nD) : sProp 𝕄 := bigSepL dormCl fun x => reached (ER (F := F)) (cell c x) 0
instance starts_persistent (c : Dev nD) : BI.Persistent (starts (F := F) c) := by unfold starts; infer_instance

theorem start_of (c : Dev nD) (x : Cl) (hx : x ≠ .bar) : starts (F := F) c ⊢ reached (ER (F := F)) (cell c x) 0 := bigSepL_elim (mem_dormCl x hx) _

theorem bigSepL_pers {I : Type} (l : List I) (R : sProp 𝕄) [BI.Persistent R] (Φ : I → sProp 𝕄) (h : ∀ i ∈ l, R ⊢ Φ i) : R ⊢ bigSepL l Φ := by
  induction l with
  | nil => iintro -; iempintro
  | cons i l ih =>
    rw [bigSepL_cons']
    iintro #HR
    isplitr; · iapply (h i List.mem_cons_self); iexact HR
    iapply (ih fun j hj => h j (List.mem_cons_of_mem _ hj)); iexact HR

/-- What a device pays into the barrier of the neighbour whose copies of direction `d` come to it. -/
theorem pay_bar (c : Dev nD) (d : Dr) : iprop(starts (F := F) c ∗ slotsAt c d) ⊢ barPay (F := F) (bwd d c) d := by
  unfold barPay
  rw [fwd_bwd]
  iintro ⟨#Hs, H⟩
  isplitl [H]; · iexact H
  isplitr
  · iapply (bigSepL_pers hks (starts (F := F) c) (fun p => reached (ER (F := F)) (cell c (.rcv d p.1 p.2)) 0) fun p _ => start_of c _ (by simp)); iexact Hs
  · iapply (start_of c (.cred (oth d)) (by simp)); iexact Hs

theorem dut_bar (c : Dev nD) : dutC c .bar 0 = {(pd c, 0), (sc c, 1)} := by simp only [dutC, if_true]

theorem rest_bar (c : Dev nD) :
    (bigSep ((Rd X Wt).duties ((c : Thread nD τ), .reg barSem) 0 \ ∅) fun y => (Rd X Wt).payload ((c : Thread nD τ), .reg barSem) 0 y)
      = iprop(barPay (F := F) c .R ∗ barPay (F := F) c .L) := by
  rw [Finset.sdiff_empty, show ((c : Thread nD τ), SemLoc.reg barSem) = cell c .bar from rfl, duties_eq,
    bigSep_congr (fun y _ => payload_eq X Wt c .bar 0 y), dut_bar,
    bigSep_eq_bigSepL_of_eq [(sc c, 1), (pd c, 0)] (by ext y; simp [or_comm]) (by simp), bigSepL_cons', bigSepL_singleton]
  rfl
theorem expect_bar (c : Dev nD) : (Rd X Wt).expect ((c : Thread nD τ), .reg barSem) 0 = 2 := by
  rw [show ((c : Thread nD τ), SemLoc.reg barSem) = cell c .bar from rfl, expect_eq, dut_bar,
    Finset.card_pair (by simp)]
  rfl

theorem dk_dir (d : Dr) (k : Dr × Hf × Fin 16) (h : k ∈ dk d) : k.1 = d := of_decide_eq_true (List.mem_filter.mp h).2
theorem dks_perm : (dk .R ++ dk .L).Perm dks := by decide +kernel
theorem dk_nodup : (dk .R ++ dk .L).Nodup := by decide +kernel

/-- The neighbours' empty slots, in the order of the steps. -/
theorem slots_perm (c : Dev nD) :
    iprop(slotsAt (F := F) (fwd .R c) .R ∗ slotsAt (F := F) (fwd .L c) .L)
      ⊢ bigSepL dks fun k => iprop(∃ f, pts (F := F) (fwd k.1 c) k.2.1 (dstJ k.1 k.2.2) fullShare f) := by
  rw [← TalkSites.bigSepL_perm dks_perm dk_nodup, bigSepL_append]
  have h : ∀ d, slotsAt (F := F) (fwd d c) d ⊢ bigSepL (dk d) fun k => iprop(∃ f, pts (F := F) (fwd k.1 c) k.2.1 (dstJ k.1 k.2.2) fullShare f) :=
    fun d => bigSepL_mono fun k hk => by rw [dk_dir d k hk]
  iintro ⟨H1, H2⟩
  isplitl [H1]
  · iapply (h .R); iexact H1
  · iapply (h .L); iexact H2

/-- What each step brings, out of all tokens, slots and credits. -/
theorem ops_res (c : Dev nD) (l : List Op) :
    iprop((bigSepL (l.flatMap opToks) fun k => tokAt (F := F) c k)
      ∗ (bigSepL (l.flatMap opDst) fun k => iprop(∃ f, pts (F := F) (fwd k.1 c) k.2.1 (dstJ k.1 k.2.2) fullShare f))
      ∗ (bigSepL (l.flatMap opWt) fun p => cred (tallyAt (cell c p.1) p.2.1 p.2.2)))
      ⊢ bigSepL l fun o => opRes (F := F) c o := by
  rw [bigSepL_flatMap, bigSepL_flatMap, bigSepL_flatMap]
  unfold opRes
  iintro ⟨H1, H2, H3⟩
  iapply bigSepL_two
  isplitl [H1]; · iexact H1
  iapply bigSepL_two
  isplitl [H2]; · iexact H2
  iexact H3

/-- What a device holds when the steps begin. -/
theorem start_res (c : Dev nD) :
    iprop((gp X Wt c .x0 0 fullShare ∗ gp X Wt c .x1 0 fullShare ∗ gp X Wt c .w 0 fullShare)
      ∗ (bigSepL dormCl fun x => pos (F := F) c x 0) ∗ known (F := F) c .R 0 ∗ known (F := F) c .L 0) ⊢ Res X Wt c st0 := by
  unfold Res
  rw [show st0.ow = {(.x0, 0), (.x1, 0), (.w, 0)} from rfl, show st0.fl = ∅ from rfl, bigSep_empty,
    show st0.av = {(.R, .x0, 0), (.R, .x1, 0), (.R, .w, 0), (.L, .x0, 0), (.L, .x1, 0), (.L, .w, 0)} from rfl,
    bigSep_eq_bigSepL_of_eq [(.x0, 0), (.x1, 0), (.w, 0)] (by decide) (by decide) (fun k : Hf × Fin 32 => gp X Wt c k.1 k.2 qO),
    bigSep_eq_bigSepL_of_eq [(.R, .x0, 0), (.R, .x1, 0), (.R, .w, 0), (.L, .x0, 0), (.L, .x1, 0), (.L, .w, 0)] (by decide) (by decide)
      (fun k : Dr × Hf × Fin 32 => gp X Wt c k.2.1 k.2.2 (qd k.1)),
    dormCl_eq, show psS = psL.toFinset from rfl, bigSep_eq_bigSepL psL psL_nodup,
    bigSep_univ_eq_bigSepL [Dr.R, Dr.L] (by decide) (by decide)]
  simp only [bigSepL_cons', bigSepL_nil]
  have h0 : ∀ d, pos (F := F) c (.cred d) 0 ⊢ credAt (F := F) c d 0 := fun d => by
    rw [credAt_ne c d 0 (by cases d <;> decide)]
    unfold pos
    iintro ⟨H, -⟩
    iexists (∅ : Finset Dty)
    isplitr; · ipureintro; exact ⟨Finset.empty_subset _, Nat.zero_le _⟩
    isplitl [H]; · iexact H
    rw [bigSep_empty]; iempintro
  iintro ⟨⟨Ha, Hb, Hc⟩, ⟨HcR, HcL, Hps⟩, HkR, HkL⟩
  ihave Ha := (thirds c .x0 0 _) $$ Ha
  ihave Hb := (thirds c .x1 0 _) $$ Hb
  ihave Hc := (thirds c .w 0 _) $$ Hc
  icases Ha with ⟨Ha, Ha1, Ha2⟩
  icases Hb with ⟨Hb, Hb1, Hb2⟩
  icases Hc with ⟨Hc, Hc1, Hc2⟩
  isplitl [Ha Hb Hc]
  · isplitl [Ha]; · iexact Ha
    isplitl [Hb]; · iexact Hb
    isplitl [Hc]; · iexact Hc
    iempintro
  isplitl [Ha1 Ha2 Hb1 Hb2 Hc1 Hc2]
  · isplitl [Ha1]; · iexact Ha1
    isplitl [Hb1]; · iexact Hb1
    isplitl [Hc1]; · iexact Hc1
    isplitl [Ha2]; · iexact Ha2
    isplitl [Hb2]; · iexact Hb2
    isplitl [Hc2]; · iexact Hc2
    iempintro
  isplitr; · iempintro
  isplitl [Hps]; · iexact Hps
  unfold credSt
  isplitl [HcR HkR]
  · isplitl [HcR]; · iapply (h0 .R); iexact HcR
    iexact HkR
  isplitl [HcL HkL]
  · isplitl [HcL]; · iapply (h0 .L); iexact HcL
    iexact HkL
  iempintro

theorem known_zero (c : Dev nD) (d : Dr) : (bigSepL hks fun p => reached (ER (F := F)) (cell (fwd d c) (.rcv d p.1 p.2)) 0) ⊢ known (F := F) c d 0 := by
  unfold known
  exact bigSepL_mono fun p _ => by
    have h := p.2.isLt
    rw [show (0 + 2 - p.2.val) / 3 = 0 by omega]

/-- The neighbours' payments, as what stays true, what is known, and the empty slots. -/
theorem met (κ : GSem nD τ sig → ℕ) (c : Dev nD) :
    iprop(fam.cellInvs (ER (F := F)) (Rd X Wt) κ ∗ levAts (SiteBlocks.L NL) SiteBlocks.lv ∗ barPay (F := F) c .R ∗ barPay (F := F) c .L)
      ⊢ iprop(ctx X Wt κ c ∗ known (F := F) c .R 0 ∗ known (F := F) c .L 0
        ∗ bigSepL dks fun k => iprop(∃ f, pts (F := F) (fwd k.1 c) k.2.1 (dstJ k.1 k.2.2) fullShare f)) := by
  unfold barPay ctx drs
  rw [bigSepL_cons', bigSepL_singleton]
  iintro ⟨HI, HL, ⟨H1, Hk1, Hc1⟩, ⟨H2, Hk2, Hc2⟩⟩
  isplitl [HI HL Hc1 Hc2]
  · isplitl [HI]; · iexact HI
    isplitl [HL]; · iexact HL
    isplitl [Hc2]; · iexact Hc2
    iexact Hc1
  isplitl [Hk1]; · iapply (known_zero c .R); iexact Hk1
  isplitl [Hk2]; · iapply (known_zero c .L); iexact Hk2
  iapply (slots_perm c)
  isplitl [H1]; · iexact H1
  iexact H2

end Cert.KernelIdeal.Own

end
-- ==== Proof.Fill.lean ====
/- The first part of the body: reading the scalars and putting the device's own shards into slot 0. -/
module

public import proofs.«01_k».proof.Proof.Held
public import Idealize.ShloMosaic.Lib.Pipeline.Value

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig ℕ (Elt F) ℕ UU ℕ

variable (X : Dev nD → (S4096x128.Idx → Elt F .fp8e4m3)) (Wt : Dev nD → (S128x2048.Idx → Elt F .fp8e5m2))

abbrev r1 : Rect S1 := Rect.unit (s := S1) ![0] S1.size inb_S1_S1_0
abbrev rX : Rect S4096x128 := Rect.unit (s := S4096x128) ![0, 0] S4096x128.size inb_S4096x128_S4096x128_0_0
abbrev rW : Rect S128x2048 := Rect.unit (s := S128x2048) ![0, 0] S128x2048.size inb_S128x2048_S128x2048_0_0
abbrev r0 : Rect S4096x4096 := Rect.unit (s := S4096x4096) ![0, 0] S4096x128.size inb_S4096x4096_S4096x128_0_0
abbrev rw0 : Rect S4096x2048 := Rect.unit (s := S4096x2048) ![0, 0] S128x2048.size inb_S4096x2048_S128x2048_0_0

/-- A buffer's contents are read as they are. -/
theorem read_X (f : S4096x128.Idx → Elt F .fp8e4m3) : ((Memref.whole cc0_stg0_0).access rX).read (Elt F) f = f := by
  funext i
  rw [View.read_apply]
  show f _ = f i
  congr 1
  refine funext fun (a : Fin 2) => ?_
  fin_cases a <;> apply Fin.ext
  · show 0 + 1 * (i 0).val = (i 0).val; omega
  · show 0 + 1 * (i 1).val = (i 1).val; omega
theorem read_W (f : S128x2048.Idx → Elt F .fp8e5m2) : ((Memref.whole cc0_stg1_0).access rW).read (Elt F) f = f := by
  funext i
  rw [View.read_apply]
  show f _ = f i
  congr 1
  refine funext fun (a : Fin 2) => ?_
  fin_cases a <;> apply Fin.ext
  · show 0 + 1 * (i 0).val = (i 0).val; omega
  · show 0 + 1 * (i 1).val = (i 1).val; omega

theorem one_idx (i j : S1.Idx) : i = j := funext fun (a : Fin 1) => by
  have h1 : (i a).val < 1 := by fin_cases a; exact (i 0).isLt
  have h2 : (j a).val < 1 := by fin_cases a; exact (j 0).isLt
  exact Fin.ext (by omega)

abbrev i1 : S1.Idx := Shape.Idx.first (numel1_S1.symm ▸ Nat.one_pos)

/-! ## Slot 0 filled -/

theorem fill_x (c : Dev nD) (g : S4096x4096.Idx → Elt F .fp8e4m3) (h h') (i : S4096x4096.Idx) (hi : (i 1).val < 128) :
    ((Memref.whole cc0_scratch0).access r0).write (Elt F) g (shapeCast S4096x128 (shapeCast S4096x128 (X c) h) h') Finset.univ i = XG X c i := by
  rw [shapeCast_self, shapeCast_self]
  have e := congrFun (View.read_write_univ (v := ((Memref.whole cc0_scratch0).access r0)) g (X c)) (ix2 (i 0) ⟨(i 1).val, hi⟩)
  rw [View.read_apply] at e
  have hx : ((Memref.whole cc0_scratch0).access r0).emb (ix2 (i 0) ⟨(i 1).val, hi⟩) = i := by
    refine funext fun (a : Fin 2) => ?_
    fin_cases a <;> apply Fin.ext
    · show 0 + 1 * (i 0).val = (i 0).val; omega
    · show 0 + 1 * (i 1).val = (i 1).val; omega
  rw [hx] at e
  refine Eq.trans e ?_
  show X c _ = X (sit ((i 1).val / 128) c) _
  rw [show (i 1).val / 128 = 0 by omega]
  show X c _ = X c _
  congr 2
  exact Fin.ext (Nat.mod_eq_of_lt hi).symm
theorem fill_w (c : Dev nD) (g : S4096x2048.Idx → Elt F .fp8e5m2) (h h') (i : S4096x2048.Idx) (hi : (i 0).val < 128) :
    ((Memref.whole cc0_scratch1).access rw0).write (Elt F) g (shapeCast S128x2048 (shapeCast S128x2048 (Wt c) h) h') Finset.univ i = WG Wt c i := by
  rw [shapeCast_self, shapeCast_self]
  have e := congrFun (View.read_write_univ (v := ((Memref.whole cc0_scratch1).access rw0)) g (Wt c)) (ix2 ⟨(i 0).val, hi⟩ (i 1))
  rw [View.read_apply] at e
  have hx : ((Memref.whole cc0_scratch1).access rw0).emb (ix2 ⟨(i 0).val, hi⟩ (i 1)) = i := by
    refine funext fun (a : Fin 2) => ?_
    fin_cases a <;> apply Fin.ext
    · show 0 + 1 * (i 0).val = (i 0).val; omega
    · show 0 + 1 * (i 1).val = (i 1).val; omega
  rw [hx] at e
  refine Eq.trans e ?_
  show Wt c _ = Wt (sit ((i 0).val / 128) c) _
  rw [show (i 0).val / 128 = 0 by omega]
  show Wt c _ = Wt c _
  congr 2
  exact Fin.ext (Nat.mod_eq_of_lt hi).symm

/-! ## The neighbours' numbers -/

/-- A device's number as a word. -/
abbrev wd (c : Dev nD) : BitVec 32 := BitVec.ofNat 32 c.val
theorem word1_wd : ∀ c : Dev nD, word1 (wd c) = c.val := by decide +kernel
theorem chk1_wd : ∀ c : Dev nD, k0_chk1 (wd c) := by decide +kernel
theorem chk2_wd : ∀ c : Dev nD, k0_chk2 (wd c) := by decide +kernel

/-! ## The steps -/

theorem st_scalar {e : EltTy} (c : Dev nD) (m : Memref sig .tc .smem S1 e) (hp : e.packing = 1) (f : Buf (Elt F) (m.view.loc (c : Thread nD τ)))
    (k : Elt F e → PP F) (Q : PUnit → sProp 𝕄) :
    ((m.view.loc (c : Thread nD τ)) ↦[(Finset.univ : Finset (Idx (m.view.loc (c : Thread nD τ))))]{fullShare} f)
      ⊢ iprop((((m.view.loc (c : Thread nD τ)) ↦[(Finset.univ : Finset (Idx (m.view.loc (c : Thread nD τ))))]{fullShare} f)
          -∗ wp frame (wpE (defs₀ (F := F)) 𝒱₀ c none) Set.univ (k ((m.access r1).read (Elt F) f i1)) Q)
        -∗ wp frame (wpE (defs₀ (F := F)) 𝒱₀ c none) Set.univ (smemLoad m r1 numel1_S1 hp >>= k) Q) :=
  wp_smemLoadElt 𝒱₀ (c : Thread nD τ) none Set.univ (m := m) (r := r1) (hw := View.loads_smem_one hp numel1_S1) (k := k) (Finset.subset_univ _)

theorem rd2 (f : S1.Idx → Elt F .f32) : ((Memref.whole cc0_stg2_0).access r1).read (Elt F) f i1 = f i1 := by
  rw [View.read_apply]; exact congrArg f (one_idx _ _)
theorem rd3 (f : S1.Idx → Elt F .f32) : ((Memref.whole cc0_stg3_0).access r1).read (Elt F) f i1 = f i1 := by
  rw [View.read_apply]; exact congrArg f (one_idx _ _)
theorem rd4 (f : S1.Idx → Elt F .i32) : ((Memref.whole cc0_stg4_0).access r1).read (Elt F) f i1 = f i1 := by
  rw [View.read_apply]; exact congrArg f (one_idx _ _)
theorem rd5 (f : S1.Idx → Elt F .i32) : ((Memref.whole cc0_stg5_0).access r1).read (Elt F) f i1 = f i1 := by
  rw [View.read_apply]; exact congrArg f (one_idx _ _)

/-- The copies into the buffers. -/
theorem st_ldX (c : Dev nD) (hl) (f : S4096x128.Idx → Elt F .fp8e4m3) (k : Vec F S4096x128 .fp8e4m3 → PP F) (Q : PUnit → sProp 𝕄) :
    (((c : Thread nD τ).loc cc0_stg0_0) ↦{fullShare} f)
      ⊢ iprop(((((c : Thread nD τ).loc cc0_stg0_0) ↦{fullShare} f) -∗ wp frame (wpE (defs₀ (F := F)) 𝒱₀ c none) Set.univ (k f) Q)
        -∗ wp frame (wpE (defs₀ (F := F)) 𝒱₀ c none) Set.univ (Prog.lift (.load (Memref.whole cc0_stg0_0) rX.toLoadRect hl) >>= k) Q) := by
  have h := wp_load_rect (defs := defs₀ (F := F)) (Ix := ℕ) (Name := ℕ) (U := UU) (Lvl := ℕ) (Q := Q) (Γ := PendingWaitsCtx.empty) 𝒱₀ (c : Thread nD τ) none Set.univ (m := Memref.whole cc0_stg0_0) (r := rX) (hl := hl) (k := k)
    (S := Finset.univ) (q := fullShare) (f := f) (Finset.subset_univ _)
  rw [read_X] at h
  exact h
theorem st_ldW (c : Dev nD) (hl) (f : S128x2048.Idx → Elt F .fp8e5m2) (k : Vec F S128x2048 .fp8e5m2 → PP F) (Q : PUnit → sProp 𝕄) :
    (((c : Thread nD τ).loc cc0_stg1_0) ↦{fullShare} f)
      ⊢ iprop(((((c : Thread nD τ).loc cc0_stg1_0) ↦{fullShare} f) -∗ wp frame (wpE (defs₀ (F := F)) 𝒱₀ c none) Set.univ (k f) Q)
        -∗ wp frame (wpE (defs₀ (F := F)) 𝒱₀ c none) Set.univ (Prog.lift (.load (Memref.whole cc0_stg1_0) rW.toLoadRect hl) >>= k) Q) := by
  have h := wp_load_rect (defs := defs₀ (F := F)) (Ix := ℕ) (Name := ℕ) (U := UU) (Lvl := ℕ) (Q := Q) (Γ := PendingWaitsCtx.empty) 𝒱₀ (c : Thread nD τ) none Set.univ (m := Memref.whole cc0_stg1_0) (r := rW) (hl := hl) (k := k)
    (S := Finset.univ) (q := fullShare) (f := f) (Finset.subset_univ _)
  rw [read_W] at h
  exact h

/-- The two shards put into slot 0. -/
theorem st_fillX (c : Dev nD) (h h' hl hs hx) (g : S4096x4096.Idx → Elt F .fp8e4m3) (k : PUnit → PP F) (Q : PUnit → sProp 𝕄) :
    (((c : Thread nD τ).loc cc0_scratch0) ↦{fullShare} g)
      ⊢ iprop((∀ g', ⌜∀ i : S4096x4096.Idx, (i 1).val < 128 → g' i = XG X c i⌝ -∗ (((c : Thread nD τ).loc cc0_scratch0) ↦{fullShare} g')
            -∗ wp frame (wpE (defs₀ (F := F)) 𝒱₀ c none) Set.univ (k ⟨⟩) Q)
        -∗ wp frame (wpE (defs₀ (F := F)) 𝒱₀ c none) Set.univ
          ((Prog.lift (.load (Memref.whole cc0_scratch0) r0.toLoadRect hl) : Prog (TpuEff nD τ sig (Elt F) Λ₀ .tc) (Vec F S4096x128 .fp8e4m3)) >>= fun _ =>
            Prog.lift (.store (Memref.whole cc0_scratch0) r0 (shapeCast S4096x128 (shapeCast S4096x128 (X c) h) h') Finset.univ hs hx) >>= k) Q) := by
  iintro H Hk
  iapply (wp_load_rect (defs := defs₀ (F := F)) 𝒱₀ (c : Thread nD τ) none Set.univ (m := Memref.whole cc0_scratch0) (r := r0) (S := Finset.univ) (q := fullShare) (f := g) (Finset.subset_univ _)) $$ H
  iintro H
  iapply (wp_store (defs := defs₀ (F := F)) 𝒱₀ (c : Thread nD τ) none Set.univ (m := Memref.whole cc0_scratch0) (r := r0) (S := Finset.univ) (f := g) (Finset.subset_univ _)) $$ H
  iintro H
  iapply Hk $$ [] H
  ipureintro
  exact fill_x X c g h h'

theorem st_fillW (c : Dev nD) (h h' hl hs hx) (g : S4096x2048.Idx → Elt F .fp8e5m2) (k : PUnit → PP F) (Q : PUnit → sProp 𝕄) :
    (((c : Thread nD τ).loc cc0_scratch1) ↦{fullShare} g)
      ⊢ iprop((∀ g', ⌜∀ i : S4096x2048.Idx, (i 0).val < 128 → g' i = WG Wt c i⌝ -∗ (((c : Thread nD τ).loc cc0_scratch1) ↦{fullShare} g')
            -∗ wp frame (wpE (defs₀ (F := F)) 𝒱₀ c none) Set.univ (k ⟨⟩) Q)
        -∗ wp frame (wpE (defs₀ (F := F)) 𝒱₀ c none) Set.univ
          ((Prog.lift (.load (Memref.whole cc0_scratch1) rw0.toLoadRect hl) : Prog (TpuEff nD τ sig (Elt F) Λ₀ .tc) (Vec F S128x2048 .fp8e5m2)) >>= fun _ =>
            Prog.lift (.store (Memref.whole cc0_scratch1) rw0 (shapeCast S128x2048 (shapeCast S128x2048 (Wt c) h) h') Finset.univ hs hx) >>= k) Q) := by
  iintro H Hk
  iapply (wp_load_rect (defs := defs₀ (F := F)) 𝒱₀ (c : Thread nD τ) none Set.univ (m := Memref.whole cc0_scratch1) (r := rw0) (S := Finset.univ) (q := fullShare) (f := g) (Finset.subset_univ _)) $$ H
  iintro H
  iapply (wp_store (defs := defs₀ (F := F)) 𝒱₀ (c : Thread nD τ) none Set.univ (m := Memref.whole cc0_scratch1) (r := rw0) (S := Finset.univ) (f := g) (Finset.subset_univ _)) $$ H
  iintro H
  iapply Hk $$ [] H
  ipureintro
  exact fill_w Wt c g h h'

end Cert.KernelIdeal.Own

end
-- ==== Proof.Tile.lean ====
/- One tile of the product: it reads the gathered slots it needs and writes its rows of the output. -/
module

public import proofs.«01_k».proof.Proof.Pieces

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Cert.KernelIdeal Cert.KernelIdeal.Gen

variable {F : FTy → Type} [FloatOps F]

local notation "𝕄" => MT nD τ sig ℕ (Elt F) ℕ UU ℕ

variable (X : Dev nD → (S4096x128.Idx → Elt F .fp8e4m3)) (Wt : Dev nD → (S128x2048.Idx → Elt F .fp8e5m2))

/-- The output's staging buffer. -/
abbrev o6 : Memref sig .tc .vmem S4096x2048 .f32 := Memref.whole cc0_stg6_0
/-- The output held at contents `f`. -/
def out (c : Dev nD) (f : S4096x2048.Idx → Elt F .f32) : sProp 𝕄 := (o6.view.loc (c : Thread nD τ) ↦[(Finset.univ : Finset S4096x2048.Idx)]{fullShare} f)

/-- A tile's product, of the final contents of the gathering buffers. -/
def tprod (c : Dev nD) (nc : Nc) (c0 : Fin 29) (m : Fin 8) : FVec F S512x2048 .f32 :=
  tdot nc m c0 (((Memref.whole cc0_scratch0).access (rx nc m c0)).read (Elt F) (XG X c)) (((Memref.whole cc0_scratch1).access (rw' nc c0)).read (Elt F) (WG Wt c))
/-- Rows of the output replaced. -/
def outPut (v4 : F .f32) (md : Md) (m : Fin 8) (p : FVec F S512x2048 .f32) (f : S4096x2048.Idx → Elt F .f32) : S4096x2048.Idx → Elt F .f32 :=
  (o6.access (ro m)).write (Elt F) f (tput v4 md p ((o6.access (ro m)).read (Elt F) f)) Finset.univ
/-- What a step does to the output. -/
def outStep (v4 : F .f32) (c : Dev nD) (f : S4096x2048.Idx → Elt F .f32) : Op → (S4096x2048.Idx → Elt F .f32)
  | .tile md nc c0 m => outPut v4 md m (tprod X Wt c nc c0 m) f
  | _ => f
def outAll (v4 : F .f32) (c : Dev nD) (f : S4096x2048.Idx → Elt F .f32) (l : List Op) : S4096x2048.Idx → Elt F .f32 := l.foldl (outStep X Wt v4 c) f

theorem st_tail (c : Dev nD) (v4 : F .f32) (md : Md) (m : Fin 8) (p : FVec F S512x2048 .f32) (f : S4096x2048.Idx → Elt F .f32) (k : PUnit → PP F) (Q : PUnit → sProp 𝕄) :
    out c f ⊢ iprop((out c (outPut v4 md m p f) -∗ wp frame (wpE (defs₀ (F := F)) 𝒱₀ c none) Set.univ (k ⟨⟩) Q)
      -∗ wp frame (wpE (defs₀ (F := F)) 𝒱₀ c none) Set.univ ((tileTail o6 v4 m p md).bind k) Q) := by
  unfold out outPut
  iintro Ho Hk
  cases md
  · iapply (wp_load_rect 𝒱₀ (c : Thread nD τ) none Set.univ (m := o6) (r := ro m) (S := Finset.univ) (q := fullShare) (f := f) (Finset.subset_univ _)) $$ Ho
    iintro Ho
    iapply (wp_store 𝒱₀ (c : Thread nD τ) none Set.univ (m := o6) (r := ro m) (S := Finset.univ) (f := f) (Finset.subset_univ _)) $$ Ho
    iexact Hk
  all_goals
    iapply (wp_load_rect 𝒱₀ (c : Thread nD τ) none Set.univ (m := o6) (r := ro m) (S := Finset.univ) (q := fullShare) (f := f) (Finset.subset_univ _)) $$ Ho
    iintro Ho
    iapply (wp_load_rect 𝒱₀ (c : Thread nD τ) none Set.univ (m := o6) (r := ro m) (S := Finset.univ) (q := fullShare) (f := f) (Finset.subset_univ _)) $$ Ho
    iintro Ho
    iapply (wp_store 𝒱₀ (c : Thread nD τ) none Set.univ (m := o6) (r := ro m) (S := Finset.univ) (f := f) (Finset.subset_univ _)) $$ Ho
    iexact Hk

/-! ## The slots a tile reads -/

/-- A half of several slots, as places. -/
def hEmb (h : Hf) : Fin 32 ↪ Hf × Fin 32 := ⟨fun j => (h, j), fun _ _ e => congrArg Prod.snd e⟩

theorem take_own {h : Hf} {S : Finset (Fin 32)} {O : Finset (Hf × Fin 32)} (hS : ∀ j ∈ S, (h, j) ∈ O) (Φ : Hf × Fin 32 → sProp 𝕄) :
    bigSep O Φ ⊣⊢ iprop((bigSep S fun j => Φ (h, j)) ∗ bigSep (O \ S.map (hEmb h)) Φ) := by
  have hsub : S.map (hEmb h) ⊆ O := fun x hx => by
    obtain ⟨j, hj, rfl⟩ := Finset.mem_map.mp hx
    exact hS j hj
  have e : bigSep O Φ = iprop((bigSep (S.map (hEmb h)) Φ) ∗ bigSep (O \ S.map (hEmb h)) Φ) := bigSep_sdiff_split hsub
  rw [e, bigSep_map]
  exact .rfl

theorem gjoin_x0 (c : Dev nD) (S : Finset (Fin 32)) : (bigSep S fun j => gp X Wt c .x0 j qO) = (loc0 c ↦[S.biUnion K0]{qO} (XG X c)) := join_x0 c qO S (XG X c)
theorem gjoin_x1 (c : Dev nD) (S : Finset (Fin 32)) : (bigSep S fun j => gp X Wt c .x1 j qO) = (loc0 c ↦[S.biUnion K1]{qO} (XG X c)) := join_x1 c qO S (XG X c)
theorem gjoin_w (c : Dev nD) (S : Finset (Fin 32)) : (bigSep S fun j => gp X Wt c (Hf.w, j).1 (Hf.w, j).2 qO) = (loc1 c ↦[S.biUnion Kw]{qO} (WG Wt c)) := join_w c qO S (WG Wt c)

theorem ld_x (c : Dev nD) (O : Finset (Hf × Fin 32)) (nc : Nc) (c0 : Fin 29) (m : Fin 8) (hS : ∀ j ∈ (slots nc c0).toFinset, (mh m, j) ∈ O)
    (k : ((rx nc m c0).shape.Idx → Elt F .fp8e4m3) → PP F) (Q : PUnit → sProp 𝕄) :
    (bigSep O fun x => gp X Wt c x.1 x.2 qO)
      ⊢ iprop(((bigSep O fun x => gp X Wt c x.1 x.2 qO)
          -∗ wp frame (wpE (defs₀ (F := F)) 𝒱₀ c none) Set.univ (k (((Memref.whole cc0_scratch0).access (rx nc m c0)).read (Elt F) (XG X c))) Q)
        -∗ wp frame (wpE (defs₀ (F := F)) 𝒱₀ c none) Set.univ (.op (.load (Memref.whole cc0_scratch0) (rx nc m c0).toLoadRect (rx_loads nc m c0)) k) Q) := by
  iintro H Hk
  ihave H := (take_own hS fun x => gp X Wt c x.1 x.2 qO).1 $$ H
  icases H with ⟨H, Hr⟩
  by_cases hm : m.val < 4
  · have em : mh m = .x0 := if_pos hm
    simp only [em] at *
    ihave H := (Entails.of_eq (gjoin_x0 X Wt c (slots nc c0).toFinset)) $$ H
    iapply (wp_load_rect 𝒱₀ (c : Thread nD τ) none Set.univ (m := Memref.whole cc0_scratch0) (r := rx nc m c0) (S := (slots nc c0).toFinset.biUnion K0) (q := qO) (f := XG X c)
      (rx_sub0 nc m c0 hm)) $$ H
    iintro H
    iapply Hk
    iapply (take_own hS fun x => gp X Wt c x.1 x.2 qO).2
    isplitl [H]
    · iapply (Entails.of_eq (gjoin_x0 X Wt c (slots nc c0).toFinset).symm); iexact H
    · iexact Hr
  · have em : mh m = .x1 := if_neg hm
    simp only [em] at *
    ihave H := (Entails.of_eq (gjoin_x1 X Wt c (slots nc c0).toFinset)) $$ H
    iapply (wp_load_rect 𝒱₀ (c : Thread nD τ) none Set.univ (m := Memref.whole cc0_scratch0) (r := rx nc m c0) (S := (slots nc c0).toFinset.biUnion K1) (q := qO) (f := XG X c)
      (rx_sub1 nc m c0 hm)) $$ H
    iintro H
    iapply Hk
    iapply (take_own hS fun x => gp X Wt c x.1 x.2 qO).2
    isplitl [H]
    · iapply (Entails.of_eq (gjoin_x1 X Wt c (slots nc c0).toFinset).symm); iexact H
    · iexact Hr

theorem ld_w (c : Dev nD) (O : Finset (Hf × Fin 32)) (nc : Nc) (c0 : Fin 29) (hS : ∀ j ∈ (slots nc c0).toFinset, (Hf.w, j) ∈ O)
    (k : ((rw' nc c0).shape.Idx → Elt F .fp8e5m2) → PP F) (Q : PUnit → sProp 𝕄) :
    (bigSep O fun x => gp X Wt c x.1 x.2 qO)
      ⊢ iprop(((bigSep O fun x => gp X Wt c x.1 x.2 qO)
          -∗ wp frame (wpE (defs₀ (F := F)) 𝒱₀ c none) Set.univ (k (((Memref.whole cc0_scratch1).access (rw' nc c0)).read (Elt F) (WG Wt c))) Q)
        -∗ wp frame (wpE (defs₀ (F := F)) 𝒱₀ c none) Set.univ (.op (.load (Memref.whole cc0_scratch1) (rw' nc c0).toLoadRect (rw_loads nc c0)) k) Q) := by
  iintro H Hk
  ihave H := (take_own hS fun x => gp X Wt c x.1 x.2 qO).1 $$ H
  icases H with ⟨H, Hr⟩
  ihave H := (Entails.of_eq (gjoin_w X Wt c (slots nc c0).toFinset)) $$ H
  iapply (wp_load_rect 𝒱₀ (c : Thread nD τ) none Set.univ (m := Memref.whole cc0_scratch1) (r := rw' nc c0) (S := (slots nc c0).toFinset.biUnion Kw) (q := qO) (f := WG Wt c)
    (rw_sub nc c0)) $$ H
  iintro H
  iapply Hk
  iapply (take_own hS fun x => gp X Wt c x.1 x.2 qO).2
  isplitl [H]
  · iapply (Entails.of_eq (gjoin_w X Wt c (slots nc c0).toFinset).symm); iexact H
  · iexact Hr

/-- One tile. -/
theorem st_tile (c : Dev nD) (σ : St) (rest : List Op) (md : Md) (nc : Nc) (c0 : Fin 29) (m : Fin 8) (hok : ok σ rest (.tile md nc c0 m) = true)
    (v4 : F .f32) (dl dr : Dev nD) (f : S4096x2048.Idx → Elt F .f32) (k : PUnit → PP F) (Q : PUnit → sProp 𝕄) :
    iprop(Res X Wt c σ ∗ out c f)
      ⊢ iprop((Res X Wt c σ ∗ out c (outStep X Wt v4 c f (.tile md nc c0 m)) -∗ wp frame (wpE (defs₀ (F := F)) 𝒱₀ c none) Set.univ (k ⟨⟩) Q)
        -∗ wp frame (wpE (defs₀ (F := F)) 𝒱₀ c none) Set.univ ((Op.prog o6 dl dr v4 (.tile md nc c0 m)).bind k) Q) := by
  have hS : ∀ j ∈ (slots nc c0).toFinset, (mh m, j) ∈ σ.ow ∧ (Hf.w, j) ∈ σ.ow := fun j hj => by
    have h := List.all_eq_true.mp hok j (List.mem_toFinset.mp hj)
    rw [Bool.and_eq_true, decide_eq_true_eq, decide_eq_true_eq] at h
    exact h
  unfold Res
  iintro ⟨⟨How, Hres⟩, Ho⟩ Hk
  iapply (ld_x X Wt c σ.ow nc c0 m (fun j hj => (hS j hj).1)) $$ How
  iintro How
  iapply (ld_w X Wt c σ.ow nc c0 (fun j hj => (hS j hj).2)) $$ How
  iintro How
  iapply (st_tail c v4 md m (tprod X Wt c nc c0 m) f k Q) $$ Ho
  iintro Ho
  iapply Hk
  isplitl [How Hres]
  · isplitl [How]; · iexact How
    iexact Hres
  iexact Ho

end Cert.KernelIdeal.Own

end
-- ==== Proof.Run.lean ====
/- The list of steps run in order. -/
module

public import proofs.«01_k».proof.Proof.Tile
public import proofs.«01_k».proof.Proof.Credit

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Cert.KernelIdeal Cert.KernelIdeal.Gen

variable {F : FTy → Type} [FloatOps F]

local notation "𝕄" => MT nD τ sig ℕ (Elt F) ℕ UU ℕ

variable (X : Dev nD → (S4096x128.Idx → Elt F .fp8e4m3)) (Wt : Dev nD → (S128x2048.Idx → Elt F .fp8e5m2))

theorem one_int : (1#32 : BitVec 32).toInt = ((1 : ℕ) : ℤ) := by decide

theorem dues_nil (c : Dev nD) (o : Op) (rest : List Op) (h : opPay o = []) : dues c (o :: rest) = dues c rest := by
  unfold dues; rw [List.flatMap_cons, h, List.nil_append]

theorem tgt_fwd (c : Dev nD) (d : Dr) : tgt (pd c) (sc c) d = fwd d c := by cases d <;> rfl
theorem ctgt_bwd (c : Dev nD) (d : Dr) : ctgt (pd c) (sc c) d = bwd d c := by cases d <;> rfl

/-- Any one step. -/
theorem st_op (κ : GSem nD τ sig → ℕ) (c : Dev nD) (v4 : F .f32) (σ : St) (rest : List Op) (o : Op) (hok : ok σ rest o = true)
    (f : S4096x2048.Idx → Elt F .f32) (k : PUnit → PP F) (Q : PUnit → sProp 𝕄) :
    iprop(ctx X Wt κ c ∗ Res X Wt c σ ∗ (∃ W, owes (c : Thread nD τ) (dues c (o :: rest)) W) ∗ opRes c o ∗ out c f)
      ⊢ iprop(((∃ W, owes (c : Thread nD τ) (dues c rest) W) ∗ Res X Wt c (stp σ o) ∗ out c (outStep X Wt v4 c f o)
          -∗ wp frame (wpE (defs₀ (F := F)) 𝒱₀ c none) Set.univ (k ⟨⟩) Q)
        -∗ wp frame (wpE (defs₀ (F := F)) 𝒱₀ c none) Set.univ ((o.prog o6 (pd c) (sc c) v4).bind k) Q) := by
  iintro ⟨#Hx, HR, ⟨%W, HO⟩, Hop, Ho⟩ Hk
  unfold opRes
  cases o with
  | sendW d h s =>
    rw [dues_nil c _ rest rfl]
    iapply (st_sendW X Wt κ c σ rest d h s hok W k Q) $$ [HR HO]
    · isplitr; · iexact Hx
      isplitl [HR]; · iexact HR
      iexact HO
    iintro ⟨HO, HR⟩
    iapply Hk
    isplitl [HO]; · iexact HO
    isplitl [HR]; · iexact HR
    iexact Ho
  | send d h s =>
    simp only [opToks, opDst, opWt, bigSepL_cons', bigSepL_nil]
    icases Hop with ⟨⟨Ht1, Ht2, -⟩, ⟨Hd, -⟩, -⟩
    iapply (st_send X Wt κ c σ rest d h s hok W k Q (tgt (pd c) (sc c) d) (tgt_fwd c d)) $$ [HR HO Ht1 Ht2 Hd]
    · isplitr; · iexact Hx
      isplitl [HR]; · iexact HR
      isplitl [HO]; · iexact HO
      isplitl [Ht1]; · iexact Ht1
      isplitl [Ht2]; · iexact Ht2
      iexact Hd
    iintro ⟨HO, HR⟩
    iapply Hk
    isplitl [HO]; · iexact HO
    isplitl [HR]; · iexact HR
    iexact Ho
  | recvW d h s =>
    rw [dues_nil c _ rest rfl]
    simp only [opToks, opDst, opWt, bigSepL_cons', bigSepL_nil]
    icases Hop with ⟨-, -, ⟨Hc, -⟩⟩
    iapply (st_recvW X Wt κ c σ rest d h s hok W k Q) $$ [HR HO Hc]
    · isplitr; · iexact Hx
      isplitl [HR]; · iexact HR
      isplitl [HO]; · iexact HO
      iexact Hc
    iintro ⟨HO, HR⟩
    iapply Hk
    isplitl [HO]; · iexact HO
    isplitl [HR]; · iexact HR
    iexact Ho
  | credW d i =>
    rw [dues_nil c _ rest rfl]
    simp only [opToks, opDst, opWt, bigSepL_cons', bigSepL_nil]
    icases Hop with ⟨-, -, ⟨Hc, -⟩⟩
    have e : (Op.prog (F := F) o6 (pd c) (sc c) v4 (.credW d i)).bind k = .op (.semWait (cSem d) ((1 : ℕ) : ℤ)) k := by rw [← one_int]; rfl
    rw [e]
    iapply (st_credW X Wt κ c σ rest d i hok W k Q) $$ [HR HO Hc]
    · isplitr; · iexact Hx
      isplitl [HR]; · iexact HR
      isplitl [HO]; · iexact HO
      iexact Hc
    iintro ⟨HO, HR⟩
    iapply Hk
    isplitl [HO]; · iexact HO
    isplitl [HR]; · iexact HR
    iexact Ho
  | credS d i =>
    simp only [opToks, opDst, opWt, bigSepL_cons', bigSepL_nil]
    icases Hop with ⟨⟨Ht, -⟩, -, -⟩
    have e : (Op.prog (F := F) o6 (pd c) (sc c) v4 (.credS d i)).bind k = .op (.semSignal ((ctgt (pd c) (sc c) d : Dev nD) : Thread nD τ) (cSem d) ((1 : ℕ) : ℤ)) k := by
      rw [← one_int]; rfl
    rw [e]
    iapply (st_credS X Wt κ c σ rest d i hok W k Q (ctgt (pd c) (sc c) d) (ctgt_bwd c d)) $$ [HR HO Ht]
    · isplitr; · iexact Hx
      isplitl [HR]; · iexact HR
      isplitl [HO]; · iexact HO
      iexact Ht
    iintro ⟨HO, HR⟩
    iapply Hk
    isplitl [HO]; · iexact HO
    isplitl [HR]; · iexact HR
    iexact Ho
  | tile md nc c0 m =>
    rw [dues_nil c _ rest rfl]
    iapply (st_tile X Wt c σ rest md nc c0 m hok v4 (pd c) (sc c) f k Q) $$ [HR Ho]
    · isplitl [HR]; · iexact HR
      iexact Ho
    iintro ⟨HR, Ho⟩
    iapply Hk
    isplitl [HO]; · iexists W; iexact HO
    isplitl [HR]; · iexact HR
    iexact Ho

/-- A whole list of steps. -/
theorem st_run (κ : GSem nD τ sig → ℕ) (c : Dev nD) (v4 : F .f32) (l : List Op) (Q : PUnit → sProp 𝕄) :
    ∀ (σ : St) (f : S4096x2048.Idx → Elt F .f32), okAll σ l = true →
    iprop(ctx X Wt κ c ∗ Res X Wt c σ ∗ (∃ W, owes (c : Thread nD τ) (dues c l) W) ∗ (bigSepL l fun o => opRes c o) ∗ out c f)
      ⊢ iprop(((∃ W, owes (c : Thread nD τ) (dues c []) W) ∗ Res X Wt c (stpAll σ l) ∗ out c (outAll X Wt v4 c f l)
          -∗ wp frame (wpE (defs₀ (F := F)) 𝒱₀ c none) Set.univ (.ret ⟨⟩) Q)
        -∗ wp frame (wpE (defs₀ (F := F)) 𝒱₀ c none) Set.univ (runOps o6 (pd c) (sc c) v4 l) Q) := by
  induction l with
  | nil =>
    intro σ f _
    iintro ⟨-, HR, HO, -, Ho⟩ Hk
    iapply Hk
    isplitl [HO]; · iexact HO
    isplitl [HR]; · iexact HR
    iexact Ho
  | cons o l ih =>
    intro σ f h
    have h' := (Bool.and_eq_true _ _).mp h
    rw [bigSepL_cons']
    iintro ⟨#Hx, HR, HO, ⟨Hop, Hl⟩, Ho⟩ Hk
    iapply (st_op X Wt κ c v4 σ l o h'.1 f (fun _ => runOps o6 (pd c) (sc c) v4 l) Q) $$ [HR HO Hop Ho]
    · isplitr; · iexact Hx
      isplitl [HR]; · iexact HR
      isplitl [HO]; · iexact HO
      isplitl [Hop]; · iexact Hop
      iexact Ho
    iintro ⟨HO, HR, Ho⟩
    iapply (ih (stp σ o) (outStep X Wt v4 c f o) h'.2) $$ [HR HO Hl Ho]
    · isplitr; · iexact Hx
      isplitl [HR]; · iexact HR
      isplitl [HO]; · iexact HO
      isplitl [Hl]; · iexact Hl
      iexact Ho
    iexact Hk

end Cert.KernelIdeal.Own

end
-- ==== Proof.Body.lean ====
/- The body run from beginning to end on any one device. -/
module

public import proofs.«01_k».proof.Proof.Meet
public import proofs.«01_k».proof.Proof.Fill
public import proofs.«01_k».proof.Proof.Run

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

variable (X : Dev nD → (S4096x128.Idx → Elt F .fp8e4m3)) (Wt : Dev nD → (S128x2048.Idx → Elt F .fp8e5m2))

/-- What a device owes when the kernel begins: two barrier units, and what the steps pay. -/
def owedL (c : Dev nD) (l : List Op) : CellTallies nD τ sig ℕ := tallyL ((cell (pd c) .bar, 1, 1) :: (cell (sc c) .bar, 1, 1) :: pays c (l.flatMap opPay))
/-- The credit a device waits with. -/
def waitL (l : List Op) : List (Cl × ℕ × ℕ) := (.bar, 1, 2) :: l.flatMap opWt
def creds (c : Dev nD) (l : List Op) : sProp 𝕄 := bigSepL (waitL l) fun p => cred (tallyAt (cell c p.1) p.2.1 p.2.2)
/-- The tokens of the payments it makes. -/
def toksL (c : Dev nD) (l : List Op) : sProp 𝕄 := bigSepL ((.bar, 0, 0) :: (.bar, 0, 1) :: l.flatMap opToks) fun k => tokAt (F := F) c k

theorem two_int : (2#32 : BitVec 32).toInt = ((2 : ℕ) : ℤ) := by decide
theorem lvOk_one : lvOk 1 trace = true := by decide +kernel

/-- The body after its shards are in place. -/
def tailOps (dl dr : Dev nD) (v4 : F .f32) (l : List Op) : PP F := do
  semSignalWord dl barSem 1#32
  semSignalWord dr barSem 1#32
  semWaitWord barSem 2#32
  runOps o6 dl dr v4 l

/-- The invariants, and the levels. -/
def env (κ : GSem nD τ sig → ℕ) : sProp 𝕄 := iprop(fam.cellInvs (ER (F := F)) (Rd X Wt) κ ∗ levAts (SiteBlocks.L NL) SiteBlocks.lv)
instance env_persistent (κ : GSem nD τ sig → ℕ) : BI.Persistent (env X Wt κ) := by unfold env; infer_instance

theorem env_inv (κ : GSem nD τ sig → ℕ) (c : Dev nD) : env X Wt κ ⊢ cellInv ER (Rd X Wt) (κ (cell c .bar)) (cell c .bar) := by
  unfold env; iintro ⟨H, -⟩; iapply (inv_bar X Wt κ c); iexact H
theorem env_fam (κ : GSem nD τ sig → ℕ) : env X Wt κ ⊢ fam.cellInvs (ER (F := F)) (Rd X Wt) κ := by
  unfold env; iintro ⟨H, -⟩; iexact H
theorem env_wait (κ : GSem nD τ sig → ℕ) (c : Dev nD) (l : List Op) (h : lvOk 1 l = true) : env X Wt κ ⊢ MayWait (c : Thread nD τ) (.reg barSem) 1 (dues c l) := by
  unfold env
  iintro ⟨-, H⟩
  iapply (mayWaitL c (.reg barSem) 1 (by show 1 < 2000; omega) l h)
  iexact H
theorem env_met (κ : GSem nD τ sig → ℕ) (c : Dev nD) :
    iprop(env X Wt κ ∗ barPay (F := F) c .R ∗ barPay (F := F) c .L)
      ⊢ iprop(ctx X Wt κ c ∗ known (F := F) c .R 0 ∗ known (F := F) c .L 0
        ∗ bigSepL dks fun k => iprop(∃ f, pts (F := F) (fwd k.1 c) k.2.1 (dstJ k.1 k.2.2) fullShare f)) :=
  (show iprop(env X Wt κ ∗ barPay (F := F) c .R ∗ barPay (F := F) c .L)
    ⊢ iprop(fam.cellInvs (ER (F := F)) (Rd X Wt) κ ∗ levAts (SiteBlocks.L NL) SiteBlocks.lv ∗ barPay (F := F) c .R ∗ barPay (F := F) c .L) from
    by unfold env; exact sep_assoc).trans (met X Wt κ c)

/-- The two barrier cells a device pays into stand at their start. -/
def nears (c : Dev nD) : sProp 𝕄 := iprop(reached (ER (F := F)) (cell (pd c) .bar) 0 ∗ reached (ER (F := F)) (cell (sc c) .bar) 0)

theorem starts_of (c : Dev nD) : (bigSepL dormCl fun x => pos (F := F) c x 0) ⊢ iprop((bigSepL dormCl fun x => atPos (ER (F := F)) (cell c x) 0 ∅ 0) ∗ starts (F := F) c) :=
  bigSepL_two' dormCl (fun x => atPos (ER (F := F)) (cell c x) 0 ∅ 0) (fun x => reached (ER (F := F)) (cell c x) 0)
theorem starts_to (c : Dev nD) : iprop((bigSepL dormCl fun x => atPos (ER (F := F)) (cell c x) 0 ∅ 0) ∗ starts (F := F) c) ⊢ bigSepL dormCl fun x => pos (F := F) c x 0 :=
  bigSepL_two dormCl (fun x => atPos (ER (F := F)) (cell c x) 0 ∅ 0) (fun x => reached (ER (F := F)) (cell c x) 0)

/-- What is left when the body ends, but the windows. -/
def done (κ : GSem nD τ sig → ℕ) (c : Dev nD) : sProp 𝕄 :=
  iprop((∃ W, owes (c : Thread nD τ) 0 W) ∗ atPos (ER (F := F)) (cell c .bar) 1 ∅ 0 ∗ (bigSepL dormCl fun x => semVal (cell c x) 0)
    ∗ (((c : Thread nD τ).loc cc0_scratch0) ↦{fullShare} XG X c) ∗ (((c : Thread nD τ).loc cc0_scratch1) ↦{fullShare} WG Wt c))

theorem payC_bar1 (c : Dev nD) : payC X Wt c .bar 0 1 = barPay (F := F) c .R := by simp only [payC]; rw [if_neg Nat.one_ne_zero]
theorem payC_bar0 (c : Dev nD) : payC X Wt c .bar 0 0 = barPay (F := F) c .L := by simp only [payC, if_true]
theorem pay_barR (c : Dev nD) : iprop(starts (F := F) c ∗ slotsAt c .R) ⊢ barPay (F := F) (pd c) .R := pay_bar c .R
theorem pay_barL (c : Dev nD) : iprop(starts (F := F) c ∗ slotsAt c .L) ⊢ barPay (F := F) (sc c) .L := pay_bar c .L

/-- The meeting itself. -/
theorem st_bar (l : List Op) (hlv : lvOk 1 l = true) (κ : GSem nD τ sig → ℕ) (c : Dev nD) (k : PUnit → PP F) (Q : PUnit → sProp 𝕄) :
    iprop(env X Wt κ ∗ atPos (ER (F := F)) (cell c .bar) 0 ∅ 0 ∗ nears (F := F) c ∗ starts (F := F) c ∗ slotsAt (F := F) c .R ∗ slotsAt (F := F) c .L
      ∗ tokAt (F := F) c (.bar, 0, 0) ∗ tokAt (F := F) c (.bar, 0, 1) ∗ cred (tallyAt (cell c .bar) 1 2) ∗ (∃ W, owes (c : Thread nD τ) (owedL c l) W))
      ⊢ iprop(((∃ W, owes (c : Thread nD τ) (dues c l) W) ∗ atPos (ER (F := F)) (cell c .bar) 1 ∅ 0 ∗ barPay (F := F) c .R ∗ barPay (F := F) c .L
            -∗ wp frame (wpE (defs₀ (F := F)) 𝒱₀ c none) Set.univ (k ⟨⟩) Q)
        -∗ wp frame (wpE (defs₀ (F := F)) 𝒱₀ c none) Set.univ
          (.op (.semSignal (pd c, .tc) barSem ((1 : ℕ) : ℤ)) fun _ => .op (.semSignal (sc c, .tc) barSem ((1 : ℕ) : ℤ)) fun _ => .op (.semWait barSem ((2 : ℕ) : ℤ)) k) Q) := by
  unfold nears owedL
  iintro ⟨#He, Hat, ⟨#Hnp, #Hns⟩, #Hst, HsR, HsL, Ht0, Ht1, Hcb, ⟨%W, HO⟩⟩ Hk
  iapply (Rounds.wp_signal 𝒱₀ ER (Rd X Wt) (c : Thread nD τ) none (dst := (pd c : Thread nD τ)) (sem := barSem) (r := 0) (d := (c, 1)) (κ := κ (cell (pd c) .bar))
      (by rw [show ((pd c : Thread nD τ), SemLoc.reg barSem) = cell (pd c) .bar from rfl, duties_eq, dut_bar, sc_pd]; simp)
      (amount_eq X Wt (pd c) .bar _ _) 1 (tallyL ((cell (sc c) .bar, 1, 1) :: pays c (l.flatMap opPay))) (add_comm _ _))
    $$ [HO Ht1 HsR]
  · isplitr; · iapply (env_inv X Wt κ (pd c)); iexact He
    isplitl [HO]; · iexact HO
    isplitl [Ht1]; · iexact Ht1
    isplitl [HsR]
    · rw [show ((pd c : Thread nD τ), SemLoc.reg barSem) = cell (pd c) .bar from rfl, payload_eq, payC_bar1]
      iapply (pay_barR c)
      isplitr; · iexact Hst
      iexact HsR
    · iexact Hnp
  iintro HO
  iapply (Rounds.wp_signal 𝒱₀ ER (Rd X Wt) (c : Thread nD τ) none (dst := (sc c : Thread nD τ)) (sem := barSem) (r := 0) (d := (c, 0)) (κ := κ (cell (sc c) .bar))
      (by rw [show ((sc c : Thread nD τ), SemLoc.reg barSem) = cell (sc c) .bar from rfl, duties_eq, dut_bar, pd_sc]; simp)
      (amount_eq X Wt (sc c) .bar _ _) 1 (dues c l) (add_comm _ _))
    $$ [HO Ht0 HsL]
  · isplitr; · iapply (env_inv X Wt κ (sc c)); iexact He
    isplitl [HO]; · iexact HO
    isplitl [Ht0]; · iexact Ht0
    isplitl [HsL]
    · rw [show ((sc c : Thread nD τ), SemLoc.reg barSem) = cell (sc c) .bar from rfl, payload_eq, payC_bar0]
      iapply (pay_barL c)
      isplitr; · iexact Hst
      iexact HsL
    · iexact Hns
  iintro HO
  iapply (Rounds.wp_wait_rest_token 𝒱₀ ER (Rd X Wt) (c : Thread nD τ) none (sm := .reg barSem) (κ := κ (cell c .bar))
      (wpE_semWait_eq 𝒱₀ (c : Thread nD τ) none Set.univ) (Set.mem_univ _) 1 (O := dues c l) (W := W) (R := 0) (m := 0) (T := ∅)
      (by rw [expect_bar])) $$ [Hcb HO Hat]
  · isplitr; · iapply (env_inv X Wt κ c); iexact He
    isplitl [Hcb]; · iexact Hcb
    isplitl [HO]; · iexact HO
    isplitr; · iapply (env_wait X Wt κ c l hlv); iexact He
    iexact Hat
  iintro ⟨HO, Hat, -, Hpay⟩
  ihave Hpay := (Entails.of_eq (rest_bar X Wt c)) $$ Hpay
  icases Hpay with ⟨HpR, HpL⟩
  iapply Hk
  isplitl [HO]; · iexists _; iexact HO
  isplitl [Hat]; · iexact Hat
  isplitl [HpR]; · iexact HpR
  iexact HpL

theorem close_env (κ : GSem nD τ sig → ℕ) (c : Dev nD) :
    iprop(env X Wt κ ∗ bigSepL dormCl fun x => atPos (ER (F := F)) (cell c x) (lastR x) ∅ 0)
      ⊢ iprop(|={Set.univ}=> bigSepL dormCl fun x => semVal (cell c x) 0) :=
  (sep_mono_left (env_fam X Wt κ)).trans (close_all X Wt κ c)

/-- The end: the buffers whole again and every cell closed. -/
theorem st_end (σ : St) (hσ : σ = stE) (κ : GSem nD τ sig → ℕ) (c : Dev nD) :
    iprop(env X Wt κ ∗ (∃ W, owes (c : Thread nD τ) 0 W) ∗ atPos (ER (F := F)) (cell c .bar) 1 ∅ 0 ∗ Res X Wt c σ) ⊢ iprop(|={Set.univ}=> done X Wt κ c) := by
  iintro ⟨#He, HO, Hat, HR⟩
  unfold Res
  icases HR with ⟨How, Hav, -, Hps, Hcw⟩
  ihave Hs := (scratch_join X Wt c σ (hσ ▸ stE_ow) (hσ ▸ stE_av)) $$ [How Hav]
  · isplitl [How]; · iexact How
    iexact Hav
  icases Hs with ⟨Hs0, Hs1⟩
  ihave Hp := (end_pos (F := F) c σ hσ) $$ [Hps Hcw]
  · isplitl [Hps]; · iexact Hps
    iexact Hcw
  imod (close_env X Wt κ c) $$ [Hp] with Hv
  · isplitr; · iexact He
    iexact Hp
  imodintro
  unfold done
  isplitl [HO]; · iexact HO
  isplitl [Hat]; · iexact Hat
  isplitl [Hv]; · iexact Hv
  isplitl [Hs0]; · iexact Hs0
  iexact Hs1

/-- From the meeting to the end. -/
theorem st_meet (l : List Op) (hl : l = trace) (κ : GSem nD τ sig → ℕ) (c : Dev nD) (v4 : F .f32) (f : S4096x2048.Idx → Elt F .f32)
    (g0 : S4096x4096.Idx → Elt F .fp8e4m3) (g1 : S4096x2048.Idx → Elt F .fp8e5m2)
    (h0 : ∀ i : S4096x4096.Idx, (i 1).val < 128 → g0 i = XG X c i) (h1 : ∀ i : S4096x2048.Idx, (i 0).val < 128 → g1 i = WG Wt c i) (Q : PUnit → sProp 𝕄) :
    iprop(env X Wt κ ∗ atPos (ER (F := F)) (cell c .bar) 0 ∅ 0 ∗ nears (F := F) c ∗ (bigSepL dormCl fun x => pos (F := F) c x 0)
      ∗ toksL (F := F) c l ∗ creds (F := F) c l ∗ (∃ W, owes (c : Thread nD τ) (owedL c l) W)
      ∗ (((c : Thread nD τ).loc cc0_scratch0) ↦{fullShare} g0) ∗ (((c : Thread nD τ).loc cc0_scratch1) ↦{fullShare} g1) ∗ out c f)
      ⊢ iprop((done X Wt κ c ∗ out c (outAll X Wt v4 c f l) -∗ Q ⟨⟩)
        -∗ wp frame (wpE (defs₀ (F := F)) 𝒱₀ c none) Set.univ (tailOps (pd c) (sc c) v4 l) Q) := by
  have hd : dks = l.flatMap opDst := by rw [hl, dks]
  have hσ : stpAll st0 l = stE := by rw [hl, stE]
  unfold tailOps creds waitL toksL semSignalWord semWaitWord
  rw [bigSepL_cons', bigSepL_cons', bigSepL_cons', one_int, two_int]
  iintro ⟨#He, Hat, Hn, Hpos, ⟨Ht0, Ht1, Htok⟩, ⟨Hcb, Hcs⟩, HO, Hs0, Hs1, Hout⟩ Hk
  ihave Hsp := (scratch_split X Wt c g0 g1 h0 h1) $$ [Hs0 Hs1]
  · isplitl [Hs0]; · iexact Hs0
    iexact Hs1
  icases Hsp with ⟨Hgp, HsR, HsL⟩
  ihave Hpos := (starts_of c) $$ Hpos
  icases Hpos with ⟨Hpos, #Hst⟩
  iapply (st_bar X Wt l (hl ▸ lvOk_one) κ c _ Q) $$ [Hat Hn HsR HsL Ht0 Ht1 Hcb HO]
  · isplitr; · iexact He
    isplitl [Hat]; · iexact Hat
    isplitl [Hn]; · iexact Hn
    isplitr; · iexact Hst
    isplitl [HsR]; · iexact HsR
    isplitl [HsL]; · iexact HsL
    isplitl [Ht0]; · iexact Ht0
    isplitl [Ht1]; · iexact Ht1
    isplitl [Hcb]; · iexact Hcb
    iexact HO
  iintro ⟨HO, Hat, HpR, HpL⟩
  ihave Hm := (env_met X Wt κ c) $$ [HpR HpL]
  · isplitr; · iexact He
    isplitl [HpR]; · iexact HpR
    iexact HpL
  icases Hm with ⟨#Hx, HkR, HkL, Hsl⟩
  ihave Hsl := (Entails.of_eq (congrArg (fun ks => bigSepL ks fun k => iprop(∃ f, pts (F := F) (fwd k.1 c) k.2.1 (dstJ k.1 k.2.2) fullShare f)) hd)) $$ Hsl
  iapply (st_run X Wt κ c v4 l Q st0 f (hl ▸ trace_ok)) $$ [Hgp Hpos HkR HkL HO Htok Hcs Hsl Hout]
  · isplitr; · iexact Hx
    isplitl [Hgp Hpos HkR HkL]
    · iapply (start_res X Wt c)
      isplitl [Hgp]; · iexact Hgp
      isplitl [Hpos]
      · iapply (starts_to c)
        isplitl [Hpos]; · iexact Hpos
        iexact Hst
      isplitl [HkR]; · iexact HkR
      iexact HkL
    isplitl [HO]; · iexact HO
    isplitl [Htok Hcs Hsl]
    · iapply (ops_res c l)
      isplitl [Htok]; · iexact Htok
      isplitl [Hsl]; · iexact Hsl
      iexact Hcs
    iexact Hout
  iintro ⟨HO, HR, Hout⟩
  rw [wp_ret]
  imod (st_end X Wt _ hσ κ c) $$ [HO Hat HR] with Hd
  · isplitr; · iexact He
    isplitl [HO]; · iexact HO
    isplitl [Hat]; · iexact Hat
    iexact HR
  imodintro
  iapply Hk
  isplitl [Hd]; · iexact Hd
  iexact Hout

end Cert.KernelIdeal.Own

end
-- ==== Proof.BodyEq.lean ====
/- The printed body is the list of steps: the same sequence of operations, checked by unfolding. -/
module

public import proofs.«01_k».proof.Proof.Prog
public import Idealize.ShloMosaic.Lib.Pipeline.Regions

@[expose] public section

noncomputable section

namespace Cert.KernelIdeal.Own

open Idealize.ShloMosaic Idealize.ShloMosaic.TcCoe
open Idealize.SL Idealize.SL.Sem
open Cert.KernelIdeal Cert.KernelIdeal.Gen

variable {F : FTy → Type} [FloatOps F]

set_option maxRecDepth 100000 in
set_option maxHeartbeats 4000000 in
theorem body_eq (arg0 : Memref sig .tc .vmem S4096x128 .fp8e4m3) (harg0 : arg0.IsWhole) (arg1 : Memref sig .tc .vmem S128x2048 .fp8e5m2) (harg1 : arg1.IsWhole)
    (arg2 : Memref sig .tc .smem S1 .f32) (harg2 : arg2.IsWhole) (arg3 : Memref sig .tc .smem S1 .f32) (harg3 : arg3.IsWhole)
    (arg4 : Memref sig .tc .smem S1 .i32) (harg4 : arg4.IsWhole) (arg5 : Memref sig .tc .smem S1 .i32) (harg5 : arg5.IsWhole)
    (arg6 : Memref sig .tc .vmem S4096x2048 .f32) (harg6 : arg6.IsWhole) :
    cc0_body (F := F) arg0 harg0 arg1 harg1 arg2 harg2 arg3 harg3 arg4 harg4 arg5 harg5 arg6 harg6 (Memref.whole cc0_scratch0) (Memref.isWhole_whole _)
      (Memref.whole cc0_scratch1) (Memref.isWhole_whole _) cc0_scratch2 cc0_scratch3 cc0_scratch4 cc0_scratch5 cc0_scratch6 cc0_scratch7 cc0_scratch8 cc0_scratch9
      cc0_scratch10 cc0_scratch11 cc0_scratch12 cc0_scratch13 cc0_scratch14 cc0_scratch15
    = bodyOps arg0 arg1 arg2 arg3 arg4 arg5 arg6 := by
  chain_rfl

end Cert.KernelIdeal.Own

end
-- ==== Proof.Whole.lean ====
/- The whole body on any one device: the scalars read, the own shards put in place, then the meeting and the steps. -/
module

public import proofs.«01_k».proof.Proof.Body
public import proofs.«01_k».proof.Proof.BodyEq

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

variable (X : Dev nD → (S4096x128.Idx → Elt F .fp8e4m3)) (Wt : Dev nD → (S128x2048.Idx → Elt F .fp8e5m2))

/-- The scalars read, then anything of them. -/
def headOps (K : Dev nD → Dev nD → F .f32 → PP F) : PP F := do
  let v0 : Elt F .i32 ← smemLoad (Memref.whole cc0_stg5_0) r1 numel1_S1 rfl
  have hw1 : k0_chk1 v0 := (← Prog.lift (TpuEff.assume (k0_chk1 v0) (k0_chk1.dec v0))).down
  let v1 : Elt F .i32 ← smemLoad (Memref.whole cc0_stg4_0) r1 numel1_S1 rfl
  have hw2 : k0_chk2 v1 := (← Prog.lift (TpuEff.assume (k0_chk2 v1) (k0_chk2.dec v1))).down
  let v2 : Elt F .f32 ← smemLoad (Memref.whole cc0_stg2_0) r1 numel1_S1 rfl
  let v3 : Elt F .f32 ← smemLoad (Memref.whole cc0_stg3_0) r1 numel1_S1 rfl
  K ⟨word1 v0, k0_dev1_lt v0 hw1⟩ ⟨word1 v1, k0_dev2_lt v1 hw2⟩ (Scalar.mulf v2 v3)

/-- The own shards put into slot 0, then anything. -/
def fillOps (K : PP F) : PP F := do
  let v5 : Vec F S4096x128 .fp8e4m3 ← Prog.lift (.load (Memref.whole cc0_stg0_0) rX.toLoadRect (View.loadsAt_vmem h_S4096x128))
  let _v7 : Vec F S4096x128 .fp8e4m3 ← Prog.lift (.load (Memref.whole cc0_scratch0) r0.toLoadRect (View.loadsAt_vmem h_S4096x128))
  Prog.lift (.store (Memref.whole cc0_scratch0) r0
    (shapeCast S4096x128 (shapeCast S4096x128 v5 shapeCasts_S4096x128_S4096x128) shapeCasts_S4096x128_S4096x128) Finset.univ
    (View.stores_vmem h_S4096x128 ((Memref.isWhole_whole _).storeExact_slice rfl _ packedfp8e4m3_S4096x4096_S4096x128_0_0) (fun _ => rfl)) (.inl rfl))
  let v10 : Vec F S128x2048 .fp8e5m2 ← Prog.lift (.load (Memref.whole cc0_stg1_0) rW.toLoadRect (View.loadsAt_vmem h_S128x2048))
  let _v12 : Vec F S128x2048 .fp8e5m2 ← Prog.lift (.load (Memref.whole cc0_scratch1) rw0.toLoadRect (View.loadsAt_vmem h_S128x2048))
  Prog.lift (.store (Memref.whole cc0_scratch1) rw0
    (shapeCast S128x2048 (shapeCast S128x2048 v10 shapeCasts_S128x2048_S128x2048) shapeCasts_S128x2048_S128x2048) Finset.univ
    (View.stores_vmem h_S128x2048 ((Memref.isWhole_whole _).storeExact_slice rfl _ packedfp8e5m2_S4096x2048_S128x2048_0_0) (fun _ => rfl)) (.inl rfl))
  K

theorem body_parts : bodyOps (F := F) (Memref.whole cc0_stg0_0) (Memref.whole cc0_stg1_0) (Memref.whole cc0_stg2_0) (Memref.whole cc0_stg3_0) (Memref.whole cc0_stg4_0)
      (Memref.whole cc0_stg5_0) o6
    = headOps fun dl dr v4 => fillOps (tailOps dl dr v4 trace) := rfl

theorem st_assume {P : Prop} {d : Decidable P} (c : Dev nD) (h : P) (k : PLift P → PP F) (Q : PUnit → sProp 𝕄) :
    wp frame (wpE (defs₀ (F := F)) 𝒱₀ c none) Set.univ (k ⟨h⟩) Q
      ⊢ wp frame (wpE (defs₀ (F := F)) 𝒱₀ c none) Set.univ ((Prog.lift (TpuEff.assume P d) : Prog (TpuEff nD τ sig (Elt F) Λ₀ .tc) (PLift P)) >>= k) Q :=
  wp_assume (defs := defs₀ (F := F)) (Ix := ℕ) (Name := ℕ) (U := UU) (Lvl := ℕ) (Q := Q) (Γ := PendingWaitsCtx.empty) 𝒱₀ (c : Thread nD τ) none Set.univ (d := d) (k := k) h

theorem dev_word (c : Dev nD) (v : BitVec 32) (hv : v = wd c) (h) : (⟨word1 v, h⟩ : Dev nD) = c := Fin.ext (by subst hv; exact word1_wd c)

/-- The scalars, whole buffers of one word. -/
def scal (c : Dev nD) (sx sw : S1.Idx → Elt F .f32) (i4 i5 : S1.Idx → Elt F .i32) : sProp 𝕄 :=
  iprop((((c : Thread nD τ).loc cc0_stg2_0) ↦{fullShare} sx) ∗ (((c : Thread nD τ).loc cc0_stg3_0) ↦{fullShare} sw)
    ∗ (((c : Thread nD τ).loc cc0_stg4_0) ↦{fullShare} i4) ∗ (((c : Thread nD τ).loc cc0_stg5_0) ↦{fullShare} i5))

theorem st_head (c : Dev nD) (sx sw : S1.Idx → Elt F .f32) (i4 i5 : S1.Idx → Elt F .i32) (h4 : i4 i1 = wd (sc c)) (h5 : i5 i1 = wd (pd c))
    (K : Dev nD → Dev nD → F .f32 → PP F) (Q : PUnit → sProp 𝕄) :
    scal c sx sw i4 i5
      ⊢ iprop((scal c sx sw i4 i5 -∗ wp frame (wpE (defs₀ (F := F)) 𝒱₀ c none) Set.univ (K (pd c) (sc c) (Scalar.mulf (sx i1) (sw i1))) Q)
        -∗ wp frame (wpE (defs₀ (F := F)) 𝒱₀ c none) Set.univ (headOps K) Q) := by
  unfold headOps scal
  iintro ⟨H2, H3, H4, H5⟩ Hk
  iapply (st_scalar c (Memref.whole cc0_stg5_0) rfl i5) $$ H5
  iintro H5
  rw [rd5, h5]
  iapply (st_assume c (chk1_wd (pd c)))
  iapply (st_scalar c (Memref.whole cc0_stg4_0) rfl i4) $$ H4
  iintro H4
  rw [rd4, h4]
  iapply (st_assume c (chk2_wd (sc c)))
  iapply (st_scalar c (Memref.whole cc0_stg2_0) rfl sx) $$ H2
  iintro H2
  iapply (st_scalar c (Memref.whole cc0_stg3_0) rfl sw) $$ H3
  iintro H3
  rw [rd2, rd3]
  have hK : ∀ (d d' : Dev nD) (v : F .f32), d = pd c → d' = sc c → (wp frame (wpE (defs₀ (F := F)) 𝒱₀ c none) Set.univ (K (pd c) (sc c) v) Q
      ⊢ wp frame (wpE (defs₀ (F := F)) 𝒱₀ c none) Set.univ (K d d' v) Q) := fun d d' v e e' => by rw [e, e']
  iapply (hK _ _ _ (dev_word (pd c) _ rfl _) (dev_word (sc c) _ rfl _))
  iapply Hk
  isplitl [H2]; · iexact H2
  isplitl [H3]; · iexact H3
  isplitl [H4]; · iexact H4
  iexact H5

/-- The shards read and put in place. -/
theorem st_fill (c : Dev nD) (g0 : S4096x4096.Idx → Elt F .fp8e4m3) (g1 : S4096x2048.Idx → Elt F .fp8e5m2) (K : PP F) (Q : PUnit → sProp 𝕄) :
    iprop((((c : Thread nD τ).loc cc0_stg0_0) ↦{fullShare} X c) ∗ (((c : Thread nD τ).loc cc0_stg1_0) ↦{fullShare} Wt c)
      ∗ (((c : Thread nD τ).loc cc0_scratch0) ↦{fullShare} g0) ∗ (((c : Thread nD τ).loc cc0_scratch1) ↦{fullShare} g1))
      ⊢ iprop((∀ g0' g1', ⌜∀ i : S4096x4096.Idx, (i 1).val < 128 → g0' i = XG X c i⌝ -∗ ⌜∀ i : S4096x2048.Idx, (i 0).val < 128 → g1' i = WG Wt c i⌝
          -∗ ((((c : Thread nD τ).loc cc0_stg0_0) ↦{fullShare} X c) ∗ (((c : Thread nD τ).loc cc0_stg1_0) ↦{fullShare} Wt c))
          -∗ (((c : Thread nD τ).loc cc0_scratch0) ↦{fullShare} g0') -∗ (((c : Thread nD τ).loc cc0_scratch1) ↦{fullShare} g1')
          -∗ wp frame (wpE (defs₀ (F := F)) 𝒱₀ c none) Set.univ K Q)
        -∗ wp frame (wpE (defs₀ (F := F)) 𝒱₀ c none) Set.univ (fillOps K) Q) := by
  unfold fillOps
  iintro ⟨Ha, Hb, H0, H1⟩ Hk
  iapply (st_ldX c _ (X c)) $$ Ha
  iintro Ha
  iapply (st_fillX X c _ _ _ _ _ g0) $$ H0
  iintro %g0' %h0 H0
  iapply (st_ldW c _ (Wt c)) $$ Hb
  iintro Hb
  iapply (st_fillW Wt c _ _ _ _ _ g1) $$ H1
  iintro %g1' %h1 H1
  iapply Hk $$ [] [] [Ha Hb] H0 H1
  · ipureintro; exact h0
  · ipureintro; exact h1
  isplitl [Ha]; · iexact Ha
  iexact Hb

/-- What a device has when the body begins, but the windows. -/
def begun (κ : GSem nD τ sig → ℕ) (l : List Op) (c : Dev nD) : sProp 𝕄 :=
  iprop(atPos (ER (F := F)) (cell c .bar) 0 ∅ 0 ∗ nears (F := F) c ∗ (bigSepL dormCl fun x => pos (F := F) c x 0)
      ∗ toksL (F := F) c l ∗ creds (F := F) c l ∗ (∃ W, owes (c : Thread nD τ) (owedL c l) W)
      ∗ (∃ g0, ((c : Thread nD τ).loc cc0_scratch0) ↦{fullShare} g0) ∗ (∃ g1, ((c : Thread nD τ).loc cc0_scratch1) ↦{fullShare} g1))

/-- The windows' buffers. -/
def wins (c : Dev nD) (sx sw : S1.Idx → Elt F .f32) (i4 i5 : S1.Idx → Elt F .i32) (f : S4096x2048.Idx → Elt F .f32) : sProp 𝕄 :=
  iprop(((((c : Thread nD τ).loc cc0_stg0_0) ↦{fullShare} X c) ∗ (((c : Thread nD τ).loc cc0_stg1_0) ↦{fullShare} Wt c)) ∗ scal c sx sw i4 i5 ∗ out c f)

/-- The body. -/
theorem st_whole (l : List Op) (hl : l = trace) (κ : GSem nD τ sig → ℕ) (c : Dev nD) (sx sw : S1.Idx → Elt F .f32) (i4 i5 : S1.Idx → Elt F .i32)
    (h4 : i4 i1 = wd (sc c)) (h5 : i5 i1 = wd (pd c)) (f : S4096x2048.Idx → Elt F .f32) (Q : PUnit → sProp 𝕄) :
    iprop(env X Wt κ ∗ begun κ l c ∗ wins X Wt c sx sw i4 i5 f)
      ⊢ iprop((done X Wt κ c ∗ wins X Wt c sx sw i4 i5 (outAll X Wt (Scalar.mulf (sx i1) (sw i1)) c f l) -∗ Q ⟨⟩)
        -∗ wp frame (wpE (defs₀ (F := F)) 𝒱₀ c none) Set.univ (headOps fun dl dr v4 => fillOps (tailOps dl dr v4 l)) Q) := by
  unfold begun wins
  iintro ⟨#He, ⟨Hat, Hn, Hpos, Htok, Hcr, HO, ⟨%g0, H0⟩, ⟨%g1, H1⟩⟩, ⟨Ha, Hb⟩, Hsc, Hout⟩ Hk
  iapply (st_head c sx sw i4 i5 h4 h5) $$ Hsc
  iintro Hsc
  iapply (st_fill X Wt c g0 g1) $$ [Ha Hb H0 H1]
  · isplitl [Ha]; · iexact Ha
    isplitl [Hb]; · iexact Hb
    isplitl [H0]; · iexact H0
    iexact H1
  iintro %g0' %g1' %h0 %h1 Hab H0 H1
  iapply (st_meet X Wt l hl κ c _ f g0' g1' h0 h1 Q) $$ [Hat Hn Hpos Htok Hcr HO H0 H1 Hout]
  · isplitr; · iexact He
    isplitl [Hat]; · iexact Hat
    isplitl [Hn]; · iexact Hn
    isplitl [Hpos]; · iexact Hpos
    isplitl [Htok]; · iexact Htok
    isplitl [Hcr]; · iexact Hcr
    isplitl [HO]; · iexact HO
    isplitl [H0]; · iexact H0
    isplitl [H1]; · iexact H1
    iexact Hout
  iintro ⟨Hd, Hout⟩
  iapply Hk
  isplitl [Hd]; · iexact Hd
  isplitl [Hab]; · iexact Hab
  isplitl [Hsc]; · iexact Hsc
  iexact Hout

end Cert.KernelIdeal.Own

end
-- ==== Proof.OutVal.lean ====
/- What the steps leave in the output: at each place the nine products of its tile, in the order they are added. -/
module

public import proofs.«01_k».proof.Proof.Tile
public import proofs.«01_k».proof.Proof.Fill

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

variable (X : Dev nD → (S4096x128.Idx → Elt F .fp8e4m3)) (Wt : Dev nD → (S128x2048.Idx → Elt F .fp8e5m2))

/-- The place of a tile's element in the output. -/
def rowIx (m : Fin 8) (j : S512x2048.Idx) : S4096x2048.Idx := (o6.access (ro m)).emb j
theorem rowIx_eq (m : Fin 8) (j : S512x2048.Idx) :
    rowIx m j = ix2 (n0 := 4096) (n1 := 2048) ⟨m.val * 512 + (j 0).val, by have := m.isLt; have : (j 0).val < 512 := (j 0).isLt; omega⟩ (j 1) := by
  refine funext fun (a : Fin 2) => ?_
  fin_cases a <;> apply Fin.ext
  · show m.val * 512 + 1 * (j 0).val = m.val * 512 + (j 0).val; omega
  · show 0 + 1 * (j 1).val = (j 1).val; omega
theorem rowIx_surj (i : S4096x2048.Idx) : ∃ m j, i = rowIx m j := by
  have h0 : (i 0).val < 4096 := (i 0).isLt
  refine ⟨⟨(i 0).val / 512, by omega⟩, ix2 (n0 := 512) (n1 := 2048) ⟨(i 0).val % 512, by omega⟩ (i 1), ?_⟩
  rw [rowIx_eq]
  refine funext fun (a : Fin 2) => ?_
  fin_cases a <;> apply Fin.ext
  · show (i 0).val = (i 0).val / 512 * 512 + (i 0).val % 512; omega
  · rfl
theorem rowIx_tile {m m' : Fin 8} {j j' : S512x2048.Idx} (h : rowIx m j = rowIx m' j') : m = m' := by
  rw [rowIx_eq, rowIx_eq] at h
  have h0 : m.val * 512 + (j 0).val = m'.val * 512 + (j' 0).val := congrArg (fun i : S4096x2048.Idx => (i 0).val) h
  have h1 : (j 0).val < 512 := (j 0).isLt
  have h2 : (j' 0).val < 512 := (j' 0).isLt
  exact Fin.ext (by omega)

/-- One element stored. -/
def store1 (v4 : F .f32) : Md → F .f32 → F .f32 → F .f32
  | .init, p, _ => p
  | .mid, p, o => FloatOps.addf o p
  | .fin, p, o => FloatOps.mulf (FloatOps.addf o p) v4
theorem tput_at (v4 : F .f32) (md : Md) (p o : FVec F S512x2048 .f32) (j : S512x2048.Idx) : tput v4 md p o j = store1 v4 md (p j) (o j) := by
  have e : shapeCast S512x2048 o shapeCasts_S512x2048_S512x2048 = o := shapeCast_self o _
  cases md
  · rfl
  · simp only [tput, store1, addf]
    exact congrArg (fun o' : FVec F S512x2048 .f32 => FloatOps.addf (o' j) (p j)) e
  · simp only [tput, store1, addf, mulf, broadcast]
    exact congrArg (fun o' : FVec F S512x2048 .f32 => FloatOps.mulf (FloatOps.addf (o' j) (p j)) v4) e

theorem outPut_at (v4 : F .f32) (md : Md) (m : Fin 8) (p : FVec F S512x2048 .f32) (f : S4096x2048.Idx → Elt F .f32) (j : S512x2048.Idx) :
    outPut v4 md m p f (rowIx m j) = store1 v4 md (p j) (f (rowIx m j)) := by
  unfold outPut rowIx
  refine (View.write_emb_of_mem (Val := Elt F) (v := o6.access (ro m)) f _ (Finset.mem_univ j)).trans ?_
  exact tput_at v4 md p (View.read (Elt F) (o6.access (ro m)) f) j
theorem outPut_off (v4 : F .f32) (md : Md) (m m' : Fin 8) (hm : m' ≠ m) (p : FVec F S512x2048 .f32) (f : S4096x2048.Idx → Elt F .f32) (j : S512x2048.Idx) :
    outPut v4 md m' p f (rowIx m j) = f (rowIx m j) := by
  unfold outPut
  refine View.write_of_not_mem _ _ _ fun h => ?_
  obtain ⟨x, -, hx⟩ := Finset.mem_map.mp h
  exact hm (rowIx_tile hx)

/-- What a step does to one element. -/
def elStep (v4 : F .f32) (c : Dev nD) (m : Fin 8) (j : S512x2048.Idx) (a : F .f32) : Op → F .f32
  | .tile md nc c0 m' => if m' = m then store1 v4 md (tprod X Wt c nc c0 m j) a else a
  | _ => a
theorem outStep_at (v4 : F .f32) (c : Dev nD) (f : S4096x2048.Idx → Elt F .f32) (o : Op) (m : Fin 8) (j : S512x2048.Idx) :
    outStep X Wt v4 c f o (rowIx m j) = elStep X Wt v4 c m j (f (rowIx m j)) o := by
  cases o
  case tile md nc c0 m' =>
    show outPut v4 md m' _ f (rowIx m j) = if m' = m then _ else _
    by_cases h : m' = m
    · subst h; rw [if_pos rfl]; exact outPut_at v4 md m' _ f j
    · rw [if_neg h]; exact outPut_off v4 md m m' h _ f j
  all_goals rfl
theorem outAll_at (v4 : F .f32) (c : Dev nD) (l : List Op) (m : Fin 8) (j : S512x2048.Idx) (f : S4096x2048.Idx → Elt F .f32) :
    outAll X Wt v4 c f l (rowIx m j) = l.foldl (elStep X Wt v4 c m j) (f (rowIx m j)) := by
  induction l generalizing f with
  | nil => rfl
  | cons o l ih =>
    show outAll X Wt v4 c (outStep X Wt v4 c f o) l (rowIx m j) = _
    rw [ih, outStep_at]
    rfl

/-- The steps of one tile. -/
def isTile (m : Fin 8) : Op → Bool
  | .tile _ _ _ m' => decide (m' = m)
  | _ => false
theorem elStep_skip (v4 : F .f32) (c : Dev nD) (m : Fin 8) (j : S512x2048.Idx) (a : F .f32) (o : Op) (h : isTile m o = false) : elStep X Wt v4 c m j a o = a := by
  cases o
  case tile md nc c0 m' => exact if_neg (of_decide_eq_false h)
  all_goals rfl
theorem fold_filter (v4 : F .f32) (c : Dev nD) (m : Fin 8) (j : S512x2048.Idx) (l : List Op) (a : F .f32) :
    l.foldl (elStep X Wt v4 c m j) a = (l.filter (isTile m)).foldl (elStep X Wt v4 c m j) a := by
  induction l generalizing a with
  | nil => rfl
  | cons o l ih =>
    cases h : isTile m o
    · rw [List.filter_cons_of_neg (by rw [h]; exact Bool.false_ne_true), List.foldl_cons, elStep_skip X Wt v4 c m j a o h, ih]
    · rw [List.filter_cons_of_pos h, List.foldl_cons, List.foldl_cons, ih]

/-- The nine products of a tile. -/
def tiles (m : Fin 8) : List Op :=
  [.tile .init .one 0 m, .tile .mid .four 28 m, .tile .mid .four 1 m, .tile .mid .four 24 m, .tile .mid .four 5 m, .tile .mid .four 20 m,
    .tile .mid .four 9 m, .tile .mid .three 13 m, .tile .fin .four 16 m]
theorem trace_tiles : ∀ m : Fin 8, trace.filter (isTile m) = tiles m := by decide +kernel

/-- The output at one place. -/
def outEl (v4 : F .f32) (c : Dev nD) (m : Fin 8) (j : S512x2048.Idx) : F .f32 :=
  let p nc c0 := tprod X Wt c nc c0 m j
  FloatOps.mulf (FloatOps.addf (FloatOps.addf (FloatOps.addf (FloatOps.addf (FloatOps.addf (FloatOps.addf (FloatOps.addf (FloatOps.addf
    (p .one 0) (p .four 28)) (p .four 1)) (p .four 24)) (p .four 5)) (p .four 20)) (p .four 9)) (p .three 13)) (p .four 16)) v4

theorem fold_tiles (v4 : F .f32) (c : Dev nD) (m : Fin 8) (j : S512x2048.Idx) (a : F .f32) :
    (tiles m).foldl (elStep X Wt v4 c m j) a = outEl X Wt v4 c m j := by
  simp only [tiles, List.foldl_cons, List.foldl_nil, elStep, if_true, store1, outEl]

theorem outAll_el (v4 : F .f32) (c : Dev nD) (l : List Op) (hl : l = trace) (f : S4096x2048.Idx → Elt F .f32) (m : Fin 8) (j : S512x2048.Idx) :
    outAll X Wt v4 c f l (rowIx m j) = outEl X Wt v4 c m j := by
  rw [outAll_at, fold_filter, hl, trace_tiles, fold_tiles]

/-- What stood in the output before does not matter. -/
theorem outAll_any (v4 : F .f32) (c : Dev nD) (l : List Op) (hl : l = trace) (f g : S4096x2048.Idx → Elt F .f32) :
    outAll X Wt v4 c f l = outAll X Wt v4 c g l := by
  funext i
  obtain ⟨m, j, rfl⟩ := rowIx_surj i
  rw [outAll_el X Wt v4 c l hl f, outAll_el X Wt v4 c l hl g]

end Cert.KernelIdeal.Own

end
-- ==== Proof.Words.lean ====
/- The neighbours' numbers, as the host hands them to the kernel. -/
module

public import proofs.«01_k».proof.Proof.Gen.KernelIdeal.Regions
public import proofs.«01_k».proof.Proof.Fill
public import Idealize.ShloMosaic.Lib.Pipeline.FrameTail

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- A table read at a device's own number. -/
def look (t : Fin 32 → BitVec 32) (c : Dev nD) : BitVec 32 :=
  Host.dynamicSlice S1 (fun i : S32.Idx => t (S32.rowMajor i)) (fun _ : Fin 1 => (wd c).toInt) sliceFits_S32_S1 i1

/-- The index the host computes: the device's number, divided by one, modulo 32, and moved up were it negative. -/
def pos32 (c : Dev nD) : BitVec 32 :=
  let v4 : IVec S_ 32 := Host.remui (Host.divui (constantI S_ 32 (Dev.word c)) (constantI S_ 32 1#32)) (constantI S_ 32 32#32)
  select (cmpi .slt v4 (constantI S_ 32 0#32)) (addi v4 (constantI S_ 32 32#32)) v4 (Shape.Idx.first h_S_)
theorem pos32_eq : ∀ c : Dev nD, pos32 c = wd c := by decide +kernel

theorem look_of (t : Fin 32 → BitVec 32) (c : Dev nD) (s : Fin 1 → ℤ) (hs : s = fun _ => (wd c).toInt) (x : S1.Idx) :
    Host.dynamicSlice S1 (fun i : S32.Idx => t (S32.rowMajor i)) s sliceFits_S32_S1 x = look t c := by
  subst hs
  unfold look
  rw [show x = i1 from funext fun a => Fin.ext (by have h1 := (x a).isLt; have h2 := (i1 a).isLt; fin_cases a; change (x 0).val < 1 at h1; change (i1 0).val < 1 at h2; show (x 0).val = (i1 0).val; omega)]

theorem V1_v10 (c : Dev nD) : V1 m c main_v10 = fun _ => look lit0 c := by
  show StableHlo.after (hostOps0 c) (V0 m c) (Proc.devRef .tc main_v10) = _
  unfold hostOps0
  after_region_results
  funext x
  refine look_of lit0 c _ (funext fun k => ?_) _
  obtain rfl : k = 0 := Subsingleton.elim _ _
  dsimp only [Matrix.cons_val_zero]
  after_region_results
  exact congrArg BitVec.toInt (pos32_eq c)
theorem V1_v16 (c : Dev nD) : V1 m c main_v16 = fun _ => look lit1 c := by
  show StableHlo.after (hostOps0 c) (V0 m c) (Proc.devRef .tc main_v16) = _
  unfold hostOps0
  after_region_results
  funext x
  refine look_of lit1 c _ (funext fun k => ?_) _
  obtain rfl : k = 0 := Subsingleton.elim _ _
  dsimp only [Matrix.cons_val_zero]
  after_region_results
  exact congrArg BitVec.toInt (pos32_eq c)

theorem look_sc : ∀ c : Dev nD, look lit0 c = wd (sc c) := by decide +kernel
theorem look_pd : ∀ c : Dev nD, look lit1 c = wd (pd c) := by decide +kernel

end Cert.KernelIdeal.Own

end
-- ==== Proof.Data.lean ====
/- The region's proof data: what each buffer holds before and after the one call, and what is owed. -/
module

public import proofs.«01_k».proof.Proof.Whole
public import proofs.«01_k».proof.Proof.OutVal
public import proofs.«01_k».proof.Proof.Words
public import proofs.«01_k».proof.Proof.Gen.KernelIdeal.Points
public import Idealize.ShloMosaic.Lib.Pipeline.ValueKit

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- A device's shards, and the scales. -/
def Xm (c : Dev nD) : S4096x128.Idx → Elt F .fp8e4m3 := m ((c : Thread nD τ).loc main_arg0)
def Wm (c : Dev nD) : S128x2048.Idx → Elt F .fp8e5m2 := m ((c : Thread nD τ).loc main_arg1)
def sxm (c : Dev nD) : S1.Idx → Elt F .f32 := m ((c : Thread nD τ).loc main_arg2)
def swm (c : Dev nD) : S1.Idx → Elt F .f32 := m ((c : Thread nD τ).loc main_arg3)
/-- The words the host hands over. -/
def n4 (c : Dev nD) : S1.Idx → Elt F .i32 := fun _ => wd (sc c)
def n5 (c : Dev nD) : S1.Idx → Elt F .i32 := fun _ => wd (pd c)
/-- What the call leaves in its output. -/
def res (l : List Op) (c : Dev nD) : S4096x2048.Idx → Elt F .f32 :=
  outAll (Xm m) (Wm m) (Scalar.mulf (sxm m c i1) (swm m c i1)) c (m ((c : Thread nD τ).loc main_v17)) l

theorem V1_arg0 (c : Dev nD) : V1 m c main_arg0 = Xm m c := V1_of m c main_arg0 (by decide)
theorem V1_arg1 (c : Dev nD) : V1 m c main_arg1 = Wm m c := V1_of m c main_arg1 (by decide)
theorem V1_arg2 (c : Dev nD) : V1 m c main_arg2 = sxm m c := V1_of m c main_arg2 (by decide)
theorem V1_arg3 (c : Dev nD) : V1 m c main_arg3 = swm m c := V1_of m c main_arg3 (by decide)
theorem V1_n4 (c : Dev nD) : V1 m c main_v10 = n4 (F := F) c := (V1_v10 m c).trans (funext fun _ => look_sc c)
theorem V1_n5 (c : Dev nD) : V1 m c main_v16 = n5 (F := F) c := (V1_v16 m c).trans (funext fun _ => look_pd c)

/-- What the kernel's one call is entered with beside its windows. -/
def phiA (l : List Op) (c : Dev nD) : sProp 𝕄 :=
  iprop((∃ κ, env (Xm m) (Wm m) κ ∗ atPos (ER (F := F)) (cell c .bar) 0 ∅ 0 ∗ nears (F := F) c ∗ (bigSepL dormCl fun x => pos (F := F) c x 0)
      ∗ toksL (F := F) c l ∗ creds (F := F) c l)
    ∗ ((∃ g0, ((c : Thread nD τ).loc cc0_scratch0) ↦{fullShare} g0) ∗ (∃ g1, ((c : Thread nD τ).loc cc0_scratch1) ↦{fullShare} g1)) ∗ ∃ r, prngReg c r)
/-- What it is left with. -/
def phiB (c : Dev nD) : sProp 𝕄 :=
  iprop((∃ κ, env (Xm m) (Wm m) κ ∗ atPos (ER (F := F)) (cell c .bar) 1 ∅ 0) ∗ (bigSepL dormCl fun x => semVal (cell c x) 0)
    ∗ ((∃ g0, ((c : Thread nD τ).loc cc0_scratch0) ↦{fullShare} g0) ∗ (∃ g1, ((c : Thread nD τ).loc cc0_scratch1) ↦{fullShare} g1)) ∗ ∃ r, prngReg c r)

/-- The proof data. -/
def dat (l : List Op) (c : Dev nD) : Dat τ (Elt F) ℕ ℕ UU ℕ cfg0 c where
  A w := V1 m c (Pipeline.arrRef spec0 w)
  after w _ := match w with
    | ⟨0, _⟩ => Xm m c
    | ⟨1, _⟩ => Wm m c
    | ⟨2, _⟩ => sxm m c
    | ⟨3, _⟩ => swm m c
    | ⟨4, _⟩ => n4 (F := F) c
    | ⟨5, _⟩ => n5 (F := F) c
    | ⟨6, _⟩ => res m l c
  Φ t := if t.val = 0 then phiA m l c else phiB m c
  q _ := fullShare
  owed t := if t.val = 0 then owedL c l else 0

theorem dat_A (l : List Op) (c : Dev nD) (w : Fin cfg0.W) : (dat m l c).A w = V1 m c (Pipeline.arrRef spec0 w) := by dsimp only [dat]
theorem after_0 (l : List Op) (c : Dev nD) (t : Fin cfg0.N) : (dat m l c).after 0 t = Xm m c := by dsimp only [dat]
theorem after_1 (l : List Op) (c : Dev nD) (t : Fin cfg0.N) : (dat m l c).after 1 t = Wm m c := by dsimp only [dat]
theorem after_2 (l : List Op) (c : Dev nD) (t : Fin cfg0.N) : (dat m l c).after 2 t = sxm m c := by dsimp only [dat]
theorem after_3 (l : List Op) (c : Dev nD) (t : Fin cfg0.N) : (dat m l c).after 3 t = swm m c := by dsimp only [dat]
theorem after_4 (l : List Op) (c : Dev nD) (t : Fin cfg0.N) : (dat m l c).after 4 t = n4 (F := F) c := by dsimp only [dat]
theorem after_5 (l : List Op) (c : Dev nD) (t : Fin cfg0.N) : (dat m l c).after 5 t = n5 (F := F) c := by dsimp only [dat]
theorem after_6 (l : List Op) (c : Dev nD) (t : Fin cfg0.N) : (dat m l c).after 6 t = res m l c := by dsimp only [dat]

theorem owed_zero (l : List Op) (c : Dev nD) : (dat m l c).owed 0 = owedL c l := by
  show (if ((0 : Fin (cfg0.N + 1)).val = 0) then owedL c l else 0) = owedL c l; exact if_pos rfl
theorem owed_first (l : List Op) (c : Dev nD) : (dat m l c).owed t0_0.castSucc = owedL c l := by
  show (if (t0_0.castSucc : Fin (cfg0.N + 1)).val = 0 then owedL c l else 0) = owedL c l; exact if_pos rfl
theorem owed_succ (l : List Op) (c : Dev nD) : (dat m l c).owed t0_0.succ = 0 := by
  show (if (t0_0.succ : Fin (cfg0.N + 1)).val = 0 then owedL c l else 0) = 0; exact if_neg (by rw [Fin.val_succ]; omega)
theorem owed_last (l : List Op) (c : Dev nD) : (dat m l c).owed (Fin.last _) = 0 := by
  show (if (Fin.last cfg0.N).val = 0 then owedL c l else 0) = 0
  rw [Fin.val_last, if_neg (by rw [show cfg0.N = 1 from N_0]; decide)]
theorem phi_zero (l : List Op) (c : Dev nD) : (dat m l c).Φ 0 = phiA m l c := by
  show (if ((0 : Fin (cfg0.N + 1)).val = 0) then phiA m l c else phiB m c) = _; exact if_pos rfl
theorem phi_first (l : List Op) (c : Dev nD) : (dat m l c).Φ t0_0.castSucc = phiA m l c := by
  show (if (t0_0.castSucc : Fin (cfg0.N + 1)).val = 0 then phiA m l c else phiB m c) = _; exact if_pos rfl
theorem phi_succ (l : List Op) (c : Dev nD) : (dat m l c).Φ t0_0.succ = phiB m c := by
  show (if (t0_0.succ : Fin (cfg0.N + 1)).val = 0 then phiA m l c else phiB m c) = _; exact if_neg (by rw [Fin.val_succ]; omega)
theorem phi_last (l : List Op) (c : Dev nD) : (dat m l c).Φ (Fin.last _) = phiB m c := by
  show (if (Fin.last cfg0.N).val = 0 then phiA m l c else phiB m c) = _
  rw [Fin.val_last, if_neg (by rw [show cfg0.N = 1 from N_0]; decide)]

/-- A window that is a whole array reads as the array. -/
theorem whole_read (w : Pipeline.Window sig grid0) (t : Fin grid0.N) (h : ∀ a, w.index t a = 0)
    (f : w.arr.view.ty.Contents (Elt F)) (y : (w.xblock (grid0.coords t)).Idx) (j : w.shape.Idx) (hj : ∀ a, (j a).val = (y a).val) :
    (w.blk t).view.read (Elt F) f y = w.arr.view.read (Elt F) f j := by
  have hy : (w.rect t).emb y = j := funext fun a => Fin.ext (by rw [Pipeline.Window.rect_emb_val_of_index_zero _ _ _ (h a), hj])
  show _ = _
  rw [← hy]
  rfl

theorem before_0 (l : List Op) (c : Dev nD) (t : Fin cfg0.N) (d) : (dat m l c).before 0 t d = Xm m c := by
  rw [(dat m l c).before_fetched 0 t (fetch0_0 t) d]; funext y
  exact (whole_read win0_0 t (fun _ => rfl) (V1 m c main_arg0) y y (fun _ => rfl)).trans (congrFun (V1_arg0 m c) y)
theorem before_1 (l : List Op) (c : Dev nD) (t : Fin cfg0.N) (d) : (dat m l c).before 1 t d = Wm m c := by
  rw [(dat m l c).before_fetched 1 t (fetch0_1 t) d]; funext y
  exact (whole_read win0_1 t (fun _ => rfl) (V1 m c main_arg1) y y (fun _ => rfl)).trans (congrFun (V1_arg1 m c) y)
theorem before_2 (l : List Op) (c : Dev nD) (t : Fin cfg0.N) (d) : (dat m l c).before 2 t d = sxm m c := by
  rw [(dat m l c).before_fetched 2 t (fetch0_2 t) d]; funext y
  exact (whole_read win0_2 t (fun _ => rfl) (V1 m c main_arg2) y y (fun _ => rfl)).trans (congrFun (V1_arg2 m c) y)
theorem before_3 (l : List Op) (c : Dev nD) (t : Fin cfg0.N) (d) : (dat m l c).before 3 t d = swm m c := by
  rw [(dat m l c).before_fetched 3 t (fetch0_3 t) d]; funext y
  exact (whole_read win0_3 t (fun _ => rfl) (V1 m c main_arg3) y y (fun _ => rfl)).trans (congrFun (V1_arg3 m c) y)
theorem before_4 (l : List Op) (c : Dev nD) (t : Fin cfg0.N) (d) : (dat m l c).before 4 t d = n4 (F := F) c := by
  rw [(dat m l c).before_fetched 4 t (fetch0_4 t) d]; funext y
  exact (whole_read win0_4 t (fun _ => rfl) (V1 m c main_v10) y y (fun _ => rfl)).trans (congrFun (V1_n4 m c) y)
theorem before_5 (l : List Op) (c : Dev nD) (t : Fin cfg0.N) (d) : (dat m l c).before 5 t d = n5 (F := F) c := by
  rw [(dat m l c).before_fetched 5 t (fetch0_5 t) d]; funext y
  exact (whole_read win0_5 t (fun _ => rfl) (V1 m c main_v16) y y (fun _ => rfl)).trans (congrFun (V1_n5 m c) y)

/-- The output's array after the run. -/
theorem arr_out (l : List Op) (c : Dev nD) : (dat m l c).arrAt 6 cfg0.N = res m l c := by
  refine Pipeline.Dat.arrAt_eq_of_after_last (dat m l c) 6 t0_0 (by decide +kernel) (res m l c) fun j => ?_
  rw [after_6]
  rfl
/-- The other arrays. -/
theorem arr_in (l : List Op) (c : Dev nD) (w : Fin cfg0.W) (h : (cfg0.win w).isOut = false) (t : ℕ) :
    (dat m l c).arrAt w t = V1 m c (Pipeline.arrRef spec0 w) := (Pipeline.Dat.arrAt_in (dat m l c) w h t).trans (dat_A m l c w)

end Cert.KernelIdeal.Own

end
-- ==== Proof.Obliged.lean ====
/- The body obligation: the body as the pipeline calls it, its windows as it stages them. -/
module

public import proofs.«01_k».proof.Proof.Data
public import Idealize.ShloMosaic.Lib.Pipeline.FrameBody

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- The windows' buffers, one by one. -/
def bufsAt (c : Dev nD) (f : S4096x2048.Idx → Elt F .f32) : sProp 𝕄 :=
  iprop(owns (c : Thread nD τ) (Memref.whole cc0_stg0_0) fullShare (Xm m c) ∗ owns (c : Thread nD τ) (Memref.whole cc0_stg1_0) fullShare (Wm m c)
    ∗ owns (c : Thread nD τ) (Memref.whole cc0_stg2_0) fullShare (sxm m c) ∗ owns (c : Thread nD τ) (Memref.whole cc0_stg3_0) fullShare (swm m c)
    ∗ owns (c : Thread nD τ) (Memref.whole cc0_stg4_0) fullShare (n4 (F := F) c) ∗ owns (c : Thread nD τ) (Memref.whole cc0_stg5_0) fullShare (n5 (F := F) c)
    ∗ owns (c : Thread nD τ) (Memref.whole cc0_stg6_0) fullShare f)

theorem bufs_to (c : Dev nD) (f : S4096x2048.Idx → Elt F .f32) : bufsAt m c f ⊢ wins (Xm m) (Wm m) c (sxm m c) (swm m c) (n4 c) (n5 c) f := by
  unfold bufsAt wins scal out
  simp only [owns_whole]
  iintro ⟨H0, H1, H2, H3, H4, H5, H6⟩
  isplitl [H0 H1]
  · isplitl [H0]; · iexact H0
    iexact H1
  isplitl [H2 H3 H4 H5]
  · isplitl [H2]; · iexact H2
    isplitl [H3]; · iexact H3
    isplitl [H4]; · iexact H4
    iexact H5
  iexact H6
theorem bufs_from (c : Dev nD) (f : S4096x2048.Idx → Elt F .f32) : wins (Xm m) (Wm m) c (sxm m c) (swm m c) (n4 c) (n5 c) f ⊢ bufsAt m c f := by
  unfold bufsAt wins scal out
  simp only [owns_whole]
  iintro ⟨⟨H0, H1⟩, ⟨H2, H3, H4, H5⟩, H6⟩
  isplitl [H0]; · iexact H0
  isplitl [H1]; · iexact H1
  isplitl [H2]; · iexact H2
  isplitl [H3]; · iexact H3
  isplitl [H4]; · iexact H4
  isplitl [H5]; · iexact H5
  iexact H6

/-- What the region hands the body, and what it is handed back. -/
theorem phi_open (l : List Op) (c : Dev nD) (O : sProp 𝕄) (hO : O ⊢ iprop(∃ W, owes (c : Thread nD τ) (owedL c l) W)) :
    iprop(phiA m l c ∗ O) ⊢ iprop((∃ κ, env (Xm m) (Wm m) κ ∗ begun κ l c) ∗ ∃ r, prngReg c r) := by
  unfold phiA begun
  iintro ⟨⟨⟨%κ, #He, Hat, Hn, Hpos, Htok, Hcr⟩, ⟨H0, H1⟩, Hr⟩, HO⟩
  isplitr [Hr]
  · iexists κ
    isplitr; · iexact He
    isplitl [Hat]; · iexact Hat
    isplitl [Hn]; · iexact Hn
    isplitl [Hpos]; · iexact Hpos
    isplitl [Htok]; · iexact Htok
    isplitl [Hcr]; · iexact Hcr
    isplitl [HO]; · iapply hO; iexact HO
    isplitl [H0]; · iexact H0
    iexact H1
  iexact Hr
theorem phi_close (c : Dev nD) (κ : GSem nD τ sig → ℕ) : iprop(env (Xm m) (Wm m) κ ∗ done (Xm m) (Wm m) κ c ∗ ∃ r, prngReg c r)
    ⊢ iprop(phiB m c ∗ ∃ W, owes (c : Thread nD τ) 0 W) := by
  unfold phiB done
  iintro ⟨#He, ⟨HO, Hat, Hs, H0, H1⟩, Hr⟩
  isplitr [HO]
  · isplitl [Hat]
    · iexists κ
      isplitr; · iexact He
      iexact Hat
    isplitl [Hs]; · iexact Hs
    isplitl [H0 H1]
    · isplitl [H0]
      · iexists _; iexact H0
      iexists _; iexact H1
    iexact Hr
  iexact HO

/-- The body as the pipeline calls it. -/
theorem body_at (l : List Op) (hl : l = trace) : bodyAt0 (F := F) t0_0 = headOps fun dl dr v4 => fillOps (tailOps dl dr v4 l) := by
  subst hl
  exact (body_eq (Memref.whole cc0_stg0_0) _ (Memref.whole cc0_stg1_0) _ (Memref.whole cc0_stg2_0) _ (Memref.whole cc0_stg3_0) _ (Memref.whole cc0_stg4_0) _
    (Memref.whole cc0_stg5_0) _ (Memref.whole cc0_stg6_0) _).trans body_parts

theorem body_row (t : Fin cfg0.N) : defs₀ (F := F) .tc cfg0.body (cfg0.bodyArgs t (cfg0.slots t)) = bodyAt0 t := by
  unfold defs₀; rw [Defs.onTc_tc]

/-- The body, over what the region hands it. -/
theorem body_spec (l : List Op) (hl : l = trace) (c : Dev nD) (O O' : sProp 𝕄) (hO : O ⊢ iprop(∃ W, owes (c : Thread nD τ) (owedL c l) W))
    (hO' : iprop(∃ W, owes (c : Thread nD τ) 0 W) ⊢ O') (f : S4096x2048.Idx → Elt F .f32) :
    iprop((phiA m l c ∗ O) ∗ bufsAt m c f) ⊢ wp frame (wpE (defs₀ (F := F)) 𝒱₀ c none) Set.univ (headOps fun dl dr v4 => fillOps (tailOps dl dr v4 l))
      (fun _ => iprop((phiB m c ∗ O') ∗ bufsAt m c (res m l c))) := by
  have h0 : iprop((phiA m l c ∗ O) ∗ bufsAt m c f) ⊢ iprop(((∃ κ, env (Xm m) (Wm m) κ ∗ begun κ l c) ∗ ∃ r, prngReg c r)
      ∗ wins (Xm m) (Wm m) c (sxm m c) (swm m c) (n4 c) (n5 c) f) := BI.sep_mono (phi_open m l c O hO) (bufs_to m c f)
  refine h0.trans ?_
  iintro ⟨⟨⟨%κ, #He, Hb⟩, Hr⟩, Hw⟩
  iapply (st_whole (Xm m) (Wm m) l hl κ c (sxm m c) (swm m c) (n4 c) (n5 c) rfl rfl f) $$ [Hb Hw]
  · isplitr; · iexact He
    isplitl [Hb]; · iexact Hb
    iexact Hw
  iintro ⟨Hd, Hw⟩
  ihave H := (phi_close m c κ) $$ [Hd Hr]
  · isplitr; · iexact He
    isplitl [Hd]; · iexact Hd
    iexact Hr
  icases H with ⟨HP, HO⟩
  isplitr [Hw]
  · isplitl [HP]; · iexact HP
    iapply hO'; iexact HO
  iapply (bufs_from m c (res m l c))
  unfold res
  rw [outAll_any (Xm m) (Wm m) _ c l hl f (m ((c : Thread nD τ).loc main_v17))]
  iexact Hw

/-- A staged buffer at contents that do not depend on what it held before. -/
theorem own_of (c : Dev nD) {s : Shape} {e : EltTy} {sp : Space} (r : Memref sig .tc sp s e) {α : Type} (b : α → (s.Idx → Elt F e)) (g : s.Idx → Elt F e) (h : ∀ d, b d = g) :
    (iprop(∃ d, owns (c : Thread nD τ) r fullShare (b d)) : sProp 𝕄) ⊢ owns (c : Thread nD τ) r fullShare g := by
  iintro ⟨%d, H⟩; rw [h d]; iexact H

theorem regroup (P Q R : sProp 𝕄) : iprop((P ∗ Q) ∗ R) ⊢ iprop(P ∗ Q ∗ R) := by
  iintro ⟨⟨HP, HQ⟩, HR⟩; isplitl [HP]; · iexact HP
  isplitl [HQ]; · iexact HQ
  iexact HR

theorem body_obligation (l : List Op) (hl : l = trace) (c : Dev nD) : BodyObligation (dat m l c) (defs₀ (F := F)) 𝒱₀ 0 Set.univ := fun t => by
  obtain rfl := fin_N0 t
  rw [bigSep_W0, bigSep_W0, body_row, body_at l hl, phi_first, phi_succ]
  show iprop(phiA m l c ∗ (dat m l c).owesAt 0 t0_0.castSucc
      ∗ (∃ d, owns (c : Thread nD τ) (st0_0 t0_0) fullShare ((dat m l c).before 0 t0_0 d))
      ∗ (∃ d, owns (c : Thread nD τ) (st0_1 t0_0) fullShare ((dat m l c).before 1 t0_0 d))
      ∗ (∃ d, owns (c : Thread nD τ) (st0_2 t0_0) fullShare ((dat m l c).before 2 t0_0 d))
      ∗ (∃ d, owns (c : Thread nD τ) (st0_3 t0_0) fullShare ((dat m l c).before 3 t0_0 d))
      ∗ (∃ d, owns (c : Thread nD τ) (st0_4 t0_0) fullShare ((dat m l c).before 4 t0_0 d))
      ∗ (∃ d, owns (c : Thread nD τ) (st0_5 t0_0) fullShare ((dat m l c).before 5 t0_0 d))
      ∗ (∃ d, owns (c : Thread nD τ) (st0_6 t0_0) fullShare ((dat m l c).before 6 t0_0 d)))
    ⊢ wp frame (wpE (defs₀ (F := F)) 𝒱₀ c none) Set.univ (headOps fun dl dr v4 => fillOps (tailOps dl dr v4 l))
      (fun _ => iprop(phiB m c ∗ (dat m l c).owesAt 0 t0_0.succ
        ∗ owns (c : Thread nD τ) (st0_0 t0_0) fullShare ((dat m l c).after 0 t0_0)
        ∗ owns (c : Thread nD τ) (st0_1 t0_0) fullShare ((dat m l c).after 1 t0_0)
        ∗ owns (c : Thread nD τ) (st0_2 t0_0) fullShare ((dat m l c).after 2 t0_0)
        ∗ owns (c : Thread nD τ) (st0_3 t0_0) fullShare ((dat m l c).after 3 t0_0)
        ∗ owns (c : Thread nD τ) (st0_4 t0_0) fullShare ((dat m l c).after 4 t0_0)
        ∗ owns (c : Thread nD τ) (st0_5 t0_0) fullShare ((dat m l c).after 5 t0_0)
        ∗ owns (c : Thread nD τ) (st0_6 t0_0) fullShare ((dat m l c).after 6 t0_0)))
  rw [after_0, after_1, after_2, after_3, after_4, after_5, after_6]
  have key := body_spec m l hl c ((dat m l c).owesAt 0 t0_0.castSucc) ((dat m l c).owesAt 0 t0_0.succ)
    (TalkSites.owesAt_elim (dat m l c) 0 t0_0.castSucc _ (owed_first m l c))
    (by iintro ⟨%W, H⟩; iapply (TalkSites.owesAt_intro (dat m l c) 0 t0_0.succ 0 (owed_succ m l c) rfl W); iexact H)
  unfold bufsAt at key
  iintro ⟨HP, HO, H0, H1, H2, H3, H4, H5, ⟨%d6, H6⟩⟩
  iapply (triple_restated (key ((dat m l c).before 6 t0_0 d6)) rfl .rfl fun _ => regroup _ _ _) $$ [HP HO H0 H1 H2 H3 H4 H5 H6]
  isplitl [HP HO]
  · isplitl [HP]; · iexact HP
    iexact HO
  isplitl [H0]; · iapply (own_of c (Memref.whole cc0_stg0_0) _ _ (before_0 m l c t0_0)); iexact H0
  isplitl [H1]; · iapply (own_of c (Memref.whole cc0_stg1_0) _ _ (before_1 m l c t0_0)); iexact H1
  isplitl [H2]; · iapply (own_of c (Memref.whole cc0_stg2_0) _ _ (before_2 m l c t0_0)); iexact H2
  isplitl [H3]; · iapply (own_of c (Memref.whole cc0_stg3_0) _ _ (before_3 m l c t0_0)); iexact H3
  isplitl [H4]; · iapply (own_of c (Memref.whole cc0_stg4_0) _ _ (before_4 m l c t0_0)); iexact H4
  isplitl [H5]; · iapply (own_of c (Memref.whole cc0_stg5_0) _ _ (before_5 m l c t0_0)); iexact H5
  iexact H6

end Cert.KernelIdeal.Own

end
-- ==== Proof.Open.lean ====
/- What the program's launch gives a device is what its kernel begins with, and what the kernel leaves is a counter at zero. -/
module

public import proofs.«01_k».proof.Proof.Obliged

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- The kernel's own semaphores. -/
def osem (k : Fin dormCl.length) : SemLoc sig := (dormCl.get k).sm
theorem osem_facts : Pipeline.OwnSemFacts spec0 osem := by decide +kernel
theorem get_all {I : Type} (l : List I) : (List.finRange l.length).map l.get = l := List.ext_get (by simp) (by simp)
theorem own_sems (c : Dev nD) : (Pipeline.ownSems0 (Ix := ℕ) (Name := ℕ) (U := UU) (Lvl := ℕ) (Val := Elt F) (τ := τ) osem c : sProp 𝕄)
    = bigSepL dormCl fun x => semVal (cell c x) 0 := by
  rw [Pipeline.ownSems0_eq_of_list c osem (List.finRange dormCl.length) (by ext k; simp) (List.nodup_finRange _)]
  have h := bigSepL_map (M := 𝕄) dormCl.get (List.finRange dormCl.length) (fun x => semVal (cell c x) 0)
  rw [get_all] at h
  exact h.symm

/-- What the family hands a device, with its one launch's share taken apart. -/
theorem launched_split {Fm : TalkSites.Fam nD τ sig Dty 1} {S : Schedule (GSem nD τ sig) Dty 𝕄} (nb : Dev nD → Finset (Dev nD)) (c : Dev nD) :
    Fm.launched (ER (F := F)) S nb c ⊢ iprop((∃ κ, Fm.cellInvs (ER (F := F)) S κ) ∗ atPos (ER (F := F)) ((c : Thread nD τ), Fm.bar) 0 ∅ 0
      ∗ (bigSep (nb c) fun n => reached (ER (F := F)) ((n : Thread nD τ), Fm.bar) 0)
      ∗ (bigSep (Fm.dorm 0) fun sm => openTok (ER (F := F)) ((c : Thread nD τ), sm)) ∗ bigSep (Fm.toks c 0) fun x => dutyTok (ER (F := F)) x.1 x.2.1 x.2.2) := by
  unfold TalkSites.Fam.launched TalkSites.Fam.barPos
  rw [show (bigSep Finset.univ fun j : Fin 1 => Fm.rides (ER (F := F)) S c j) = Fm.rides (ER (F := F)) S c 0 from by
    rw [show (Finset.univ : Finset (Fin 1)) = {0} from rfl]; exact BI.bigSep_singleton]
  unfold TalkSites.Fam.rides
  iintro ⟨⟨-, Hat, Hr⟩, HI, Ho, Ht⟩
  isplitl [HI]; · iexact HI
  isplitl [Hat]; · iexact Hat
  isplitl [Hr]; · iexact Hr
  isplitl [Ho]; · iexact Ho
  iexact Ht

/-- The devices next to one. -/
def near (c : Dev nD) : Finset (Dev nD) := {pd c, sc c}
theorem pd_ne_sc : ∀ c : Dev nD, pd c ∉ ({sc c} : Finset (Dev nD)) := by decide +kernel
theorem near_eq (c : Dev nD) : (bigSep (near c) fun n => reached (ER (F := F)) ((n : Thread nD τ), fam.bar) 0) = nears (F := F) c := by
  unfold near nears
  rw [BI.bigSep_insert (pd_ne_sc c), BI.bigSep_singleton, fam_bar]
  rfl
theorem dorm_nodup : (dormCl.map Cl.sm).Nodup := by decide +kernel
theorem dorm_eq (c : Dev nD) : (bigSep (fam.dorm 0) fun sm => openTok (ER (F := F)) ((c : Thread nD τ), sm)) = bigSepL dormCl fun x => openTok (ER (F := F)) (cell c x) := by
  rw [bigSep_eq_bigSepL_of_eq (dormCl.map Cl.sm) (fam_dorm 0) dorm_nodup, bigSepL_map]
theorem toks_eq (c : Dev nD) (l : List Op) (hl : l = trace) : (bigSep (fam.toks c 0) fun x => dutyTok (ER (F := F)) x.1 x.2.1 x.2.2) = toksL (F := F) c l := by
  rw [fam_toks, bigSep_map, bigSep_eq_bigSepL tokKeys tokKeys_nodup]
  unfold toksL tokKeys
  rw [hl]
  rfl

/-- The parts of the launch put together: any family of facts, any environments made of them. -/
theorem gather {I : Type} (CI EN : I → sProp 𝕄) (LV A N O T C S P : sProp 𝕄) [∀ κ, BI.Persistent (EN κ)] (hE : ∀ κ, iprop(CI κ ∗ LV) ⊢ EN κ)
    (hO : ∀ κ, iprop(EN κ ∗ O ∗ S) ⊢ iprop(|={Set.univ}=> P)) :
    iprop((((∃ κ, CI κ) ∗ A ∗ N ∗ O ∗ T) ∗ C) ∗ S ∗ LV) ⊢ iprop(|={Set.univ}=> ∃ κ, EN κ ∗ A ∗ N ∗ P ∗ T ∗ C) := by
  iintro ⟨⟨⟨⟨%κ, HI⟩, HA, HN, HO, HT⟩, HC⟩, HS, HL⟩
  ihave #He := (hE κ) $$ [HI HL]
  · isplitl [HI]; · iexact HI
    iexact HL
  imod (hO κ) $$ [HO HS] with HP
  · isplitr; · iexact He
    isplitl [HO]; · iexact HO
    iexact HS
  imodintro
  iexists κ
  isplitr; · iexact He
  isplitl [HA]; · iexact HA
  isplitl [HN]; · iexact HN
  isplitl [HP]; · iexact HP
  isplitl [HT]; · iexact HT
  iexact HC

/-- What a device brings to the call. -/
def tk (l : List Op) (c : Dev nD) : sProp 𝕄 := iprop(fam.launched (ER (F := F)) (Rd (Xm m) (Wm m)) near c ∗ creds (F := F) c l)
/-- What it enters the call with. -/
def xk (l : List Op) (c : Dev nD) : sProp 𝕄 :=
  iprop(∃ κ, env (Xm m) (Wm m) κ ∗ atPos (ER (F := F)) (cell c .bar) 0 ∅ 0 ∗ nears (F := F) c ∗ (bigSepL dormCl fun x => pos (F := F) c x 0)
      ∗ toksL (F := F) c l ∗ creds (F := F) c l)
/-- What it leaves the call with. -/
def yk (c : Dev nD) : sProp 𝕄 := iprop(∃ κ, env (Xm m) (Wm m) κ ∗ atPos (ER (F := F)) (cell c .bar) 1 ∅ 0)
def tk' (c : Dev nD) : sProp 𝕄 := semVal (cell c .bar) 0

theorem opening (l : List Op) (hl : l = trace) (c : Dev nD) :
    iprop(tk m l c ∗ Pipeline.ownSems0 osem c ∗ levAts (SiteBlocks.L NL) SiteBlocks.lv) ⊢ iprop(|={Set.univ}=> xk m l c) := by
  rw [own_sems]
  have h1 := launched_split (Fm := fam) (S := Rd (Xm m) (Wm m)) near c
  rw [near_eq, dorm_eq, toks_eq c l hl, fam_bar] at h1
  unfold tk xk
  refine (sep_mono_left (sep_mono_left h1)).trans ?_
  refine gather (fun κ => fam.cellInvs (ER (F := F)) (Rd (Xm m) (Wm m)) κ) (fun κ => env (Xm m) (Wm m) κ) _ _ _ _ _ _ _ _ (fun κ => ?_) (fun κ => ?_)
  · unfold env; exact BI.Entails.refl _
  · exact (BI.sep_mono (env_fam (Xm m) (Wm m) κ) (bigSepL_two dormCl _ _)).trans (open_all (Xm m) (Wm m) κ c)

theorem closing (c : Dev nD) : yk m c ⊢ iprop(|={Set.univ}=> tk' (F := F) c) := by
  unfold yk tk'
  iintro ⟨%κ, #He, Hat⟩
  ihave HI := (env_inv (Xm m) (Wm m) κ c) $$ He
  iapply (Rounds.cell_close ER (Rd (Xm m) (Wm m)) (g := cell c .bar) (Set.mem_univ (κ (cell c .bar))) id (fun r hr => closed_bar (Xm m) (Wm m) c r hr))
  isplitl [HI]; · iexact HI
  iexact Hat

theorem entering (l : List Op) (c : Dev nD) (H : sProp 𝕄) (hH : H ⊢ iprop(emp)) : iprop(Pipeline.scopedRest spec0 c ∗ (∃ r, prngReg c r) ∗ H ∗ xk m l c) ⊢ phiA m l c := by
  rw [scopedRest0_eq c]
  unfold phiA xk
  iintro ⟨HS, HR, -, HX⟩
  isplitl [HX]; · iexact HX
  isplitl [HS]; · iexact HS
  iexact HR
theorem leaving (c : Dev nD) (H : sProp 𝕄) (hH : iprop(emp) ⊢ H) : phiB m c ⊢ iprop(Pipeline.scopedRest spec0 c ∗ (∃ r, prngReg c r) ∗ H ∗ Pipeline.ownSems0 osem c ∗ yk m c) := by
  rw [scopedRest0_eq c, own_sems]
  unfold phiB yk
  iintro ⟨HY, HO, HS, HR⟩
  isplitl [HS]; · iexact HS
  isplitl [HR]; · iexact HR
  isplitr; · iapply hH; iempintro
  isplitl [HO]; · iexact HO
  iexact HY

/-- Everything owed lies above the barrier's index. -/
theorem owed_level (l : List Op) (hlv : lvOk 1 l = true) (c : Dev nD) (g : GSem nD τ sig) (i : ℕ) (h : 0 < owedL c l g i) : i ∈ SiteBlocks.L NL g ∧ 0 < i := by
  obtain ⟨x, hx, rfl, rfl⟩ := TalkSites.tallyL_pos h
  rcases List.mem_cons.mp hx with rfl | hx
  · exact ⟨SiteBlocks.mem_L _ _ (by show 1 < 2000; omega), Nat.one_pos⟩
  rcases List.mem_cons.mp hx with rfl | hx
  · exact ⟨SiteBlocks.mem_L _ _ (by show 1 < 2000; omega), Nat.one_pos⟩
  obtain ⟨p, hp, rfl⟩ := List.mem_map.mp hx
  obtain ⟨o, ho, hp⟩ := List.mem_flatMap.mp hp
  have h2 : p.2.1 ∈ opLv o := by
    cases o <;> first
      | exact absurd hp List.not_mem_nil
      | (rw [List.mem_singleton.mp hp]; exact List.mem_singleton_self _)
  have h3 := List.all_eq_true.mp (List.all_eq_true.mp hlv o ho) _ h2
  rw [Bool.and_eq_true, Nat.blt_eq, Nat.blt_eq] at h3
  exact ⟨SiteBlocks.mem_L _ _ h3.2, Nat.lt_trans Nat.one_pos h3.1⟩

end Cert.KernelIdeal.Own

end
-- ==== Proof.Region.lean ====
/- The one call as a region: entered from what the host operations leave, left with the output in place. -/
module

public import proofs.«01_k».proof.Proof.Open
public import Idealize.ShloMosaic.Lib.Pipeline.RegionTalk

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- What the call leaves, as the host side names it. -/
def left (l : List Op) : Outs (F := F) := fun _ r c => if h : r = main_v17 then h ▸ res m l c else m ((c : Thread nD τ).loc r)
theorem left_out (l : List Op) (c : Dev nD) : left m l 2 main_v17 c = res m l c := by unfold left; rw [dif_pos rfl]

abbrev Va (c : Dev nD) : Valuation τ sig (Elt F) := V1 m c
abbrev Vb (l : List Op) (c : Dev nD) : Valuation τ sig (Elt F) := V2 m (left m l) c

theorem Vb_out (l : List Op) (c : Dev nD) : Vb m l c main_v17 = res m l c := by
  refine Eq.trans ?_ (left_out m l c)
  exact Function.update_self _ _ _

/-- The proof data of the program's one region. -/
abbrev dats (l : List Op) (p : Fin 1) (c : Dev nD) : Dat τ (Elt F) ℕ ℕ UU ℕ (cfgs p) c := match p with | ⟨0, _⟩ => dat m l c

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers of the host side that no window is. -/
def restRefs : Finset (DevRef τ sig) := Pipeline.ucRefs τ sig \ Pipeline.arrRefs (τ := τ) spec0
theorem out_mem : (Proc.devRef .tc main_v17 : DevRef τ sig) ∈ Pipeline.arrRefs (τ := τ) spec0 := by decide +kernel
theorem arr_sub : Pipeline.arrRefs (τ := τ) spec0 ⊆ Pipeline.ucRefs τ sig := by decide +kernel
theorem Vb_rest (l : List Op) (c : Dev nD) (b : DevRef τ sig) (h : b ∈ restRefs \ ∅) : Vb m l c b = Va m c b := by
  refine Function.update_of_ne (fun e => ?_) _ _
  rw [Finset.sdiff_empty] at h
  exact (Finset.mem_sdiff.mp h).2 (e ▸ out_mem)

theorem held_none (c : Dev nD) (V : Valuation τ sig (Elt F)) : (StableHlo.held (c : Thread nD τ) ∅ V : sProp 𝕄) = iprop(emp) := by
  unfold StableHlo.held; exact BI.bigSep_empty

theorem arr_end (l : List Op) (c : Dev nD) (w : Fin 7) : (dat m l c).arrAt w cfg0.N = Vb m l c (Proc.devRef .tc (Pipeline.arrRef spec0 w)) := by
  match w with
  | ⟨0, _⟩ => exact (arr_in m l c 0 rfl _).trans (V2_of m _ c main_arg0 (by decide)).symm
  | ⟨1, _⟩ => exact (arr_in m l c 1 rfl _).trans (V2_of m _ c main_arg1 (by decide)).symm
  | ⟨2, _⟩ => exact (arr_in m l c 2 rfl _).trans (V2_of m _ c main_arg2 (by decide)).symm
  | ⟨3, _⟩ => exact (arr_in m l c 3 rfl _).trans (V2_of m _ c main_arg3 (by decide)).symm
  | ⟨4, _⟩ => exact (arr_in m l c 4 rfl _).trans (V2_of m _ c main_v10 (by decide)).symm
  | ⟨5, _⟩ => exact (arr_in m l c 5 rfl _).trans (V2_of m _ c main_v16 (by decide)).symm
  | ⟨6, _⟩ => exact (arr_out m l c).trans (Vb_out m l c).symm

theorem owed_le (l : List Op) (hlv : lvOk 1 l = true) (c : Dev nD) (t : Fin (cfg0.N + 1)) (g : GSem nD τ sig) (i : ℕ) (h : 0 < (dat m l c).owed t g i) :
    i ∈ SiteBlocks.L NL g ∧ 0 < i := by
  have e : (dat m l c).owed t = if t.val = 0 then owedL c l else 0 := rfl
  rw [e] at h
  by_cases ht : t.val = 0
  · rw [if_pos ht] at h; exact owed_level l hlv c g i h
  · rw [if_neg ht] at h; exact absurd h (Nat.lt_irrefl 0)

set_option backward.isDefEq.respectTransparency.types false in
/-- The region. -/
def region (l : List Op) (hl : l = trace) :
    Pipeline.RegionSeg (pcfgs (F := F)) adm (dats m l) 0 defs₀ 𝒱₀ (SiteBlocks.L NL) SiteBlocks.lv 0 :=
  Pipeline.RegionSeg.ofTalk (pcfgs (F := F)) adm (dats m l) 0 defs₀ 𝒱₀ (SiteBlocks.L NL) SiteBlocks.lv 0 osem osem_facts
    ∅ restRefs (Finset.empty_subset _) kitP rfl (fun c => (body_obligation m l hl c).loose) (fun _ => 0) (fun c => owedL c l)
    (fun c => (owed_zero m l c).trans (zero_add _).symm) (owed_last m l) (fun _ => rfl) (fun c w => (dat m l c).share_full (fun _ => rfl) w)
    (Va m) (Vb m l) (Vb_rest m l) (tk m l) (tk' (F := F)) (xk m l) (yk m) (opening m l hl)
    (fun c => (entering m l c _ (Entails.of_eq (held_none c (Va m c)))).trans (Entails.of_eq (phi_zero m l c).symm))
    (fun c => (Entails.of_eq (phi_last m l c)).trans (leaving m c _ (Entails.of_eq (held_none c (Vb m l c)).symm)))
    (closing m) (fun _ => 0)
    ⟨fun c _ _ => SiteBlocks.mem_L c _ (by show 0 < 2000; omega), fun _ _ _ => Nat.le_refl 0, fun c t g i h => owed_le m l (hl ▸ lvOk_one) c t g i h⟩
    (fun _ => iprop(emp)) (fun c w => dat_A m l c w) (fun c w => arr_end m l c w)

end Cert.KernelIdeal.Own

end
-- ==== Proof.Deal.lean ====
/- The credit of the launch: what the devices owe, dealt out by the cell it is owed at. -/
module

public import proofs.«01_k».proof.Proof.Body

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Cert.KernelIdeal Cert.KernelIdeal.Gen

variable {F : FTy → Type} [FloatOps F]

local notation "𝕄" => MT nD τ sig ℕ (Elt F) ℕ UU ℕ

/-- Each payment reaches every device from exactly one. -/
theorem tokDev_bij (x : Cl) : Function.Bijective fun c => tokDev c x 0 := by
  rcases x with _ | d | ⟨d, h, k⟩ | ⟨d, h, k⟩
  · exact Function.bijective_iff_has_inverse.mpr ⟨pd, pd_sc, sc_pd⟩
  · exact Function.bijective_iff_has_inverse.mpr ⟨fwd d, fwd_bwd d, bwd_fwd d⟩
  · exact Function.bijective_id
  · exact Function.bijective_iff_has_inverse.mpr ⟨bwd d, bwd_fwd d, fwd_bwd d⟩

/-- The credit a device is given for a list of waits. -/
def credL (c : Dev nD) (l : List (Cl × ℕ × ℕ)) : List (Pay nD τ sig) := l.map fun p => (cell c p.1, p.2.1, p.2.2)

theorem sum_pays (l : List (Cl × ℕ × ℕ)) : (∑ c, tallyL (pays c l)) = ∑ c, tallyL (credL c l) := by
  induction l with
  | nil => rfl
  | cons p l ih =>
    show (∑ c, (Pay.tally (cell (tokDev c p.1 0) p.1, p.2.1, p.2.2) + tallyL (pays c l))) = ∑ c, (Pay.tally (cell c p.1, p.2.1, p.2.2) + tallyL (credL c l))
    rw [Finset.sum_add_distrib, Finset.sum_add_distrib, ih]
    congr 1
    exact (tokDev_bij p.1).sum_comp fun c => Pay.tally (cell c p.1, p.2.1, p.2.2)

theorem tallyL_perm {l l' : List (Pay nD τ sig)} (h : l.Perm l') : tallyL l = tallyL l' := by
  induction h with
  | nil => rfl
  | cons x _ ih => show Pay.tally x + _ = Pay.tally x + _; rw [ih]
  | swap x y l => show Pay.tally y + (Pay.tally x + _) = Pay.tally x + (Pay.tally y + _); rw [add_left_comm]
  | trans _ _ h1 h2 => exact h1.trans h2

/-- The payments and the waits with the units left open. -/
def symPay : Op → List (Cl × ℕ × Option Hf)
  | .send d h s => [(.rcv d h (k3 s), lvS d s.val, some h)]
  | .credS d i => [(.cred d, lvC d i, none)]
  | _ => []
@[inherit_doc symPay] def symWt : Op → List (Cl × ℕ × Option Hf)
  | .recvW d h s => [(.rcv d h (k3 s), lvS d s.val, some h)]
  | .credW d i => [(.cred d, lvC d i, none)]
  | _ => []
def units : Option Hf → ℕ | some h => cr h | none => 1
def filled (p : Cl × ℕ × Option Hf) : Cl × ℕ × ℕ := (p.1, p.2.1, units p.2.2)
theorem opPay_sym (o : Op) : opPay o = (symPay o).map filled := by cases o <;> rfl
theorem opWt_sym (o : Op) : opWt o = (symWt o).map filled := by cases o <;> rfl
theorem sym_perm : (trace.flatMap symPay).Perm (trace.flatMap symWt) := by decide +kernel

/-- Everything paid is waited for. -/
theorem trace_perm : (trace.flatMap opPay).Perm (trace.flatMap opWt) := by
  have e1 : trace.flatMap opPay = (trace.flatMap symPay).map filled := by
    rw [List.map_flatMap]; exact congrArg (fun f => List.flatMap f trace) (funext opPay_sym)
  have e2 : trace.flatMap opWt = (trace.flatMap symWt).map filled := by
    rw [List.map_flatMap]; exact congrArg (fun f => List.flatMap f trace) (funext opWt_sym)
  rw [e1, e2]
  exact sym_perm.map filled

theorem sum_owed (l : List Op) (hp : (l.flatMap opPay).Perm (l.flatMap opWt)) : (∑ c, owedL c l) = ∑ c, tallyL (credL c (waitL l)) := by
  have h1 (c : Dev nD) : owedL c l = tallyAt (cell (pd c) .bar) 1 1 + (tallyAt (cell (sc c) .bar) 1 1 + tallyL (pays c (l.flatMap opPay))) := rfl
  have h2 (c : Dev nD) : tallyL (credL c (waitL l)) = tallyAt (cell c .bar) 1 2 + tallyL (credL c (l.flatMap opWt)) := rfl
  have h3 (c : Dev nD) : (tallyAt (cell c .bar) 1 2 : CellTallies nD τ sig ℕ) = tallyAt (cell c .bar) 1 1 + tallyAt (cell c .bar) 1 1 := (tallyAt_add _ _ 1 1).symm
  have e1 : (∑ c, (tallyAt (cell (pd c) .bar) 1 1 : CellTallies nD τ sig ℕ)) = ∑ c, tallyAt (cell c .bar) 1 1 :=
    (Function.bijective_iff_has_inverse.mpr ⟨sc, sc_pd, pd_sc⟩ : Function.Bijective pd).sum_comp fun c => (tallyAt (cell c .bar) 1 1 : CellTallies nD τ sig ℕ)
  have e2 : (∑ c, (tallyAt (cell (sc c) .bar) 1 1 : CellTallies nD τ sig ℕ)) = ∑ c, tallyAt (cell c .bar) 1 1 :=
    (Function.bijective_iff_has_inverse.mpr ⟨pd, pd_sc, sc_pd⟩ : Function.Bijective sc).sum_comp fun c => (tallyAt (cell c .bar) 1 1 : CellTallies nD τ sig ℕ)
  rw [Finset.sum_congr rfl fun c _ => h1 c, Finset.sum_congr rfl fun c _ => h2 c, Finset.sum_congr rfl fun c _ => congrArg (· + tallyL (credL c (l.flatMap opWt))) (h3 c)]
  simp only [Finset.sum_add_distrib]
  rw [e1, e2, sum_pays, ← add_assoc]
  congr 1
  exact Finset.sum_congr rfl fun c _ => tallyL_perm (hp.map _)

theorem credL_cell (c : Dev nD) (l : List (Cl × ℕ × ℕ)) (g : GSem nD τ sig) (h : tallyL (credL c l) g ≠ 0) : g.1 = (c.tc : Thread nD τ) := by
  obtain ⟨i, hi⟩ := Finsupp.ne_iff.mp h
  obtain ⟨x, hx, rfl, -⟩ := TalkSites.tallyL_pos (Nat.pos_of_ne_zero hi)
  obtain ⟨p, -, rfl⟩ := List.mem_map.mp hx
  rfl

/-- What a device is given to wait with. -/
theorem launch_creds (l : List Op) (hp : (l.flatMap opPay).Perm (l.flatMap opWt)) (c : Dev nD) :
    (Pipeline.launchCred (fun c => owedL c l) c : sProp 𝕄) = creds c l := by
  rw [Pipeline.launchCred_of_sum (fun c => owedL c l) (fun c => tallyL (credL c (waitL l))) (sum_owed l hp) (fun d g h => credL_cell d _ g h) c,
    TalkSites.cred_tallyL]
  unfold creds credL
  rw [bigSepL_map]

end Cert.KernelIdeal.Own

end
-- ==== Proof.Launch.lean ====
/- The run: from any memory with zero counters the program ends, its arguments as they were, its output in place, every counter at zero. -/
module

public import proofs.«01_k».proof.Proof.Region
public import proofs.«01_k».proof.Proof.Deal
public import proofs.«01_k».proof.Proof.Gen.KernelIdeal.Regions

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.TalkSites (Pay tallyL)
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

abbrev EP : Emb (URounds (GSem nD τ sig) Unit) (MT nD τ sig ℕ (Elt F) ℕ UU ℕ) := embL

/-- What rides beside the buffers from the launch to the call, and after it. -/
def ride (l : List Op) (i : Fin 2) (c : Dev nD) : sProp 𝕄 :=
  if i = 0 then iprop(tk m l c ∗ (∃ r, prngReg c r) ∗ owes (c : Thread nD τ) (owedL c l) ∅) else iprop(emp)
theorem ride_0 (l : List Op) (c : Dev nD) : ride m l 0 c = iprop(tk m l c ∗ (∃ r, prngReg c r) ∗ owes (c : Thread nD τ) (owedL c l) ∅) := if_pos rfl

set_option backward.isDefEq.respectTransparency.types false in
theorem pre_ok (l : List Op) (hl : l = trace) (c : Dev nD) :
    iprop(StableHlo.held (c : Thread nD τ) (Pipeline.ucRefs τ sig) (V1 m c) ∗ ride m l 0 c) ⊢ (region m l hl).pre c := by
  rw [ride_0]
  show _ ⊢ iprop(StableHlo.held (c : Thread nD τ) (Pipeline.arrRefs (τ := τ) spec0) (Va m c) ∗ (∃ r, prngReg c r)
    ∗ (StableHlo.held (c : Thread nD τ) restRefs (Va m c) ∗ emp) ∗ tk m l c ∗ ∃ Wd, owes (c : Thread nD τ) (0 + owedL c l) Wd)
  rw [zero_add, StableHlo.held_sub_split (c : Thread nD τ) arr_sub (Va m c)]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexists ∅; iexact HO

/-- What a device ends with. -/
def ends (l : List Op) (c : Dev nD) : sProp 𝕄 := iprop(StableHlo.held (c : Thread nD τ) (Pipeline.ucRefs τ sig) (Vb m l c) ∗ semVal (cell c .bar) 0)

set_option backward.isDefEq.respectTransparency.types false in
theorem post_ok (l : List Op) (hl : l = trace) (c : Dev nD) :
    (region m l hl).post c ⊢ iprop(ends m l c ∗ ∃ W, owes (c : Thread nD τ) (0 : CellTallies nD τ sig ℕ) W) := by
  show iprop(StableHlo.held (c : Thread nD τ) (Pipeline.arrRefs (τ := τ) spec0) (Vb m l c) ∗ (∃ r, prngReg c r)
    ∗ (StableHlo.held (c : Thread nD τ) restRefs (Vb m l c) ∗ emp) ∗ tk' (F := F) c ∗ ∃ Wd, owes (c : Thread nD τ) (0 : CellTallies nD τ sig ℕ) Wd) ⊢ _
  unfold ends tk'
  rw [StableHlo.held_sub_split (c : Thread nD τ) arr_sub (Vb m l c)]
  iintro ⟨Ha, -, ⟨Hr, -⟩, HT, HO⟩
  isplitr [HO]
  · isplitr [HT]
    · isplitl [Ha]; · iexact Ha
      iexact Hr
    iexact HT
  iexact HO

/-- A resource handed out by device, put together over all of them. -/
theorem fund_all {A B C G D T : Dev nD → sProp 𝕄} {U LV : sProp 𝕄} (h1 : ∀ c, A c ⊢ iprop(B c ∗ (C c ∗ G c))) (hG : bigSep Finset.univ G ⊢ U)
    (hF : iprop((bigSep Finset.univ C) ∗ U) ⊢ iprop(|={Set.univ}=> bigSep Finset.univ D)) (h2 : ∀ c, iprop(B c ∗ D c) ⊢ T c) :
    iprop((bigSep Finset.univ A) ∗ LV) ⊢ iprop(|={Set.univ}=> bigSep Finset.univ T) := by
  have e1 : bigSep Finset.univ A ⊢ bigSep Finset.univ fun c => iprop(B c ∗ (C c ∗ G c)) := bigSep_mono fun c _ => h1 c
  have e2 : (bigSep Finset.univ fun c => iprop(B c ∗ D c)) ⊢ bigSep Finset.univ T := bigSep_mono fun c _ => h2 c
  iintro ⟨HA, -⟩
  ihave H := e1 $$ HA
  ihave H := (Entails.of_eq (bigSep_sep' _ _ _)) $$ H; icases H with ⟨HB, H⟩
  ihave H := (Entails.of_eq (bigSep_sep' _ _ _)) $$ H; icases H with ⟨HC, HG⟩
  ihave HU := hG $$ HG
  imod hF $$ [HC HU] with HD
  · isplitl [HC]; · iexact HC
    iexact HU
  imodintro
  iapply e2
  iapply (Entails.of_eq (bigSep_sep' _ _ _).symm)
  isplitl [HB]; · iexact HB
  iexact HD

/-- One resource, at one device. -/
def atDev (c₀ : Dev nD) (X : sProp 𝕄) (c : Dev nD) : sProp 𝕄 := if c = c₀ then X else iprop(emp)
theorem bigSep_atDev (c₀ : Dev nD) (X : sProp 𝕄) : bigSep Finset.univ (atDev c₀ X) = X := by
  rw [bigSep_univ_at _ c₀, bigSep_congr (s := Finset.univ.erase c₀) (Ψ := fun _ => (BI.emp : sProp 𝕄)) fun c hc => by
    unfold atDev; rw [if_neg (Finset.ne_of_mem_erase hc)]; rfl, BI.bigSep_emp_const]
  unfold atDev; rw [if_pos rfl]; exact BI.equiv_iff.mp sep_emp

def talkU : URounds (GSem nD τ sig) Dty := Rounds.launchOf fam.S fam.Sd fam.T
def u₀ : UU := (Rounds.initOf (Pipeline.cells (Pipeline.pin (pcfgs (F := F)) adm) cellOf_inj) (Pipeline.launchToks (Pipeline.pin (pcfgs (F := F)) adm) cellOf_inj), talkU)
def Gd (c : Dev nD) : sProp 𝕄 := atDev 0 (BI.own (ER (F := F) talkU)) c

theorem Gd_own : bigSep Finset.univ (Gd (F := F)) = BI.own (ER (F := F) talkU) := bigSep_atDev 0 _

theorem funding : iprop((bigSep Finset.univ fun c => iprop(semVal (cell c .bar) 0 ∗ Pipeline.launchCred (fun _ => 0) c)) ∗ BI.own (ER (F := F) talkU))
    ⊢ iprop(|={Set.univ}=> bigSep Finset.univ (fam.launched (ER (F := F)) (Rd (Xm m) (Wm m)) near)) := by
  have h := TalkSites.Fam.funds (F := fam) (ER (F := F)) (Rd (Xm m) (Wm m)) (fun _ _ h => h) near (Es := Set.univ)
  rw [fam_bar] at h
  exact h

theorem barrier_only (c : Dev nD) : (unscopedSems0 c : sProp 𝕄) = semVal (cell c .bar) 0 := by
  unfold unscopedSems0
  rw [show (Finset.univ.filter fun sm : SemLoc sig => ¬ sm.isScoped .tc) = {SemLoc.reg barSem} from by decide +kernel, BI.bigSep_singleton]
  rfl

/-- Everything a device needs before its first host operation. -/
theorem start (l : List Op) (hl : l = trace) :
    iprop((bigSep Finset.univ fun c : Dev nD => iprop(unscopedBufs c (fun b => m ((c.tc : Thread nD τ).loc b)) ∗ unscopedSems0 c
        ∗ owes (c.tc : Thread nD τ) (owedL c l) ∅ ∗ Pipeline.launchCred (fun c => owedL c l) c ∗ prngReg c (ρ c) ∗ Gd (F := F) c)) ∗ levAts (SiteBlocks.L NL) SiteBlocks.lv)
      ⊢ iprop(|={Set.univ}=> bigSep Finset.univ fun c : Dev nD => iprop(StableHlo.held (c : Thread nD τ) (Pipeline.ucRefs τ sig) (V0 m c) ∗ ride m l 0 c)) := by
  refine fund_all (G := Gd (F := F)) (B := fun c => iprop(StableHlo.held (c : Thread nD τ) (Pipeline.ucRefs τ sig) (V0 m c) ∗ creds (F := F) c l ∗ (∃ r, prngReg c r) ∗ owes (c : Thread nD τ) (owedL c l) ∅))
    (fun c => ?_) (Entails.of_eq Gd_own) (funding m) (fun c => ?_)
  · rw [show unscopedBufs c (fun b => m ((c : Thread nD τ).loc b)) = StableHlo.held (c : Thread nD τ) (Pipeline.ucRefs τ sig) (V0 m c) from Pipeline.unscopedBufs_held c (V0 m c),
      barrier_only, launch_creds l (hl ▸ trace_perm) c, Pipeline.launchCred_zero]
    iintro ⟨Hh, Hs, HO, Hc, Hp, HG⟩
    isplitl [Hh Hc Hp HO]
    · isplitl [Hh]; · iexact Hh
      isplitl [Hc]; · iexact Hc
      isplitl [Hp]; · iexists _; iexact Hp
      iexact HO
    isplitr [HG]
    · isplitl [Hs]; · iexact Hs
      iempintro
    iexact HG
  · rw [ride_0]
    unfold tk
    iintro ⟨⟨Hh, Hc, Hp, HO⟩, HL⟩
    isplitl [Hh]; · iexact Hh
    isplitl [HL Hc]
    · isplitl [HL]; · iexact HL
      iexact Hc
    isplitl [Hp]; · iexact Hp
    iexact HO

theorem unscoped_eq : ∀ sm : SemLoc sig, sm.isScoped .tc = false → sm = .reg barSem := by decide +kernel

/-- What the final memory holds on a device. -/
def endMem (l : List Op) (c : Dev nD) (s : MemSt nD τ sig (Elt F)) : Prop :=
  (∀ b ∈ Pipeline.ucRefs τ sig, s.mem (c, b) = Vb m l c b) ∧ s.sem (cell c .bar) = 0

theorem at_end (l : List Op) (c : Dev nD) (s' : Phys nD τ sig (Elt F)) : iprop(ends m l c ∗ SI s') ⊢ iprop(|={Set.univ}=> (⌜endMem m l c s'.mem⌝ ∗ SI s')) := by
  unfold ends StableHlo.held
  iintro ⟨⟨Hh, Hb⟩, HSI⟩
  ihave Hr := (pointsTo_read_all (Pipeline.ucRefs τ sig) (fun b => ((c : Thread nD τ).1, b)) (Vb m l c) s') $$ [Hh HSI]
  · isplitl [Hh] <;> iassumption
  icases Hr with ⟨%h, HSI⟩
  icombine HSI Hb gives %hb
  imodintro
  isplitr
  · ipureintro
    exact ⟨h, by simpa using hb⟩
  iexact HSI

theorem mem_uc (r : Ref sig .tc) (h : r.isScoped = false) : (Proc.devRef .tc r : DevRef τ sig) ∈ Pipeline.ucRefs τ sig :=
  Finset.mem_filter.mpr ⟨StableHlo.devRef_mem_tcRefs r, by simp [h]⟩

set_option backward.isDefEq.respectTransparency.types false in
/-- The run, over the region's record. -/
theorem run_of (l : List Op) (hl : l = trace) :
    θ_run defs (onTc (τ := τ) (main (F := F))) ⟨m, fun _ => 0, ρ⟩ (fun r => (∀ c : Dev nD, endMem m l c r.2) ∧ r.2.sem = fun _ => 0) := by
  refine Pipeline.θ_run_regions_kit_dev_sems (pcfgs (F := F)) adm (dats m l) 0 cellOf_inj EP defs₀ 𝒱₀ (SiteBlocks.L NL) SiteBlocks.lv m ρ main
    (segs m 𝒱₀ (SiteBlocks.L NL) SiteBlocks.lv (ride m l) 0 (dats m l) (region m l hl))
    (fun c Q => by
      rewrite [main_chain c, Pipeline.Seg.run_eq_chain,
        show (segs m 𝒱₀ (SiteBlocks.L NL) SiteBlocks.lv (ride m l) 0 (dats m l) (region m l hl) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun c => owedL c l) (SiteBlocks.hL NL) (Gd (F := F)) (u₀ (F := F)) ?_
    (T₀ := fun c => iprop(StableHlo.held (c : Thread nD τ) (Pipeline.ucRefs τ sig) (V0 m c) ∗ ride m l 0 c))
    (Tₙ := ends m l)
    (hch := fun c => ⟨.rfl, pre_ok m l hl c, post_ok m l hl c⟩)
    (hinit := start m ρ l hl) (QY := endMem m l) (hfin := at_end m l)
    (hQ := fun s h hs => ⟨h, sem_eq_zero hs fun c sm hsm => by
      obtain rfl := unscoped_eq sm hsm
      exact (h c).2⟩)
  unfold u₀
  iintro Hu
  ihave H := (ownU_pair _ _) $$ Hu
  icases H with ⟨HP, HX⟩
  imodintro
  isplitl [HP]; · iexact HP
  iapply (Entails.of_eq (Gd_own (F := F)).symm)
  iexact HX

/-- The run, read off the final memory. -/
theorem run_main (l : List Op) (hl : l = trace) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v17) = res m l c) ∧ r.2.sem = fun _ => 0) := by
  refine (θ_run defs _ _).mono (fun r h => ⟨fun c => ?_, h.2⟩) (run_of m ρ l hl)
  have h1 := (h.1 c).1
  exact ⟨⟨(h1 _ (mem_uc main_arg0 rfl)).trans (V2_main_arg0 m _ c), (h1 _ (mem_uc main_arg1 rfl)).trans (V2_main_arg1 m _ c),
    (h1 _ (mem_uc main_arg2 rfl)).trans (V2_main_arg2 m _ c), (h1 _ (mem_uc main_arg3 rfl)).trans (V2_main_arg3 m _ c)⟩,
    (h1 _ (mem_uc main_v17 rfl)).trans (Vb_out m l c)⟩

/-- The frame. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h.1 c).1, h.2⟩) (run_main m ρ trace rfl)

end Cert.KernelIdeal.Own

end
-- ==== Proof.Frames.lean ====
/- The frames: the run for any float values, read at the machine's words and at the extended reals. -/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

noncomputable section

namespace Cert.Proof

open Idealize.ShloMosaic Idealize.SL.Sem

/-! The two printings of the kernel are the same program: the body, the table of bodies, and what the host runs. -/

set_option maxRecDepth 100000 in
set_option maxHeartbeats 4000000 in
theorem body_same : Cert.Kernel.cc0_body (F := Bits) = Cert.KernelIdeal.cc0_body (F := Bits) := rfl

set_option maxRecDepth 100000 in
set_option maxHeartbeats 4000000 in
theorem main_same : Cert.Kernel.main (F := Bits) = Cert.KernelIdeal.main (F := Bits) := rfl

set_option maxRecDepth 100000 in
set_option maxHeartbeats 4000000 in
theorem table_same : Cert.Kernel.defs₀ (F := Bits) = Cert.KernelIdeal.defs₀ (F := Bits) := by
  refine congrArg (Defs.onTc (nD := Cert.Kernel.nD) (τ := Cert.Kernel.τ) (sig := Cert.Kernel.sig) (Val := Elt Bits) (Λ := Cert.Kernel.Λ₀)) ?_
  funext ℓ a
  match ℓ, a with
  | ⟨0, _⟩, (t, s) => exact congrArg (fun f => f (Cert.Kernel.win0_0.stage (s 0)) (Cert.Kernel.Facts₀.hstage0_0 0) (Cert.Kernel.win0_1.stage (s 1)) (Cert.Kernel.Facts₀.hstage0_1 0)
      (Cert.Kernel.win0_2.stage (s 2)) (Cert.Kernel.Facts₀.hstage0_2 0) (Cert.Kernel.win0_3.stage (s 3)) (Cert.Kernel.Facts₀.hstage0_3 0)
      (Cert.Kernel.win0_4.stage (s 4)) (Cert.Kernel.Facts₀.hstage0_4 0) (Cert.Kernel.win0_5.stage (s 5)) (Cert.Kernel.Facts₀.hstage0_5 0)
      (Cert.Kernel.win0_6.stage (s 6)) (Cert.Kernel.Facts₀.hstage0_6 0) (Memref.whole Cert.Kernel.cc0_scratch0) (Memref.isWhole_whole _)
      (Memref.whole Cert.Kernel.cc0_scratch1) (Memref.isWhole_whole _) Cert.Kernel.cc0_scratch2 Cert.Kernel.cc0_scratch3 Cert.Kernel.cc0_scratch4
      Cert.Kernel.cc0_scratch5 Cert.Kernel.cc0_scratch6 Cert.Kernel.cc0_scratch7 Cert.Kernel.cc0_scratch8 Cert.Kernel.cc0_scratch9 Cert.Kernel.cc0_scratch10
      Cert.Kernel.cc0_scratch11 Cert.Kernel.cc0_scratch12 Cert.Kernel.cc0_scratch13 Cert.Kernel.cc0_scratch14 Cert.Kernel.cc0_scratch15) body_same
  | ⟨n + 1, h⟩, _ => exact absurd h (Nat.not_lt.2 (Nat.le_add_left _ _))

set_option maxRecDepth 100000 in
theorem defs_same : Cert.Kernel.defs (F := Bits) = Cert.KernelIdeal.defs (F := Bits) :=
  congrArg (Pipeline.defs (Cert.KernelIdeal.pcfgs (F := Bits))) table_same

/-- The frame of a program that is the proved one. -/
theorem frame_of (D) (P) (hD : Cert.KernelIdeal.defs (F := Bits) = D) (hP : Cert.KernelIdeal.main (F := Bits) = P)
    (m : (ℓ : Loc Cert.KernelIdeal.nD Cert.KernelIdeal.τ Cert.KernelIdeal.sig) → Buf (Elt Bits) ℓ) (ρ : Dev Cert.KernelIdeal.nD → PrngReg) :
    θ_run D (onTc (τ := Cert.KernelIdeal.τ) P) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
  subst hD hP
  exact Cert.KernelIdeal.Own.frame_main (F := Bits) m ρ

theorem frame_kernel : Cert.quiescent_Kernel (hKernel := Cert.Kernel.Gen.facts) := fun m ρ _ =>
  frame_of (Cert.Kernel.defs (F := Bits)) (Cert.Kernel.main (F := Bits)) defs_same.symm main_same.symm m ρ

theorem frame_ideal : Cert.quiescent_KernelIdeal (hKernelIdeal := Cert.KernelIdeal.Gen.facts) := fun m ρ _ =>
  Cert.KernelIdeal.Own.frame_main (F := Ideal) m ρ

theorem frame_reference : Cert.quiescent_ReferenceIdeal (hReferenceIdeal := Cert.ReferenceIdeal.Gen.facts) := fun m ρ _ =>
  Cert.ReferenceIdeal.Gen.frame m ρ

end Cert.Proof

end
-- ==== Proof.Sums.lean ====
/- What one element of the product is: a sum of 4096 terms, in the order the ring brings them and in the plain order. -/
module

public import proofs.«01_k».proof.Proof.OutVal
public import Idealize.ShloMosaic.Lib.MatmulPlain
public import Idealize.ShloMosaic.Lib.Layout
public import Mathlib.Algebra.BigOperators.Intervals
public import Mathlib.Algebra.BigOperators.Fin
public import Mathlib.Tactic.Abel

@[expose] public section

noncomputable section

namespace Cert.KernelIdeal.Own

open Idealize.ShloMosaic Idealize.ShloMosaic.TcCoe
open Idealize.SL.Sem
open Cert.KernelIdeal Cert.KernelIdeal.Gen
open scoped BigOperators

/-! ## Sums in any commutative monoid -/

section
variable {M : Type} [AddCommMonoid M]

/-- A run of slots. -/
def part (g : ℕ → M) (a n : ℕ) : M := ∑ s ∈ Finset.Ico (a * 128) ((a + n) * 128), g s

theorem part_add (g : ℕ → M) (a n k : ℕ) : part g a n + part g (a + n) k = part g a (n + k) := by
  unfold part
  rw [show a + (n + k) = a + n + k by omega]
  exact Finset.sum_Ico_consecutive g (Nat.mul_le_mul_right _ (by omega)) (Nat.mul_le_mul_right _ (by omega))

/-- The nine runs a tile adds up are all the slots. -/
theorem nine_parts (g : ℕ → M) :
    part g 0 1 + part g 28 4 + part g 1 4 + part g 24 4 + part g 5 4 + part g 20 4 + part g 9 4 + part g 13 3 + part g 16 4 = part g 0 32 := by
  have e : part g 0 32 = part g 0 1 + part g 1 4 + part g 5 4 + part g 9 4 + part g 13 3 + part g 16 4 + part g 20 4 + part g 24 4 + part g 28 4 := by
    rw [part_add g 0 1 4, part_add g 0 5 4, part_add g 0 9 4, part_add g 0 13 3, part_add g 0 16 4, part_add g 0 20 4, part_add g 0 24 4, part_add g 0 28 4]
  rw [e]; abel

theorem part_fin (g : ℕ → M) (a n : ℕ) : part g a n = ∑ k : Fin (n * 128), g (a * 128 + k.val) := by
  unfold part
  rw [Finset.sum_Ico_eq_sum_range, show (a + n) * 128 - a * 128 = n * 128 by rw [Nat.add_mul]; omega, Finset.sum_range]

/-- All the slots, one by one. -/
theorem all_slots (g : ℕ → M) : part g 0 32 = ∑ j : Fin 32, ∑ k : Fin 128, g (j.val * 128 + k.val) := by
  rw [part_fin, ← Fintype.sum_prod_type' (fun (j : Fin 32) (k : Fin 128) => g (j.val * 128 + k.val))]
  refine (Equiv.sum_comp (finProdFinEquiv (m := 32) (n := 128)) _).symm.trans (Finset.sum_congr rfl fun x _ => congrArg g ?_)
  show 0 * 128 + (x.2.val + 128 * x.1.val) = x.1.val * 128 + x.2.val
  omega

/-- The shards in the order they stand around the ring are all the shards. -/
theorem ring_sum (c : Dev nD) (h : Fin 32 → M) : ∑ j : Fin 32, h (own c j) = ∑ d : Fin 32, h d :=
  Function.Bijective.sum_comp (Finite.injective_iff_bijective.mp (fun i j e => own_inj c i j e)) h
end

/-! ## One tile at the extended reals -/

variable (X : Dev nD → (S4096x128.Idx → Elt Ideal .fp8e4m3)) (Wt : Dev nD → (S128x2048.Idx → Elt Ideal .fp8e5m2))

/-- One term of the product on device `c`: row `r`, column `n`, place `s`. -/
def term (c : Dev nD) (r : Fin 4096) (n : Fin 2048) (s : ℕ) : EReal :=
  if h : s < 4096 then XG X c (ix2 (n0 := 4096) (n1 := 4096) r ⟨s, h⟩) * WG Wt c (ix2 (n0 := 4096) (n1 := 2048) ⟨s, h⟩ n) else 0

/-- A row of a tile, as a row of the whole. -/
def tileRow (m : Fin 8) (r : Fin 512) : Fin 4096 := ⟨m.val * 512 + r.val, by have := m.isLt; have := r.isLt; omega⟩

theorem dims_one : dot_S512x128_S128x2048_S512x2048_1_0_0_1_n_n = DotDims.plain 512 128 2048 := rfl
theorem dims_three : dot_S512x384_S384x2048_S512x2048_1_0_0_1_n_n = DotDims.plain 512 384 2048 := rfl
theorem dims_four : dot_S512x512_S512x2048_S512x2048_1_0_0_1_n_n = DotDims.plain 512 512 2048 := rfl

/-- A product of `K` places of the gathered buffers, from place `a` on. -/
theorem dot_at (c : Dev nD) (m : Fin 8) (r : Fin 512) (n : Fin 2048) (a K : ℕ) (hK : a + K ≤ 4096)
    (x : (⟨2, ![512, K]⟩ : Shape).Idx → EReal) (w : (⟨2, ![K, 2048]⟩ : Shape).Idx → EReal)
    (hx : ∀ k : Fin K, x (ix2 r k) = XG X c (ix2 (n0 := 4096) (n1 := 4096) (tileRow m r) ⟨a + k.val, by have := k.isLt; omega⟩))
    (hw : ∀ k : Fin K, w (ix2 k n) = WG Wt c (ix2 (n0 := 4096) (n1 := 2048) ⟨a + k.val, by have := k.isLt; omega⟩ n)) :
    ∑ k : Fin K, x (ix2 r k) * w (ix2 k n) = ∑ k : Fin K, term X Wt c (tileRow m r) n (a + k.val) := by
  refine Finset.sum_congr rfl fun k _ => ?_
  have hk : a + k.val < 4096 := by have := k.isLt; omega
  rw [hx, hw, term, dif_pos hk]

theorem acc_zero (i : S512x2048.Idx) : (constant S512x2048 .f32 0x00000000#32 : FVec Ideal S512x2048 .f32) i = 0 := Ideal.ofBits_zero_f32

theorem tprod_at (c : Dev nD) (nc : Nc) (c0 : Fin 29) (m : Fin 8) (r : Fin 512) (n : Fin 2048) (hc : c0.val + nc.n ≤ 32) :
    tprod X Wt c nc c0 m (ix2 r n) = part (term X Wt c (tileRow m r) n) c0.val nc.n := by
  rw [part_fin]
  have hx : ∀ (K : ℕ) (h) (k : Fin K) (hb), XG X c ((Rect.unit (s := S4096x4096) ![m.val * 512, c0.val * 128] (⟨2, ![512, K]⟩ : Shape).size h).emb (ix2 r k))
      = XG X c (ix2 (n0 := 4096) (n1 := 4096) (tileRow m r) ⟨c0.val * 128 + k.val, hb⟩) := by
    intro K h k hb
    refine congrArg (XG X c) (funext fun (a : Fin 2) => ?_)
    fin_cases a <;> apply Fin.ext
    · show m.val * 512 + 1 * r.val = m.val * 512 + r.val; omega
    · show c0.val * 128 + 1 * k.val = c0.val * 128 + k.val; omega
  have hw : ∀ (K : ℕ) (h) (k : Fin K) (hb), WG Wt c ((Rect.unit (s := S4096x2048) ![c0.val * 128, 0] (⟨2, ![K, 2048]⟩ : Shape).size h).emb (ix2 k n))
      = WG Wt c (ix2 (n0 := 4096) (n1 := 2048) ⟨c0.val * 128 + k.val, hb⟩ n) := by
    intro K h k hb
    refine congrArg (WG Wt c) (funext fun (a : Fin 2) => ?_)
    fin_cases a <;> apply Fin.ext
    · show c0.val * 128 + 1 * k.val = c0.val * 128 + k.val; omega
    · show 0 + 1 * n.val = n.val; omega
  cases nc
  · refine (Ideal.matmul_plain_apply none _ _ _ r n).trans ?_
    rw [acc_zero, zero_add]
    exact dot_at X Wt c m r n (c0.val * 128) 128 (by have : c0.val + 1 ≤ 32 := hc; omega) _ _ (fun k => hx 128 (inb_tx .one m c0) k _) (fun k => hw 128 (inb_tw .one c0) k _)
  · refine (Ideal.matmul_plain_apply none _ _ _ r n).trans ?_
    rw [acc_zero, zero_add]
    exact dot_at X Wt c m r n (c0.val * 128) 384 (by have : c0.val + 3 ≤ 32 := hc; omega) _ _ (fun k => hx 384 (inb_tx .three m c0) k _) (fun k => hw 384 (inb_tw .three c0) k _)
  · refine (Ideal.matmul_plain_apply none _ _ _ r n).trans ?_
    rw [acc_zero, zero_add]
    exact dot_at X Wt c m r n (c0.val * 128) 512 (by have : c0.val + 4 ≤ 32 := hc; omega) _ _ (fun k => hx 512 (inb_tx .four m c0) k _) (fun k => hw 512 (inb_tw .four c0) k _)

theorem outEl_at (v4 : EReal) (c : Dev nD) (m : Fin 8) (r : Fin 512) (n : Fin 2048) :
    outEl X Wt v4 c m (ix2 r n) = part (term X Wt c (tileRow m r) n) 0 32 * v4 := by
  rw [← nine_parts]
  simp only [outEl]
  rw [tprod_at X Wt c .one 0 m r n (by decide), tprod_at X Wt c .four 28 m r n (by decide), tprod_at X Wt c .four 1 m r n (by decide),
    tprod_at X Wt c .four 24 m r n (by decide), tprod_at X Wt c .four 5 m r n (by decide), tprod_at X Wt c .four 20 m r n (by decide),
    tprod_at X Wt c .four 9 m r n (by decide), tprod_at X Wt c .three 13 m r n (by decide), tprod_at X Wt c .four 16 m r n (by decide)]
  rfl

end Cert.KernelIdeal.Own

end
-- ==== Proof.RefVal.lean ====
/- What the reference leaves in its result: one function of its arguments, and that function at a place. -/
module

public import proofs.«01_k».proof.Proof.Gen.ReferenceIdeal.Value
public import Idealize.ShloMosaic.Lib.MatmulPlain
public import Idealize.ShloMosaic.Lib.Pipeline.ValueKit.Geometry

@[expose] public section

noncomputable section

namespace Cert.ReferenceIdeal.Own

open Idealize.ShloMosaic Idealize.ShloMosaic.TcCoe Idealize.SL.Sem
open Idealize.ShloMosaic.ValueIdx
open Cert.ReferenceIdeal Cert.ReferenceIdeal.Gen
open scoped BigOperators

section
variable {F : FTy → Type} [FloatOps F]

/-- The one place of a scale. -/
abbrev one : S1.Idx := Shape.Idx.first (numel1_S1.symm ▸ Nat.one_pos)

/-- The result of the arguments. -/
def whole (x : Vec F S4096x4096 .fp8e4m3) (w : Vec F S4096x2048 .fp8e5m2) (sx sw : Vec F S1 .f32) : Vec F S4096x2048 .f32 :=
  k0_pay1 x w (sx one) (sw one)

theorem zero2 : (![0, 0] : Fin 2 → Nat) = fun _ => 0 := funext fun a => by fin_cases a <;> rfl
theorem unit_one (i : S1.Idx) (j : S1.Idx) : i = j := funext fun (a : Fin 1) => by
  obtain rfl : a = 0 := Subsingleton.elim _ _
  have h1 : (i 0).val < 1 := (i 0).isLt
  have h2 : (j 0).val < 1 := (j 0).isLt
  exact Fin.ext (by omega)

theorem left_is (c : Dev nD) (arg0 : Memref sig .tc .vmem S4096x4096 .fp8e4m3) (h0 : arg0.IsWhole) (arg1 : Memref sig .tc .vmem S4096x2048 .fp8e5m2) (h1 : arg1.IsWhole)
    (arg2 : Memref sig .tc .smem S1 .f32) (h2 : arg2.IsWhole) (arg3 : Memref sig .tc .smem S1 .f32) (h3 : arg3.IsWhole) (arg4 : Memref sig .tc .vmem S4096x2048 .f32) (h4 : arg4.IsWhole)
    (x : Vec F S4096x4096 .fp8e4m3) (w : Vec F S4096x2048 .fp8e5m2) (sx sw : Vec F S1 .f32) :
    out0_A_4 c arg0 h0 arg1 h1 arg2 h2 arg3 h3 arg4 h4 x w sx sw = whole x w sx sw := by
  unfold out0_A_4
  rw [View.read_writes_junk_eq_canon]
  show View.canon ([⟨Rect.unit ![0, 0] S4096x2048.size inb_S4096x2048_S4096x2048_0_0,
      k0_pay1
        (View.readAt (Elt F) arg0.view (Rect.unit ![0, 0] S4096x4096.size inb_S4096x4096_S4096x4096_0_0).toLoadRect (h0.unread x))
        (View.readAt (Elt F) arg1.view (Rect.unit ![0, 0] S4096x2048.size inb_S4096x2048_S4096x2048_0_0).toLoadRect (h1.unread w))
        (View.readAt (Elt F) arg2.view (Rect.unit (s := S1) ![0] S1.size inb_S1_S1_0).toLoadRect (h2.unread sx) _)
        (View.readAt (Elt F) arg3.view (Rect.unit (s := S1) ![0] S1.size inb_S1_S1_0).toLoadRect (h3.unread sw) _)⟩] :
      List (View.Piece (Elt F) S4096x2048 .f32)) = _
  rw [View.canon_unit_zero zero2, View.readAt_eq_ld, View.readAt_eq_ld, View.readAt_eq_ld, View.readAt_eq_ld,
    h0.read_unread, h1.read_unread, h2.read_unread, h3.read_unread, View.ld_unit_zero zero2, View.ld_unit_zero zero2]
  exact congrArg₂ (k0_pay1 x w) (congrArg sx (unit_one _ _)) (congrArg sw (unit_one _ _))

variable (m : (ℓ : Loc nD τ sig) → Buf (Elt F) ℓ) (ρ : Dev nD → PrngReg)

/-- A window that is the whole array reads the array. -/
theorem all_read (w : Pipeline.Window sig grid0) (t : Fin grid0.N) (h : ∀ a, w.index t a = 0)
    (f : w.arr.view.ty.Contents (Elt F)) (y : (w.xblock (grid0.coords t)).Idx) (j : w.shape.Idx) (hj : ∀ a, (j a).val = (y a).val) :
    (w.blk t).view.read (Elt F) f y = w.arr.view.read (Elt F) f j := by
  have hy : (w.rect t).emb y = j := funext fun a => Fin.ext (by rw [Pipeline.Window.rect_emb_val_of_index_zero _ _ _ (h a), hj])
  show _ = _
  rw [← hy]
  rfl

theorem blk_0 (c : Dev nD) (t : Fin cfg0.N) : iblk m c 0 t = m ((c : Thread nD τ).loc main_arg0) :=
  funext fun y => all_read win0_0 t (fun _ => rfl) (m ((c : Thread nD τ).loc main_arg0)) y y (fun _ => rfl)
theorem blk_1 (c : Dev nD) (t : Fin cfg0.N) : iblk m c 1 t = m ((c : Thread nD τ).loc main_arg1) :=
  funext fun y => all_read win0_1 t (fun _ => rfl) (m ((c : Thread nD τ).loc main_arg1)) y y (fun _ => rfl)
theorem blk_2 (c : Dev nD) (t : Fin cfg0.N) : iblk m c 2 t = m ((c : Thread nD τ).loc main_arg2) :=
  funext fun y => all_read win0_2 t (fun _ => rfl) (m ((c : Thread nD τ).loc main_arg2)) y y (fun _ => rfl)
theorem blk_3 (c : Dev nD) (t : Fin cfg0.N) : iblk m c 3 t = m ((c : Thread nD τ).loc main_arg3) :=
  funext fun y => all_read win0_3 t (fun _ => rfl) (m ((c : Thread nD τ).loc main_arg3)) y y (fun _ => rfl)

theorem result_is (c : Dev nD) : (dats m 0 c).arrAt 4 cfg0.N
    = whole (m ((c : Thread nD τ).loc main_arg0)) (m ((c : Thread nD τ).loc main_arg1)) (m ((c : Thread nD τ).loc main_arg2)) (m ((c : Thread nD τ).loc main_arg3)) := by
  refine Pipeline.Dat.arrAt_eq_of_after_last (dats m 0 c) 4 t0_0 (by decide +kernel) _ fun j => ?_
  rw [after0_4, outsAt0, left_is, blk_0, blk_1, blk_2, blk_3]
  rfl

/-- The run of the reference, its result named. -/
theorem run : θ_run defs (onTc (τ := τ) (main (F := F))) ⟨m, fun _ => 0, ρ⟩ fun r => ∀ c : Dev nD,
      r.2.mem ((c : Thread nD τ).loc main_v0)
        = whole (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result_is m c), (h c).2⟩) (Value.run_blocks m ρ)
end

/-- The result at a place, over the extended reals: the sum of the 4096 products, times the scales. -/
theorem whole_at (x : Vec Ideal S4096x4096 .fp8e4m3) (w : Vec Ideal S4096x2048 .fp8e5m2) (sx sw : Vec Ideal S1 .f32) (r : Fin 4096) (n : Fin 2048) :
    whole x w sx sw (ix2 r n) = (∑ k : Fin 4096, (x (ix2 r k) : EReal) * w (ix2 k n)) * ((sx one : EReal) * sw one) := by
  have e : (FloatOps.matmul (φ₁ := .f32) (φ₂ := .f32) (DotDims.plain 4096 4096 2048) none (x : FVec Ideal S4096x4096 .f32) (w : FVec Ideal S4096x2048 .f32)
      (constant S4096x2048 .f32 0x00000000#32) : FVec Ideal S4096x2048 .f32) (ix2 r n) = ∑ k : Fin 4096, (x (ix2 r k) : EReal) * w (ix2 k n) := by
    refine (Ideal.matmul_plain_apply none _ _ _ r n).trans ?_
    rw [show (constant S4096x2048 .f32 0x00000000#32 : FVec Ideal S4096x2048 .f32) (ix2 r n) = 0 from Ideal.ofBits_zero_f32, zero_add]
  exact congrArg (fun a : EReal => a * ((sx one : EReal) * sw one)) e

end Cert.ReferenceIdeal.Own

end
-- ==== Proof.Value.lean ====
/- The equation: over the extended reals every device's output is the reference's. -/
module

public import proofs.«01_k».proof.Proof.Sums
public import proofs.«01_k».proof.Proof.RefVal
public import proofs.«01_k».proof.Proof.Launch

@[expose] public section

noncomputable section

namespace Cert.KernelIdeal.Own

open Idealize.ShloMosaic Idealize.ShloMosaic.TcCoe Idealize.SL.Sem
open Cert.KernelIdeal Cert.KernelIdeal.Gen
open scoped BigOperators

-- the whole arrays of which the devices hold blocks
variable (x : S4096x4096.Idx → EReal) (w : S4096x2048.Idx → EReal)
variable (X : Dev nD → (S4096x128.Idx → Elt Ideal .fp8e4m3)) (Wt : Dev nD → (S128x2048.Idx → Elt Ideal .fp8e5m2))

/-- One term of the plain product. -/
def plainTerm (r : Fin 4096) (n : Fin 2048) (s : ℕ) : EReal :=
  if h : s < 4096 then x (ix2 (n0 := 4096) (n1 := 4096) r ⟨s, h⟩) * w (ix2 (n0 := 4096) (n1 := 2048) ⟨s, h⟩ n) else 0

theorem slot_lt (j : Fin 32) (k : Fin 128) : j.val * 128 + k.val < 4096 := by have := j.isLt; have := k.isLt; omega

/-- The terms of a slot are the plain product's terms of the block that lies in it. -/
theorem slot_terms (hX : ∀ c, X c = Layout.block ⟨2, ![4096, 128]⟩ ⟨2, ![4096, 4096]⟩ 1 32 c x)
    (hW : ∀ c, Wt c = Layout.block ⟨2, ![128, 2048]⟩ ⟨2, ![4096, 2048]⟩ 0 32 c w)
    (c : Dev nD) (r : Fin 4096) (n : Fin 2048) (j : Fin 32) (k : Fin 128) :
    term X Wt c r n (j.val * 128 + k.val) = plainTerm x w r n ((own c j).val * 128 + k.val) := by
  rw [term, plainTerm, dif_pos (slot_lt j k), dif_pos (slot_lt (own c j) k), XG_at X c j r k, WG_at Wt c j k n, hX, hW]
  refine congrArg₂ (fun a b : EReal => a * b) (congrArg x ?_) (congrArg w ?_)
  · refine funext fun (a : Fin 2) => ?_
    fin_cases a <;> apply Fin.ext <;> rfl
  · refine funext fun (a : Fin 2) => ?_
    fin_cases a <;> apply Fin.ext <;> rfl

theorem same_sum (hX : ∀ c, X c = Layout.block ⟨2, ![4096, 128]⟩ ⟨2, ![4096, 4096]⟩ 1 32 c x)
    (hW : ∀ c, Wt c = Layout.block ⟨2, ![128, 2048]⟩ ⟨2, ![4096, 2048]⟩ 0 32 c w) (c : Dev nD) (r : Fin 4096) (n : Fin 2048) :
    part (term X Wt c r n) 0 32 = ∑ k : Fin 4096, x (ix2 (n0 := 4096) (n1 := 4096) r k) * w (ix2 (n0 := 4096) (n1 := 2048) k n) := by
  have e : ∑ k : Fin 4096, x (ix2 (n0 := 4096) (n1 := 4096) r k) * w (ix2 (n0 := 4096) (n1 := 2048) k n) = part (plainTerm x w r n) 0 32 := by
    rw [part_fin]
    refine Finset.sum_congr rfl fun k _ => ?_
    show _ = plainTerm x w r n (0 * 128 + k.val)
    rw [Nat.zero_mul, Nat.zero_add, plainTerm, dif_pos k.isLt]
  rw [e, all_slots, all_slots, ← ring_sum c fun d => ∑ k : Fin 128, plainTerm x w r n (d.val * 128 + k.val)]
  exact Finset.sum_congr rfl fun j _ => Finset.sum_congr rfl fun k _ => slot_terms x w X Wt hX hW c r n j k

theorem out_whole (hX : ∀ c, X c = Layout.block ⟨2, ![4096, 128]⟩ ⟨2, ![4096, 4096]⟩ 1 32 c x)
    (hW : ∀ c, Wt c = Layout.block ⟨2, ![128, 2048]⟩ ⟨2, ![4096, 2048]⟩ 0 32 c w) (sx sw : S1.Idx → EReal) (c : Dev nD)
    (l : List Op) (hl : l = trace) (f : S4096x2048.Idx → EReal) :
    outAll X Wt (sx i1 * sw i1 : EReal) c f l = Cert.ReferenceIdeal.Own.whole (F := Ideal) x w sx sw := by
  funext i
  obtain ⟨m, j, rfl⟩ := rowIx_surj i
  obtain ⟨r, n, rfl⟩ : ∃ (r : Fin 512) (n : Fin 2048), j = ix2 r n := ⟨j 0, j 1, (ix2_eta j).symm⟩
  rw [outAll_el X Wt _ c l hl f m, outEl_at X Wt _ c m r n, same_sum x w X Wt hX hW c,
    show rowIx m (ix2 r n) = ix2 (n0 := 4096) (n1 := 2048) (tileRow m r) n from rowIx_eq m (ix2 r n)]
  exact (Cert.ReferenceIdeal.Own.whole_at x w sx sw (tileRow m r) n).symm

/-- What the run leaves on a device is the reference's result. -/
theorem res_whole (m : (ℓ : Loc nD τ sig) → Buf (Elt Ideal) ℓ) (l : List Op) (hl : l = trace)
    (hX : ∀ c, Xm m c = Layout.block ⟨2, ![4096, 128]⟩ ⟨2, ![4096, 4096]⟩ 1 32 c x)
    (hW : ∀ c, Wm m c = Layout.block ⟨2, ![128, 2048]⟩ ⟨2, ![4096, 2048]⟩ 0 32 c w) (sx sw : S1.Idx → EReal) (c : Dev nD)
    (hsx : sxm m c = sx) (hsw : swm m c = sw) : res m l c = Cert.ReferenceIdeal.Own.whole (F := Ideal) x w sx sw := by
  rw [res, hsx, hsw]
  exact out_whole x w (Xm m) (Wm m) hX hW sx sw c l hl _

end Cert.KernelIdeal.Own

end
-- ==== Proof.Equal.lean ====
/- The value claim, from the two runs and the equation. -/
module

public import proofs.«01_k».proof.Defs
public import proofs.«01_k».proof.Proof.Value
public import proofs.«01_k».proof.Proof.Gen.KernelIdeal
public import proofs.«01_k».proof.Proof.Gen.ReferenceIdeal

@[expose] public section

noncomputable section

namespace Cert.Proof

open Idealize.ShloMosaic Idealize.ShloMosaic.TcCoe Idealize.SL.Sem
open Cert.KernelIdeal.Own

theorem algebraic : Cert.algebraic_KernelIdeal_ReferenceIdeal (hKernelIdeal := Cert.KernelIdeal.Gen.facts) (hReferenceIdeal := Cert.ReferenceIdeal.Gen.facts) := by
  intro m g m' g' _ h
  let at' (b : Ref Cert.ReferenceIdeal.sig .tc) := m' (((0 : Dev Cert.ReferenceIdeal.nD).tc : Thread Cert.ReferenceIdeal.nD Cert.ReferenceIdeal.τ).loc b)
  refine ⟨Cert.ReferenceIdeal.Own.whole (F := Ideal) (at' Cert.ReferenceIdeal.main_arg0) (at' Cert.ReferenceIdeal.main_arg1)
    (at' Cert.ReferenceIdeal.main_arg2) (at' Cert.ReferenceIdeal.main_arg3), ?_, ?_⟩
  · refine (θ_run Cert.KernelIdeal.defs _ _).mono (fun r hr c => ?_) (run_main (F := Ideal) m g trace rfl)
    obtain ⟨⟨h0, h1, h2, h3⟩, hv⟩ := hr.1 c
    exact ⟨hv.trans (res_whole _ _ m trace rfl (fun c => (h c).1) (fun c => (h c).2.1) _ _ c (h c).2.2.1 (h c).2.2.2), h0, h1, h2, h3⟩
  · exact (θ_run Cert.ReferenceIdeal.defs _ _).mono (fun r hr => hr 0) (Cert.ReferenceIdeal.Own.run (F := Ideal) m' g')

end Cert.Proof

end
-- ==== Proof.lean ====
/- The claim: the three frames, the kernel's reading over the extended reals, and the value. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Frames
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, frame_kernel, frame_ideal, frame_reference, trivial, algebraic⟩

end Cert.Proof

end
